-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_hidden [hPre_finite_hidden : Cert.Pre_finite_hidden.Facts] (m : (ℓ : Loc Cert.FfnIdeal.nD Cert.FfnIdeal.τ Cert.FfnIdeal.sig) → Buf (Elt Ideal) ℓ) : Prop :=
  ∀ c : Dev Cert.FfnIdeal.nD,
    (Cert.Pre_finite_hidden.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite_hidden.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_hidden [hPre_finite_hidden : Cert.Pre_finite_hidden.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_hidden.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_finite_hidden.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2 = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite_hidden [hPre_finite_hidden : Cert.Pre_finite_hidden.Facts] (m : (ℓ : Loc Cert.LastIdeal.nD Cert.LastIdeal.τ Cert.LastIdeal.sig) → Buf (Elt Ideal) ℓ) : Prop :=
  ∀ c : Dev Cert.LastIdeal.nD,
    (Cert.Pre_finite_hidden.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4))).1 = (fun _ => 1#1)
    ∧ (Cert.Pre_finite_hidden.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4))).2 = (fun _ => 1#1)

def Pre_LastReferenceIdeal (m : (ℓ : Loc Cert.LastReferenceIdeal.nD Cert.LastReferenceIdeal.τ Cert.LastReferenceIdeal.sig) → Buf (Elt Ideal) ℓ) : Prop :=
  True

def Pre_LastReferenceIdeal_finite_hidden [hPre_finite_hidden : Cert.Pre_finite_hidden.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_finite_hidden.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4))).1 = (fun _ => 1#1)
    ∧ (Cert.Pre_finite_hidden.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_gates [hPre_finite_gates : Cert.Pre_finite_gates.Facts] (m : (ℓ : Loc Cert.MergeIdeal.nD Cert.MergeIdeal.τ Cert.MergeIdeal.sig) → Buf (Elt Ideal) ℓ) : Prop :=
  ∀ c : Dev Cert.MergeIdeal.nD,
    (Cert.Pre_finite_gates.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18))).1 = (fun _ => 1#1)
    ∧ (Cert.Pre_finite_gates.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18))).2 = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_finite_gates [hPre_finite_gates : Cert.Pre_finite_gates.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_finite_gates.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18))).1 = (fun _ => 1#1)
    ∧ (Cert.Pre_finite_gates.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18))).2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14)) (m ((c.tc : Thread Cert.TailIdeal.nD Cert.TailIdeal.τ).loc Cert.TailIdeal.main_arg15)) (m ((c.tc : Thread Cert.TailIdeal.nD Cert.TailIdeal.τ).loc Cert.TailIdeal.main_arg16)) (m ((c.tc : Thread Cert.TailIdeal.nD Cert.TailIdeal.τ).loc Cert.TailIdeal.main_arg17)) (m ((c.tc : Thread Cert.TailIdeal.nD Cert.TailIdeal.τ).loc Cert.TailIdeal.main_arg18)) (m ((c.tc : Thread Cert.TailIdeal.nD Cert.TailIdeal.τ).loc Cert.TailIdeal.main_arg19)) (m ((c.tc : Thread Cert.TailIdeal.nD Cert.TailIdeal.τ).loc Cert.TailIdeal.main_arg20)) (m ((c.tc : Thread Cert.TailIdeal.nD Cert.TailIdeal.τ).loc Cert.TailIdeal.main_arg21)) (m ((c.tc : Thread Cert.TailIdeal.nD Cert.TailIdeal.τ).loc Cert.TailIdeal.main_arg22))).1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14)) (m ((c.tc : Thread Cert.TailIdeal.nD Cert.TailIdeal.τ).loc Cert.TailIdeal.main_arg15)) (m ((c.tc : Thread Cert.TailIdeal.nD Cert.TailIdeal.τ).loc Cert.TailIdeal.main_arg16)) (m ((c.tc : Thread Cert.TailIdeal.nD Cert.TailIdeal.τ).loc Cert.TailIdeal.main_arg17)) (m ((c.tc : Thread Cert.TailIdeal.nD Cert.TailIdeal.τ).loc Cert.TailIdeal.main_arg18)) (m ((c.tc : Thread Cert.TailIdeal.nD Cert.TailIdeal.τ).loc Cert.TailIdeal.main_arg19)) (m ((c.tc : Thread Cert.TailIdeal.nD Cert.TailIdeal.τ).loc Cert.TailIdeal.main_arg20)) (m ((c.tc : Thread Cert.TailIdeal.nD Cert.TailIdeal.τ).loc Cert.TailIdeal.main_arg21)) (m ((c.tc : Thread Cert.TailIdeal.nD Cert.TailIdeal.τ).loc Cert.TailIdeal.main_arg22))).2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14)) (m ((c.tc : Thread Cert.TailIdeal.nD Cert.TailIdeal.τ).loc Cert.TailIdeal.main_arg15)) (m ((c.tc : Thread Cert.TailIdeal.nD Cert.TailIdeal.τ).loc Cert.TailIdeal.main_arg16)) (m ((c.tc : Thread Cert.TailIdeal.nD Cert.TailIdeal.τ).loc Cert.TailIdeal.main_arg17)) (m ((c.tc : Thread Cert.TailIdeal.nD Cert.TailIdeal.τ).loc Cert.TailIdeal.main_arg18)) (m ((c.tc : Thread Cert.TailIdeal.nD Cert.TailIdeal.τ).loc Cert.TailIdeal.main_arg19)) (m ((c.tc : Thread Cert.TailIdeal.nD Cert.TailIdeal.τ).loc Cert.TailIdeal.main_arg20)) (m ((c.tc : Thread Cert.TailIdeal.nD Cert.TailIdeal.τ).loc Cert.TailIdeal.main_arg21)) (m ((c.tc : Thread Cert.TailIdeal.nD Cert.TailIdeal.τ).loc Cert.TailIdeal.main_arg22))).2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14)) (m ((c.tc : Thread Cert.TailIdeal.nD Cert.TailIdeal.τ).loc Cert.TailIdeal.main_arg15)) (m ((c.tc : Thread Cert.TailIdeal.nD Cert.TailIdeal.τ).loc Cert.TailIdeal.main_arg16)) (m ((c.tc : Thread Cert.TailIdeal.nD Cert.TailIdeal.τ).loc Cert.TailIdeal.main_arg17)) (m ((c.tc : Thread Cert.TailIdeal.nD Cert.TailIdeal.τ).loc Cert.TailIdeal.main_arg18)) (m ((c.tc : Thread Cert.TailIdeal.nD Cert.TailIdeal.τ).loc Cert.TailIdeal.main_arg19)) (m ((c.tc : Thread Cert.TailIdeal.nD Cert.TailIdeal.τ).loc Cert.TailIdeal.main_arg20)) (m ((c.tc : Thread Cert.TailIdeal.nD Cert.TailIdeal.τ).loc Cert.TailIdeal.main_arg21)) (m ((c.tc : Thread Cert.TailIdeal.nD Cert.TailIdeal.τ).loc Cert.TailIdeal.main_arg22))).2.2.2 = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_finite_tail [hPre_finite_tail : Cert.Pre_finite_tail.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10)) (m ((c.tc : Thread Cert.TailReferenceIdeal.nD Cert.TailReferenceIdeal.τ).loc Cert.TailReferenceIdeal.main_arg11)) (m ((c.tc : Thread Cert.TailReferenceIdeal.nD Cert.TailReferenceIdeal.τ).loc Cert.TailReferenceIdeal.main_arg12)) (m ((c.tc : Thread Cert.TailReferenceIdeal.nD Cert.TailReferenceIdeal.τ).loc Cert.TailReferenceIdeal.main_arg13)) (m ((c.tc : Thread Cert.TailReferenceIdeal.nD Cert.TailReferenceIdeal.τ).loc Cert.TailReferenceIdeal.main_arg14)) (m ((c.tc : Thread Cert.TailReferenceIdeal.nD Cert.TailReferenceIdeal.τ).loc Cert.TailReferenceIdeal.main_arg15)) (m ((c.tc : Thread Cert.TailReferenceIdeal.nD Cert.TailReferenceIdeal.τ).loc Cert.TailReferenceIdeal.main_arg16)) (m ((c.tc : Thread Cert.TailReferenceIdeal.nD Cert.TailReferenceIdeal.τ).loc Cert.TailReferenceIdeal.main_arg17)) (m ((c.tc : Thread Cert.TailReferenceIdeal.nD Cert.TailReferenceIdeal.τ).loc Cert.TailReferenceIdeal.main_arg18)) (m ((c.tc : Thread Cert.TailReferenceIdeal.nD Cert.TailReferenceIdeal.τ).loc Cert.TailReferenceIdeal.main_arg19)) (m ((c.tc : Thread Cert.TailReferenceIdeal.nD Cert.TailReferenceIdeal.τ).loc Cert.TailReferenceIdeal.main_arg20)) (m ((c.tc : Thread Cert.TailReferenceIdeal.nD Cert.TailReferenceIdeal.τ).loc Cert.TailReferenceIdeal.main_arg21)) (m ((c.tc : Thread Cert.TailReferenceIdeal.nD Cert.TailReferenceIdeal.τ).loc Cert.TailReferenceIdeal.main_arg22))).1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10)) (m ((c.tc : Thread Cert.TailReferenceIdeal.nD Cert.TailReferenceIdeal.τ).loc Cert.TailReferenceIdeal.main_arg11)) (m ((c.tc : Thread Cert.TailReferenceIdeal.nD Cert.TailReferenceIdeal.τ).loc Cert.TailReferenceIdeal.main_arg12)) (m ((c.tc : Thread Cert.TailReferenceIdeal.nD Cert.TailReferenceIdeal.τ).loc Cert.TailReferenceIdeal.main_arg13)) (m ((c.tc : Thread Cert.TailReferenceIdeal.nD Cert.TailReferenceIdeal.τ).loc Cert.TailReferenceIdeal.main_arg14)) (m ((c.tc : Thread Cert.TailReferenceIdeal.nD Cert.TailReferenceIdeal.τ).loc Cert.TailReferenceIdeal.main_arg15)) (m ((c.tc : Thread Cert.TailReferenceIdeal.nD Cert.TailReferenceIdeal.τ).loc Cert.TailReferenceIdeal.main_arg16)) (m ((c.tc : Thread Cert.TailReferenceIdeal.nD Cert.TailReferenceIdeal.τ).loc Cert.TailReferenceIdeal.main_arg17)) (m ((c.tc : Thread Cert.TailReferenceIdeal.nD Cert.TailReferenceIdeal.τ).loc Cert.TailReferenceIdeal.main_arg18)) (m ((c.tc : Thread Cert.TailReferenceIdeal.nD Cert.TailReferenceIdeal.τ).loc Cert.TailReferenceIdeal.main_arg19)) (m ((c.tc : Thread Cert.TailReferenceIdeal.nD Cert.TailReferenceIdeal.τ).loc Cert.TailReferenceIdeal.main_arg20)) (m ((c.tc : Thread Cert.TailReferenceIdeal.nD Cert.TailReferenceIdeal.τ).loc Cert.TailReferenceIdeal.main_arg21)) (m ((c.tc : Thread Cert.TailReferenceIdeal.nD Cert.TailReferenceIdeal.τ).loc Cert.TailReferenceIdeal.main_arg22))).2.1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10)) (m ((c.tc : Thread Cert.TailReferenceIdeal.nD Cert.TailReferenceIdeal.τ).loc Cert.TailReferenceIdeal.main_arg11)) (m ((c.tc : Thread Cert.TailReferenceIdeal.nD Cert.TailReferenceIdeal.τ).loc Cert.TailReferenceIdeal.main_arg12)) (m ((c.tc : Thread Cert.TailReferenceIdeal.nD Cert.TailReferenceIdeal.τ).loc Cert.TailReferenceIdeal.main_arg13)) (m ((c.tc : Thread Cert.TailReferenceIdeal.nD Cert.TailReferenceIdeal.τ).loc Cert.TailReferenceIdeal.main_arg14)) (m ((c.tc : Thread Cert.TailReferenceIdeal.nD Cert.TailReferenceIdeal.τ).loc Cert.TailReferenceIdeal.main_arg15)) (m ((c.tc : Thread Cert.TailReferenceIdeal.nD Cert.TailReferenceIdeal.τ).loc Cert.TailReferenceIdeal.main_arg16)) (m ((c.tc : Thread Cert.TailReferenceIdeal.nD Cert.TailReferenceIdeal.τ).loc Cert.TailReferenceIdeal.main_arg17)) (m ((c.tc : Thread Cert.TailReferenceIdeal.nD Cert.TailReferenceIdeal.τ).loc Cert.TailReferenceIdeal.main_arg18)) (m ((c.tc : Thread Cert.TailReferenceIdeal.nD Cert.TailReferenceIdeal.τ).loc Cert.TailReferenceIdeal.main_arg19)) (m ((c.tc : Thread Cert.TailReferenceIdeal.nD Cert.TailReferenceIdeal.τ).loc Cert.TailReferenceIdeal.main_arg20)) (m ((c.tc : Thread Cert.TailReferenceIdeal.nD Cert.TailReferenceIdeal.τ).loc Cert.TailReferenceIdeal.main_arg21)) (m ((c.tc : Thread Cert.TailReferenceIdeal.nD Cert.TailReferenceIdeal.τ).loc Cert.TailReferenceIdeal.main_arg22))).2.2.1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10)) (m ((c.tc : Thread Cert.TailReferenceIdeal.nD Cert.TailReferenceIdeal.τ).loc Cert.TailReferenceIdeal.main_arg11)) (m ((c.tc : Thread Cert.TailReferenceIdeal.nD Cert.TailReferenceIdeal.τ).loc Cert.TailReferenceIdeal.main_arg12)) (m ((c.tc : Thread Cert.TailReferenceIdeal.nD Cert.TailReferenceIdeal.τ).loc Cert.TailReferenceIdeal.main_arg13)) (m ((c.tc : Thread Cert.TailReferenceIdeal.nD Cert.TailReferenceIdeal.τ).loc Cert.TailReferenceIdeal.main_arg14)) (m ((c.tc : Thread Cert.TailReferenceIdeal.nD Cert.TailReferenceIdeal.τ).loc Cert.TailReferenceIdeal.main_arg15)) (m ((c.tc : Thread Cert.TailReferenceIdeal.nD Cert.TailReferenceIdeal.τ).loc Cert.TailReferenceIdeal.main_arg16)) (m ((c.tc : Thread Cert.TailReferenceIdeal.nD Cert.TailReferenceIdeal.τ).loc Cert.TailReferenceIdeal.main_arg17)) (m ((c.tc : Thread Cert.TailReferenceIdeal.nD Cert.TailReferenceIdeal.τ).loc Cert.TailReferenceIdeal.main_arg18)) (m ((c.tc : Thread Cert.TailReferenceIdeal.nD Cert.TailReferenceIdeal.τ).loc Cert.TailReferenceIdeal.main_arg19)) (m ((c.tc : Thread Cert.TailReferenceIdeal.nD Cert.TailReferenceIdeal.τ).loc Cert.TailReferenceIdeal.main_arg20)) (m ((c.tc : Thread Cert.TailReferenceIdeal.nD Cert.TailReferenceIdeal.τ).loc Cert.TailReferenceIdeal.main_arg21)) (m ((c.tc : Thread Cert.TailReferenceIdeal.nD Cert.TailReferenceIdeal.τ).loc Cert.TailReferenceIdeal.main_arg22))).2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_hidden [hFfnIdeal : Cert.FfnIdeal.Facts] [hPre_finite_hidden : Cert.Pre_finite_hidden.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_hidden m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_hidden [hFfnReferenceIdeal : Cert.FfnReferenceIdeal.Facts] [hPre_finite_hidden : Cert.Pre_finite_hidden.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_hidden m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastIdeal_pre_finite_hidden [hLastIdeal : Cert.LastIdeal.Facts] [hPre_finite_hidden : Cert.Pre_finite_hidden.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite_hidden m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_LastReferenceIdeal_pre_finite_hidden [hLastReferenceIdeal : Cert.LastReferenceIdeal.Facts] [hPre_finite_hidden : Cert.Pre_finite_hidden.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal_finite_hidden m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_MergeIdeal_pre_finite_gates [hMergeIdeal : Cert.MergeIdeal.Facts] [hPre_finite_gates : Cert.Pre_finite_gates.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_gates m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18))
      ∧ r.2.sem = fun _ => 0)

def quiescent_MergeReferenceIdeal_pre_finite_gates [hMergeReferenceIdeal : Cert.MergeReferenceIdeal.Facts] [hPre_finite_gates : Cert.Pre_finite_gates.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_finite_gates m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17)
      ∧ r.2.mem ((c.tc : Thread Cert.Tail.nD Cert.Tail.τ).loc Cert.Tail.main_arg18) = m ((c.tc : Thread Cert.Tail.nD Cert.Tail.τ).loc Cert.Tail.main_arg18)
      ∧ r.2.mem ((c.tc : Thread Cert.Tail.nD Cert.Tail.τ).loc Cert.Tail.main_arg19) = m ((c.tc : Thread Cert.Tail.nD Cert.Tail.τ).loc Cert.Tail.main_arg19)
      ∧ r.2.mem ((c.tc : Thread Cert.Tail.nD Cert.Tail.τ).loc Cert.Tail.main_arg20) = m ((c.tc : Thread Cert.Tail.nD Cert.Tail.τ).loc Cert.Tail.main_arg20)
      ∧ r.2.mem ((c.tc : Thread Cert.Tail.nD Cert.Tail.τ).loc Cert.Tail.main_arg21) = m ((c.tc : Thread Cert.Tail.nD Cert.Tail.τ).loc Cert.Tail.main_arg21)
      ∧ r.2.mem ((c.tc : Thread Cert.Tail.nD Cert.Tail.τ).loc Cert.Tail.main_arg22) = m ((c.tc : Thread Cert.Tail.nD Cert.Tail.τ).loc Cert.Tail.main_arg22))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
      ∧ r.2.mem ((c.tc : Thread Cert.TailIdeal.nD Cert.TailIdeal.τ).loc Cert.TailIdeal.main_arg19) = m ((c.tc : Thread Cert.TailIdeal.nD Cert.TailIdeal.τ).loc Cert.TailIdeal.main_arg19)
      ∧ r.2.mem ((c.tc : Thread Cert.TailIdeal.nD Cert.TailIdeal.τ).loc Cert.TailIdeal.main_arg20) = m ((c.tc : Thread Cert.TailIdeal.nD Cert.TailIdeal.τ).loc Cert.TailIdeal.main_arg20)
      ∧ r.2.mem ((c.tc : Thread Cert.TailIdeal.nD Cert.TailIdeal.τ).loc Cert.TailIdeal.main_arg21) = m ((c.tc : Thread Cert.TailIdeal.nD Cert.TailIdeal.τ).loc Cert.TailIdeal.main_arg21)
      ∧ r.2.mem ((c.tc : Thread Cert.TailIdeal.nD Cert.TailIdeal.τ).loc Cert.TailIdeal.main_arg22) = m ((c.tc : Thread Cert.TailIdeal.nD Cert.TailIdeal.τ).loc Cert.TailIdeal.main_arg22))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
      ∧ r.2.mem ((c.tc : Thread Cert.TailIdeal.nD Cert.TailIdeal.τ).loc Cert.TailIdeal.main_arg19) = m ((c.tc : Thread Cert.TailIdeal.nD Cert.TailIdeal.τ).loc Cert.TailIdeal.main_arg19)
      ∧ r.2.mem ((c.tc : Thread Cert.TailIdeal.nD Cert.TailIdeal.τ).loc Cert.TailIdeal.main_arg20) = m ((c.tc : Thread Cert.TailIdeal.nD Cert.TailIdeal.τ).loc Cert.TailIdeal.main_arg20)
      ∧ r.2.mem ((c.tc : Thread Cert.TailIdeal.nD Cert.TailIdeal.τ).loc Cert.TailIdeal.main_arg21) = m ((c.tc : Thread Cert.TailIdeal.nD Cert.TailIdeal.τ).loc Cert.TailIdeal.main_arg21)
      ∧ r.2.mem ((c.tc : Thread Cert.TailIdeal.nD Cert.TailIdeal.τ).loc Cert.TailIdeal.main_arg22) = m ((c.tc : Thread Cert.TailIdeal.nD Cert.TailIdeal.τ).loc Cert.TailIdeal.main_arg22))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17)
      ∧ r.2.mem ((c.tc : Thread Cert.TailReferenceIdeal.nD Cert.TailReferenceIdeal.τ).loc Cert.TailReferenceIdeal.main_arg18) = m ((c.tc : Thread Cert.TailReferenceIdeal.nD Cert.TailReferenceIdeal.τ).loc Cert.TailReferenceIdeal.main_arg18)
      ∧ r.2.mem ((c.tc : Thread Cert.TailReferenceIdeal.nD Cert.TailReferenceIdeal.τ).loc Cert.TailReferenceIdeal.main_arg19) = m ((c.tc : Thread Cert.TailReferenceIdeal.nD Cert.TailReferenceIdeal.τ).loc Cert.TailReferenceIdeal.main_arg19)
      ∧ r.2.mem ((c.tc : Thread Cert.TailReferenceIdeal.nD Cert.TailReferenceIdeal.τ).loc Cert.TailReferenceIdeal.main_arg20) = m ((c.tc : Thread Cert.TailReferenceIdeal.nD Cert.TailReferenceIdeal.τ).loc Cert.TailReferenceIdeal.main_arg20)
      ∧ r.2.mem ((c.tc : Thread Cert.TailReferenceIdeal.nD Cert.TailReferenceIdeal.τ).loc Cert.TailReferenceIdeal.main_arg21) = m ((c.tc : Thread Cert.TailReferenceIdeal.nD Cert.TailReferenceIdeal.τ).loc Cert.TailReferenceIdeal.main_arg21)
      ∧ r.2.mem ((c.tc : Thread Cert.TailReferenceIdeal.nD Cert.TailReferenceIdeal.τ).loc Cert.TailReferenceIdeal.main_arg22) = m ((c.tc : Thread Cert.TailReferenceIdeal.nD Cert.TailReferenceIdeal.τ).loc Cert.TailReferenceIdeal.main_arg22))
      ∧ r.2.sem = fun _ => 0)

def quiescent_TailReferenceIdeal_pre_finite_tail [hTailReferenceIdeal : Cert.TailReferenceIdeal.Facts] [hPre_finite_tail : Cert.Pre_finite_tail.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_finite_tail m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17)
      ∧ r.2.mem ((c.tc : Thread Cert.TailReferenceIdeal.nD Cert.TailReferenceIdeal.τ).loc Cert.TailReferenceIdeal.main_arg18) = m ((c.tc : Thread Cert.TailReferenceIdeal.nD Cert.TailReferenceIdeal.τ).loc Cert.TailReferenceIdeal.main_arg18)
      ∧ r.2.mem ((c.tc : Thread Cert.TailReferenceIdeal.nD Cert.TailReferenceIdeal.τ).loc Cert.TailReferenceIdeal.main_arg19) = m ((c.tc : Thread Cert.TailReferenceIdeal.nD Cert.TailReferenceIdeal.τ).loc Cert.TailReferenceIdeal.main_arg19)
      ∧ r.2.mem ((c.tc : Thread Cert.TailReferenceIdeal.nD Cert.TailReferenceIdeal.τ).loc Cert.TailReferenceIdeal.main_arg20) = m ((c.tc : Thread Cert.TailReferenceIdeal.nD Cert.TailReferenceIdeal.τ).loc Cert.TailReferenceIdeal.main_arg20)
      ∧ r.2.mem ((c.tc : Thread Cert.TailReferenceIdeal.nD Cert.TailReferenceIdeal.τ).loc Cert.TailReferenceIdeal.main_arg21) = m ((c.tc : Thread Cert.TailReferenceIdeal.nD Cert.TailReferenceIdeal.τ).loc Cert.TailReferenceIdeal.main_arg21)
      ∧ r.2.mem ((c.tc : Thread Cert.TailReferenceIdeal.nD Cert.TailReferenceIdeal.τ).loc Cert.TailReferenceIdeal.main_arg22) = m ((c.tc : Thread Cert.TailReferenceIdeal.nD Cert.TailReferenceIdeal.τ).loc Cert.TailReferenceIdeal.main_arg22))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal_pre_finite_hidden [hFfnIdeal : Cert.FfnIdeal.Facts] [hFfnReferenceIdeal : Cert.FfnReferenceIdeal.Facts] [hPre_finite_hidden : Cert.Pre_finite_hidden.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_hidden m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Last_LastIdeal : Prop :=
  True

def algebraic_LastIdeal_LastReferenceIdeal_pre_finite_hidden [hLastIdeal : Cert.LastIdeal.Facts] [hLastReferenceIdeal : Cert.LastReferenceIdeal.Facts] [hPre_finite_hidden : Cert.Pre_finite_hidden.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal_finite_hidden m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v5)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v5) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v35) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_Merge_MergeIdeal : Prop :=
  True

def algebraic_MergeIdeal_MergeReferenceIdeal_pre_finite_gates [hMergeIdeal : Cert.MergeIdeal.Facts] [hMergeReferenceIdeal : Cert.MergeReferenceIdeal.Facts] [hPre_finite_gates : Cert.Pre_finite_gates.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_finite_gates m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)
      ∧ m' ((c.tc : Thread Cert.MergeReferenceIdeal.nD Cert.MergeReferenceIdeal.τ).loc Cert.MergeReferenceIdeal.main_arg16) = m ((c.tc : Thread Cert.MergeIdeal.nD Cert.MergeIdeal.τ).loc Cert.MergeIdeal.main_arg16)
      ∧ m' ((c.tc : Thread Cert.MergeReferenceIdeal.nD Cert.MergeReferenceIdeal.τ).loc Cert.MergeReferenceIdeal.main_arg17) = m ((c.tc : Thread Cert.MergeIdeal.nD Cert.MergeIdeal.τ).loc Cert.MergeIdeal.main_arg17)
      ∧ m' ((c.tc : Thread Cert.MergeReferenceIdeal.nD Cert.MergeReferenceIdeal.τ).loc Cert.MergeReferenceIdeal.main_arg18) = m ((c.tc : Thread Cert.MergeIdeal.nD Cert.MergeIdeal.τ).loc Cert.MergeIdeal.main_arg18)) →
    ∃ (v0 : (c : Dev Cert.MergeIdeal.nD) → Buf (Elt Ideal) ((c.tc : Thread Cert.MergeIdeal.nD Cert.MergeIdeal.τ).loc Cert.MergeIdeal.main_v25)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v25) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v78) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15)
          ∧ r.2.mem ((c.tc : Thread Cert.MergeReferenceIdeal.nD Cert.MergeReferenceIdeal.τ).loc Cert.MergeReferenceIdeal.main_arg16) = m' ((c.tc : Thread Cert.MergeReferenceIdeal.nD Cert.MergeReferenceIdeal.τ).loc Cert.MergeReferenceIdeal.main_arg16)
          ∧ r.2.mem ((c.tc : Thread Cert.MergeReferenceIdeal.nD Cert.MergeReferenceIdeal.τ).loc Cert.MergeReferenceIdeal.main_arg17) = m' ((c.tc : Thread Cert.MergeReferenceIdeal.nD Cert.MergeReferenceIdeal.τ).loc Cert.MergeReferenceIdeal.main_arg17)
          ∧ r.2.mem ((c.tc : Thread Cert.MergeReferenceIdeal.nD Cert.MergeReferenceIdeal.τ).loc Cert.MergeReferenceIdeal.main_arg18) = m' ((c.tc : Thread Cert.MergeReferenceIdeal.nD Cert.MergeReferenceIdeal.τ).loc Cert.MergeReferenceIdeal.main_arg18))

def preserves_Tail_TailIdeal : Prop :=
  True

def algebraic_TailIdeal_TailReferenceIdeal_pre_finite_tail [hTailIdeal : Cert.TailIdeal.Facts] [hTailReferenceIdeal : Cert.TailReferenceIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_finite_tail m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)
      ∧ m' ((c.tc : Thread Cert.TailReferenceIdeal.nD Cert.TailReferenceIdeal.τ).loc Cert.TailReferenceIdeal.main_arg15) = m ((c.tc : Thread Cert.TailIdeal.nD Cert.TailIdeal.τ).loc Cert.TailIdeal.main_arg15)
      ∧ m' ((c.tc : Thread Cert.TailReferenceIdeal.nD Cert.TailReferenceIdeal.τ).loc Cert.TailReferenceIdeal.main_arg16) = m ((c.tc : Thread Cert.TailIdeal.nD Cert.TailIdeal.τ).loc Cert.TailIdeal.main_arg16)
      ∧ m' ((c.tc : Thread Cert.TailReferenceIdeal.nD Cert.TailReferenceIdeal.τ).loc Cert.TailReferenceIdeal.main_arg17) = m ((c.tc : Thread Cert.TailIdeal.nD Cert.TailIdeal.τ).loc Cert.TailIdeal.main_arg17)
      ∧ m' ((c.tc : Thread Cert.TailReferenceIdeal.nD Cert.TailReferenceIdeal.τ).loc Cert.TailReferenceIdeal.main_arg18) = m ((c.tc : Thread Cert.TailIdeal.nD Cert.TailIdeal.τ).loc Cert.TailIdeal.main_arg18)
      ∧ m' ((c.tc : Thread Cert.TailReferenceIdeal.nD Cert.TailReferenceIdeal.τ).loc Cert.TailReferenceIdeal.main_arg19) = m ((c.tc : Thread Cert.TailIdeal.nD Cert.TailIdeal.τ).loc Cert.TailIdeal.main_arg19)
      ∧ m' ((c.tc : Thread Cert.TailReferenceIdeal.nD Cert.TailReferenceIdeal.τ).loc Cert.TailReferenceIdeal.main_arg20) = m ((c.tc : Thread Cert.TailIdeal.nD Cert.TailIdeal.τ).loc Cert.TailIdeal.main_arg20)
      ∧ m' ((c.tc : Thread Cert.TailReferenceIdeal.nD Cert.TailReferenceIdeal.τ).loc Cert.TailReferenceIdeal.main_arg21) = m ((c.tc : Thread Cert.TailIdeal.nD Cert.TailIdeal.τ).loc Cert.TailIdeal.main_arg21)
      ∧ m' ((c.tc : Thread Cert.TailReferenceIdeal.nD Cert.TailReferenceIdeal.τ).loc Cert.TailReferenceIdeal.main_arg22) = m ((c.tc : Thread Cert.TailIdeal.nD Cert.TailIdeal.τ).loc Cert.TailIdeal.main_arg22)) →
    ∃ (v0 : (c : Dev Cert.TailIdeal.nD) → Buf (Elt Ideal) ((c.tc : Thread Cert.TailIdeal.nD Cert.TailIdeal.τ).loc Cert.TailIdeal.main_v30)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v30) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
          ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
          ∧ r.2.mem ((c.tc : Thread Cert.TailIdeal.nD Cert.TailIdeal.τ).loc Cert.TailIdeal.main_arg19) = m ((c.tc : Thread Cert.TailIdeal.nD Cert.TailIdeal.τ).loc Cert.TailIdeal.main_arg19)
          ∧ r.2.mem ((c.tc : Thread Cert.TailIdeal.nD Cert.TailIdeal.τ).loc Cert.TailIdeal.main_arg20) = m ((c.tc : Thread Cert.TailIdeal.nD Cert.TailIdeal.τ).loc Cert.TailIdeal.main_arg20)
          ∧ r.2.mem ((c.tc : Thread Cert.TailIdeal.nD Cert.TailIdeal.τ).loc Cert.TailIdeal.main_arg21) = m ((c.tc : Thread Cert.TailIdeal.nD Cert.TailIdeal.τ).loc Cert.TailIdeal.main_arg21)
          ∧ r.2.mem ((c.tc : Thread Cert.TailIdeal.nD Cert.TailIdeal.τ).loc Cert.TailIdeal.main_arg22) = m ((c.tc : Thread Cert.TailIdeal.nD Cert.TailIdeal.τ).loc Cert.TailIdeal.main_arg22))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v113) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14)
          ∧ r.2.mem ((c.tc : Thread Cert.TailReferenceIdeal.nD Cert.TailReferenceIdeal.τ).loc Cert.TailReferenceIdeal.main_arg15) = m' ((c.tc : Thread Cert.TailReferenceIdeal.nD Cert.TailReferenceIdeal.τ).loc Cert.TailReferenceIdeal.main_arg15)
          ∧ r.2.mem ((c.tc : Thread Cert.TailReferenceIdeal.nD Cert.TailReferenceIdeal.τ).loc Cert.TailReferenceIdeal.main_arg16) = m' ((c.tc : Thread Cert.TailReferenceIdeal.nD Cert.TailReferenceIdeal.τ).loc Cert.TailReferenceIdeal.main_arg16)
          ∧ r.2.mem ((c.tc : Thread Cert.TailReferenceIdeal.nD Cert.TailReferenceIdeal.τ).loc Cert.TailReferenceIdeal.main_arg17) = m' ((c.tc : Thread Cert.TailReferenceIdeal.nD Cert.TailReferenceIdeal.τ).loc Cert.TailReferenceIdeal.main_arg17)
          ∧ r.2.mem ((c.tc : Thread Cert.TailReferenceIdeal.nD Cert.TailReferenceIdeal.τ).loc Cert.TailReferenceIdeal.main_arg18) = m' ((c.tc : Thread Cert.TailReferenceIdeal.nD Cert.TailReferenceIdeal.τ).loc Cert.TailReferenceIdeal.main_arg18)
          ∧ r.2.mem ((c.tc : Thread Cert.TailReferenceIdeal.nD Cert.TailReferenceIdeal.τ).loc Cert.TailReferenceIdeal.main_arg19) = m' ((c.tc : Thread Cert.TailReferenceIdeal.nD Cert.TailReferenceIdeal.τ).loc Cert.TailReferenceIdeal.main_arg19)
          ∧ r.2.mem ((c.tc : Thread Cert.TailReferenceIdeal.nD Cert.TailReferenceIdeal.τ).loc Cert.TailReferenceIdeal.main_arg20) = m' ((c.tc : Thread Cert.TailReferenceIdeal.nD Cert.TailReferenceIdeal.τ).loc Cert.TailReferenceIdeal.main_arg20)
          ∧ r.2.mem ((c.tc : Thread Cert.TailReferenceIdeal.nD Cert.TailReferenceIdeal.τ).loc Cert.TailReferenceIdeal.main_arg21) = m' ((c.tc : Thread Cert.TailReferenceIdeal.nD Cert.TailReferenceIdeal.τ).loc Cert.TailReferenceIdeal.main_arg21)
          ∧ r.2.mem ((c.tc : Thread Cert.TailReferenceIdeal.nD Cert.TailReferenceIdeal.τ).loc Cert.TailReferenceIdeal.main_arg22) = m' ((c.tc : Thread Cert.TailReferenceIdeal.nD Cert.TailReferenceIdeal.τ).loc Cert.TailReferenceIdeal.main_arg22))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v82_4)) (v1 : (c : Dev Cert.MixIdeal.nD) → Buf (Elt Ideal) ((c.tc : Thread Cert.MixIdeal.nD Cert.MixIdeal.τ).loc Cert.MixIdeal.main_v82_5)) (v2 : (c : Dev Cert.MixIdeal.nD) → Buf (Elt Ideal) ((c.tc : Thread Cert.MixIdeal.nD Cert.MixIdeal.τ).loc Cert.MixIdeal.main_v82_14)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v82_4) = v0 c
          ∧ r.2.mem ((c.tc : Thread Cert.MixIdeal.nD Cert.MixIdeal.τ).loc Cert.MixIdeal.main_v82_5) = v1 c
          ∧ r.2.mem ((c.tc : Thread Cert.MixIdeal.nD Cert.MixIdeal.τ).loc Cert.MixIdeal.main_v82_14) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v36) = v0 c
          ∧ r.2.mem ((c.tc : Thread Cert.MixReferenceIdeal.nD Cert.MixReferenceIdeal.τ).loc Cert.MixReferenceIdeal.main_v38) = v1 c
          ∧ r.2.mem ((c.tc : Thread Cert.MixReferenceIdeal.nD Cert.MixReferenceIdeal.τ).loc Cert.MixReferenceIdeal.main_v41) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hLast : Cert.Last.Facts) (hLastIdeal : Cert.LastIdeal.Facts) (hLastReferenceIdeal : Cert.LastReferenceIdeal.Facts) (hMerge : Cert.Merge.Facts) (hMergeIdeal : Cert.MergeIdeal.Facts) (hMergeReferenceIdeal : Cert.MergeReferenceIdeal.Facts) (hTail : Cert.Tail.Facts) (hTailIdeal : Cert.TailIdeal.Facts) (hTailReferenceIdeal : Cert.TailReferenceIdeal.Facts) (hMix : Cert.Mix.Facts) (hMixIdeal : Cert.MixIdeal.Facts) (hMixReferenceIdeal : Cert.MixReferenceIdeal.Facts) (hPre_finite_scores : Cert.Pre_finite_scores.Facts) (hPre_finite_hidden : Cert.Pre_finite_hidden.Facts) (hPre_finite_gates : Cert.Pre_finite_gates.Facts) (hPre_finite_tail : Cert.Pre_finite_tail.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnIdeal_pre_finite_hidden (hFfnIdeal := hFfnIdeal) (hPre_finite_hidden := hPre_finite_hidden)
    ∧ quiescent_FfnReferenceIdeal (hFfnReferenceIdeal := hFfnReferenceIdeal)
    ∧ quiescent_FfnReferenceIdeal_pre_finite_hidden (hFfnReferenceIdeal := hFfnReferenceIdeal) (hPre_finite_hidden := hPre_finite_hidden)
    ∧ quiescent_Last (hLast := hLast)
    ∧ quiescent_LastIdeal (hLastIdeal := hLastIdeal)
    ∧ quiescent_LastIdeal_pre_finite_hidden (hLastIdeal := hLastIdeal) (hPre_finite_hidden := hPre_finite_hidden)
    ∧ quiescent_LastReferenceIdeal (hLastReferenceIdeal := hLastReferenceIdeal)
    ∧ quiescent_LastReferenceIdeal_pre_finite_hidden (hLastReferenceIdeal := hLastReferenceIdeal) (hPre_finite_hidden := hPre_finite_hidden)
    ∧ quiescent_Merge (hMerge := hMerge)
    ∧ quiescent_MergeIdeal (hMergeIdeal := hMergeIdeal)
    ∧ quiescent_MergeIdeal_pre_finite_gates (hMergeIdeal := hMergeIdeal) (hPre_finite_gates := hPre_finite_gates)
    ∧ quiescent_MergeReferenceIdeal (hMergeReferenceIdeal := hMergeReferenceIdeal)
    ∧ quiescent_MergeReferenceIdeal_pre_finite_gates (hMergeReferenceIdeal := hMergeReferenceIdeal) (hPre_finite_gates := hPre_finite_gates)
    ∧ quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailReferenceIdeal (hTailReferenceIdeal := hTailReferenceIdeal)
    ∧ quiescent_TailReferenceIdeal_pre_finite_tail (hTailReferenceIdeal := hTailReferenceIdeal) (hPre_finite_tail := hPre_finite_tail)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal_pre_finite_hidden (hFfnIdeal := hFfnIdeal) (hFfnReferenceIdeal := hFfnReferenceIdeal) (hPre_finite_hidden := hPre_finite_hidden)
    ∧ preserves_Last_LastIdeal
    ∧ algebraic_LastIdeal_LastReferenceIdeal_pre_finite_hidden (hLastIdeal := hLastIdeal) (hLastReferenceIdeal := hLastReferenceIdeal) (hPre_finite_hidden := hPre_finite_hidden)
    ∧ preserves_Merge_MergeIdeal
    ∧ algebraic_MergeIdeal_MergeReferenceIdeal_pre_finite_gates (hMergeIdeal := hMergeIdeal) (hMergeReferenceIdeal := hMergeReferenceIdeal) (hPre_finite_gates := hPre_finite_gates)
    ∧ preserves_Tail_TailIdeal
    ∧ algebraic_TailIdeal_TailReferenceIdeal_pre_finite_tail (hTailIdeal := hTailIdeal) (hTailReferenceIdeal := hTailReferenceIdeal) (hPre_finite_tail := hPre_finite_tail)
    ∧ preserves_Mix_MixIdeal
    ∧ algebraic_MixIdeal_MixReferenceIdeal (hMixIdeal := hMixIdeal) (hMixReferenceIdeal := hMixReferenceIdeal)
-- ==== Pre_finite_gates.lean ====
abbrev S32x2048x1024 : Shape := ⟨3, ![32, 2048, 1024]⟩
abbrev S32x2048x4x128 : Shape := ⟨4, ![32, 2048, 4, 128]⟩
abbrev S32x2048x512 : Shape := ⟨3, ![32, 2048, 512]⟩
abbrev S32x2048x8x64 : Shape := ⟨4, ![32, 2048, 8, 64]⟩
abbrev S1024 : Shape := ⟨1, ![1024]⟩
abbrev S128 : Shape := ⟨1, ![128]⟩
abbrev S8 : Shape := ⟨1, ![8]⟩
abbrev S512 : Shape := ⟨1, ![512]⟩
abbrev S512x1024 : Shape := ⟨2, ![512, 1024]⟩
abbrev S1024x3072 : Shape := ⟨2, ![1024, 3072]⟩
abbrev S3072 : Shape := ⟨1, ![3072]⟩
abbrev S1024x1024 : Shape := ⟨2, ![1024, 1024]⟩
abbrev S_ : Shape := ⟨0, ![]⟩

class Facts : Prop where
  bcast_S_S32x2048x512 : S_.BroadcastsInDim S32x2048x512 (![] : Fin 0 → Fin S32x2048x512.rank)

variable [Facts]

def fn {F : FTy → Type} [FloatOps F] (main_arg0 : FVec F S32x2048x1024 .f32) (main_arg1 : FVec F S32x2048x4x128 .f32) (main_arg2 : FVec F S32x2048x4x128 .f32) (main_arg3 : FVec F S32x2048x512 .f32) (main_arg4 : FVec F S32x2048x8x64 .f32) (main_arg5 : FVec F S32x2048x8x64 .f32) (main_arg6 : FVec F S32x2048x1024 .f32) (main_arg7 : FVec F S32x2048x512 .f32) (main_arg8 : FVec F S32x2048x512 .f32) (main_arg9 : FVec F S1024 .f32) (main_arg10 : FVec F S128 .f32) (main_arg11 : FVec F S8 .f32) (main_arg12 : FVec F S512 .f32) (main_arg13 : FVec F S512x1024 .f32) (main_arg14 : FVec F S512x1024 .f32) (main_arg15 : FVec F S512x1024 .f32) (main_arg16 : FVec F S1024x3072 .f32) (main_arg17 : FVec F S3072 .f32) (main_arg18 : FVec F S1024x1024 .f32) : IVec S32x2048x512 1 × IVec S32x2048x512 1 :=
  let main_v0 : FVec F S32x2048x512 .f32 := Host.absf main_arg3
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_v3 : FVec F S32x2048x512 .f32 := Host.absf main_arg7
  let main_cst_0 : FVec F S_ .f32 := constant S_ .f32 0x7F800000#32
  let main_v4 : FVec F S32x2048x512 .f32 := broadcastInDim S32x2048x512 ![] bcast_S_S32x2048x512 main_cst_0
  let main_v5 : IVec S32x2048x512 1 := cmpf .olt main_v3 main_v4
  (main_v2, main_v5)
-- ==== Pre_finite_hidden.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x5632 : S_.BroadcastsInDim S1024x5632 (![] : Fin 0 → Fin S1024x5632.rank)

variable [Facts]

def fn {F : FTy → Type} [FloatOps F] (main_arg0 : FVec F S32x2048x1024 .f32) (main_arg1 : FVec F S1024 .f32) (main_arg2 : FVec F S1024x5632 .f32) (main_arg3 : FVec F S2816x1024 .f32) (main_arg4 : FVec F S1024 .f32) : IVec S1024 1 × IVec S1024x5632 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x5632 .f32 := Host.absf main_arg2
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  (main_v2, main_v5)
-- ==== Pre_finite_scores.lean ====
abbrev S32x2048x4x128 : Shape := ⟨4, ![32, 2048, 4, 128]⟩
abbrev S32x2048x4x64 : Shape := ⟨4, ![32, 2048, 4, 64]⟩
abbrev S32x2048x64 : Shape := ⟨3, ![32, 2048, 64]⟩
abbrev S_ : Shape := ⟨0, ![]⟩

class Facts : Prop where
  bcast_S_S32x2048x4x128 : S_.BroadcastsInDim S32x2048x4x128 (![] : Fin 0 → Fin S32x2048x4x128.rank)
  bcast_S_S32x2048x4x64 : S_.BroadcastsInDim S32x2048x4x64 (![] : Fin 0 → Fin S32x2048x4x64.rank)
  bcast_S_S32x2048x64 : S_.BroadcastsInDim S32x2048x64 (![] : Fin 0 → Fin S32x2048x64.rank)

variable [Facts]

def fn {F : FTy → Type} [FloatOps F] (main_arg0 : FVec F S32x2048x4x128 .f32) (main_arg1 : FVec F S32x2048x4x64 .f32) (main_arg2 : FVec F S32x2048x4x128 .f32) (main_arg3 : FVec F S32x2048x64 .f32) (main_arg4 : FVec F S32x2048x4x128 .f32) : IVec S32x2048x4x128 1 × IVec S32x2048x4x64 1 × IVec S32x2048x4x128 1 × IVec S32x2048x64 1 :=
  let main_v0 : FVec F S32x2048x4x128 .f32 := Host.absf main_arg0
  let main_cst : FVec F S_ .f32 := constant S_ .f32 0x7F800000#32
  let main_v1 : FVec F S32x2048x4x128 .f32 := broadcastInDim S32x2048x4x128 ![] bcast_S_S32x2048x4x128 main_cst
  let main_v2 : IVec S32x2048x4x128 1 := cmpf .olt main_v0 main_v1
  let main_v3 : FVec F S32x2048x4x64 .f32 := Host.absf main_arg1
  let main_cst_0 : FVec F S_ .f32 := constant S_ .f32 0x7F800000#32
  let main_v4 : FVec F S32x2048x4x64 .f32 := broadcastInDim S32x2048x4x64 ![] bcast_S_S32x2048x4x64 main_cst_0
  let main_v5 : IVec S32x2048x4x64 1 := cmpf .olt main_v3 main_v4
  let main_v6 : FVec F S32x2048x4x128 .f32 := Host.absf main_arg2
  let main_cst_1 : FVec F S_ .f32 := constant S_ .f32 0x7F800000#32
  let main_v7 : FVec F S32x2048x4x128 .f32 := broadcastInDim S32x2048x4x128 ![] bcast_S_S32x2048x4x128 main_cst_1
  let main_v8 : IVec S32x2048x4x128 1 := cmpf .olt main_v6 main_v7
  let main_v9 : FVec F S32x2048x64 .f32 := Host.absf main_arg3
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  (main_v2, main_v5, main_v8, main_v11)
-- ==== Pre_finite_tail.lean ====
abbrev S32x2048x1024 : Shape := ⟨3, ![32, 2048, 1024]⟩
abbrev S32x2048x4x128 : Shape := ⟨4, ![32, 2048, 4, 128]⟩
abbrev S32x2048x512 : Shape := ⟨3, ![32, 2048, 512]⟩
abbrev S32x2048x8x64 : Shape := ⟨4, ![32, 2048, 8, 64]⟩
abbrev S1024 : Shape := ⟨1, ![1024]⟩
abbrev S128 : Shape := ⟨1, ![128]⟩
abbrev S8 : Shape := ⟨1, ![8]⟩
abbrev S512 : Shape := ⟨1, ![512]⟩
abbrev S512x1024 : Shape := ⟨2, ![512, 1024]⟩
abbrev S1024x3072 : Shape := ⟨2, ![1024, 3072]⟩
abbrev S3072 : Shape := ⟨1, ![3072]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩

class Facts : Prop where
  bcast_S_S32x2048x512 : S_.BroadcastsInDim S32x2048x512 (![] : Fin 0 → Fin S32x2048x512.rank)
  bcast_S_S1024 : S_.BroadcastsInDim S1024 (![] : Fin 0 → Fin S1024.rank)
  bcast_S_S1024x5632 : S_.BroadcastsInDim S1024x5632 (![] : Fin 0 → Fin S1024x5632.rank)

variable [Facts]

def fn {F : FTy → Type} [FloatOps F] (main_arg0 : FVec F S32x2048x1024 .f32) (main_arg1 : FVec F S32x2048x4x128 .f32) (main_arg2 : FVec F S32x2048x4x128 .f32) (main_arg3 : FVec F S32x2048x512 .f32) (main_arg4 : FVec F S32x2048x8x64 .f32) (main_arg5 : FVec F S32x2048x8x64 .f32) (main_arg6 : FVec F S32x2048x1024 .f32) (main_arg7 : FVec F S32x2048x512 .f32) (main_arg8 : FVec F S32x2048x512 .f32) (main_arg9 : FVec F S1024 .f32) (main_arg10 : FVec F S128 .f32) (main_arg11 : FVec F S8 .f32) (main_arg12 : FVec F S512 .f32) (main_arg13 : FVec F S512x1024 .f32) (main_arg14 : FVec F S512x1024 .f32) (main_arg15 : FVec F S512x1024 .f32) (main_arg16 : FVec F S1024x3072 .f32) (main_arg17 : FVec F S3072 .f32) (main_arg18 : FVec F S1024x1024 .f32) (main_arg19 : FVec F S1024 .f32) (main_arg20 : FVec F S1024x5632 .f32) (main_arg21 : FVec F S2816x1024 .f32) (main_arg22 : FVec F S1024 .f32) : IVec S32x2048x512 1 × IVec S32x2048x512 1 × IVec S1024 1 × IVec S1024x5632 1 :=
  let main_v0 : FVec F S32x2048x512 .f32 := Host.absf main_arg3
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_v3 : FVec F S32x2048x512 .f32 := Host.absf main_arg7
  let main_cst_0 : FVec F S_ .f32 := constant S_ .f32 0x7F800000#32
  let main_v4 : FVec F S32x2048x512 .f32 := broadcastInDim S32x2048x512 ![] bcast_S_S32x2048x512 main_cst_0
  let main_v5 : IVec S32x2048x512 1 := cmpf .olt main_v3 main_v4
  let main_v6 : FVec F S1024 .f32 := Host.absf main_arg19
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg20
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  (main_v2, main_v5, main_v8, main_v11)
-- ==== Kernel.lean ====
abbrev S32x2048x4x128 : Shape := ⟨4, ![32, 2048, 4, 128]⟩
abbrev S32x2048x4x64 : Shape := ⟨4, ![32, 2048, 4, 64]⟩
abbrev S32x2048x64 : Shape := ⟨3, ![32, 2048, 64]⟩
abbrev S_ : Shape := ⟨0, ![]⟩
abbrev S32x4x2048x64 : Shape := ⟨4, ![32, 4, 2048, 64]⟩
abbrev S32x4x2048x128 : Shape := ⟨4, ![32, 4, 2048, 128]⟩
abbrev S32x4x2048x256 : Shape := ⟨4, ![32, 4, 2048, 256]⟩
abbrev S32x1x2048x64 : Shape := ⟨4, ![32, 1, 2048, 64]⟩
abbrev S32x2048x512 : Shape := ⟨3, ![32, 2048, 512]⟩
abbrev S1x4x1024x256 : Shape := ⟨4, ![1, 4, 1024, 256]⟩
abbrev S1x4x2048x256 : Shape := ⟨4, ![1, 4, 2048, 256]⟩
abbrev S1x1024x512 : Shape := ⟨3, ![1, 1024, 512]⟩
abbrev S1x1x1024x256 : Shape := ⟨4, ![1, 1, 1024, 256]⟩
abbrev S1024x256 : Shape := ⟨2, ![1024, 256]⟩
abbrev S1x1x512x256 : Shape := ⟨4, ![1, 1, 512, 256]⟩
abbrev S512x256 : Shape := ⟨2, ![512, 256]⟩
abbrev S1024x512 : Shape := ⟨2, ![1024, 512]⟩
abbrev S1024x1 : Shape := ⟨2, ![1024, 1]⟩
abbrev S1024 : Shape := ⟨1, ![1024]⟩
abbrev S1024x128 : Shape := ⟨2, ![1024, 128]⟩
abbrev S1x1024x128 : Shape := ⟨3, ![1, 1024, 128]⟩

abbrev nBuf : Space → Nat
  | .hbm => 32
  | .vmem => 8
  | .smem => 0
  | _ => 0

abbrev bufTy : (tb : Table) → Fin (tcTables nBuf tb) → BufTy
  | .hbm, ⟨0, _⟩ => ⟨S32x2048x4x128, .f32⟩
  | .hbm, ⟨1, _⟩ => ⟨S32x2048x4x64, .f32⟩
  | .hbm, ⟨2, _⟩ => ⟨S32x2048x4x128, .f32⟩
  | .hbm, ⟨3, _⟩ => ⟨S32x2048x64, .f32⟩
  | .hbm, ⟨4, _⟩ => ⟨S32x2048x4x128, .f32⟩
  | .hbm, ⟨5, _⟩ => ⟨S_, .f32⟩
  | .hbm, ⟨6, _⟩ => ⟨S32x4x2048x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x4x2048x128, .f32⟩
  | .hbm, ⟨12, _⟩ => ⟨S32x4x2048x64, .f32⟩
  | .hbm, ⟨13, _⟩ => ⟨S32x4x2048x128, .f32⟩
  | .hbm, ⟨14, _⟩ => ⟨S32x4x2048x256, .f32⟩
  | .hbm, ⟨15, _⟩ => ⟨S_, .f32⟩
  | .hbm, ⟨16, _⟩ => ⟨S_, .f32⟩
  | .hbm, ⟨17, _⟩ => ⟨S32x4x2048x256, .f32⟩
  | .hbm, ⟨18, _⟩ => ⟨S32x4x2048x256, .f32⟩
  | .hbm, ⟨19, _⟩ => ⟨S32x1x2048x64, .f32⟩
  | .hbm, ⟨20, _⟩ => ⟨S32x4x2048x64, .f32⟩
  | .hbm, ⟨21, _⟩ => ⟨S32x4x2048x128, .f32⟩
  | .hbm, ⟨22, _⟩ => ⟨S32x4x2048x128, .f32⟩
  | .hbm, ⟨23, _⟩ => ⟨S32x4x2048x256, .f32⟩
  | .hbm, ⟨24, _⟩ => ⟨S_, .f32⟩
  | .hbm, ⟨25, _⟩ => ⟨S32x4x2048x128, .f32⟩
  | .hbm, ⟨26, _⟩ => ⟨S32x4x2048x128, .f32⟩
  | .hbm, ⟨27, _⟩ => ⟨S32x4x2048x256, .f32⟩
  | .hbm, ⟨28, _⟩ => ⟨S32x4x2048x256, .bf16⟩
  | .hbm, ⟨29, _⟩ => ⟨S32x4x2048x256, .bf16⟩
  | .hbm, ⟨30, _⟩ => ⟨S32x4x2048x256, .bf16⟩
  | .hbm, ⟨31, _⟩ => ⟨S32x2048x512, .bf16⟩
  | .local _ .vmem, ⟨0, _⟩ => ⟨S1x4x1024x256, .bf16⟩
  | .local _ .vmem, ⟨1, _⟩ => ⟨S1x4x1024x256, .bf16⟩
  | .local _ .vmem, ⟨2, _⟩ => ⟨S1x4x2048x256, .bf16⟩
  | .local _ .vmem, ⟨3, _⟩ => ⟨S1x4x2048x256, .bf16⟩
  | .local _ .vmem, ⟨4, _⟩ => ⟨S1x4x2048x256, .bf16⟩
  | .local _ .vmem, ⟨5, _⟩ => ⟨S1x4x2048x256, .bf16⟩
  | .local _ .vmem, ⟨6, _⟩ => ⟨S1x1024x512, .bf16⟩
  | .local _ .vmem, ⟨7, _⟩ => ⟨S1x1024x512, .bf16⟩
  | _, _ => ⟨S32x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32x2048x4x128 : Shape := ⟨4, ![32, 2048, 4, 128]⟩
abbrev S32x2048x4x64 : Shape := ⟨4, ![32, 2048, 4, 64]⟩
abbrev S32x2048x64 : Shape := ⟨3, ![32, 2048, 64]⟩
abbrev S32x4x2048x2048 : Shape := ⟨4, ![32, 4, 2048, 2048]⟩
abbrev S32x2048x2048x4 : Shape := ⟨4, ![32, 2048, 2048, 4]⟩
abbrev S_ : Shape := ⟨0, ![]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S32x2048x512 : Shape := ⟨3, ![32, 2048, 512]⟩

abbrev nBuf : Space → Nat
  | .hbm => 30
  | .vmem => 0
  | .smem => 0
  | _ => 0

abbrev bufTy : (tb : Table) → Fin (tcTables nBuf tb) → BufTy
  | .hbm, ⟨0, _⟩ => ⟨S32x2048x4x128, .f32⟩
  | .hbm, ⟨1, _⟩ => ⟨S32x2048x4x64, .f32⟩
  | .hbm, ⟨2, _⟩ => ⟨S32x2048x4x128, .f32⟩
  | .hbm, ⟨3, _⟩ => ⟨S32x2048x64, .f32⟩
  | .hbm, ⟨4, _⟩ => ⟨S32x2048x4x128, .f32⟩
  | .hbm, ⟨5, _⟩ => ⟨S32x4x2048x2048, .f32⟩
  | .hbm, ⟨6, _⟩ => ⟨S32x2048x2048x4, .f32⟩
  | .hbm, ⟨7, _⟩ => ⟨S32x4x2048x2048, .f32⟩
  | .hbm, ⟨8, _⟩ => ⟨S32x4x2048x2048, .f32⟩
  | .hbm, ⟨9, _⟩ => ⟨S_, .f32⟩
  | .hbm, ⟨10, _⟩ => ⟨S32x4x2048x2048, .f32⟩
  | .hbm, ⟨11, _⟩ => ⟨S32x4x2048x2048, .f32⟩
  | .hbm, ⟨12, _⟩ => ⟨S_, .f32⟩
  | .hbm, ⟨13, _⟩ => ⟨S32x4x2048, .f32⟩
  | .hbm, ⟨14, _⟩ => ⟨S_, .f32⟩
  | .hbm, ⟨15, _⟩ => ⟨S32x4x2048, .f32⟩
  | .hbm, ⟨16, _⟩ => ⟨S32x4x2048, .f32⟩
  | .hbm, ⟨17, _⟩ => ⟨S32x4x2048x1, .f32⟩
  | .hbm, ⟨18, _⟩ => ⟨S32x4x2048x2048, .f32⟩
  | .hbm, ⟨19, _⟩ => ⟨S32x4x2048x2048, .f32⟩
  | .hbm, ⟨20, _⟩ => ⟨S32x4x2048x2048, .f32⟩
  | .hbm, ⟨21, _⟩ => ⟨S_, .f32⟩
  | .hbm, ⟨22, _⟩ => ⟨S32x4x2048, .f32⟩
  | .hbm, ⟨23, _⟩ => ⟨S32x4x2048x1, .f32⟩
  | .hbm, ⟨24, _⟩ => ⟨S32x4x2048x2048, .f32⟩
  | .hbm, ⟨25, _⟩ => ⟨S32x4x2048x2048, .f32⟩
  | .hbm, ⟨26, _⟩ => ⟨S32x4x128x2048, .f32⟩
  | .hbm, ⟨27, _⟩ => ⟨S32x2048x4x128, .f32⟩
  | .hbm, ⟨28, _⟩ => ⟨S32x2048x512, .f32⟩
  | .hbm, ⟨29, _⟩ => ⟨S32x2048x512, .bf16⟩
  | _, _ => ⟨S32x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Ffn.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 11
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S65536x1024 : Shape := ⟨2, ![65536, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x5632, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S32x2048x2816, .f32⟩
  | .hbm, ⟨26, _⟩ => ⟨S_, .f32⟩
  | .hbm, ⟨27, _⟩ => ⟨S32x2048x2816, .f32⟩
  | .hbm, ⟨28, _⟩ => ⟨S32x2048x2816, .f32⟩
  | .hbm, ⟨29, _⟩ => ⟨S_, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S32x2048x1024, .f32⟩
  | .hbm, ⟨35, _⟩ => ⟨S_, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Last.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 11
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastReferenceIdeal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S65536x1024 : Shape := ⟨2, ![65536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x5632, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S32x2048x2816, .f32⟩
  | .hbm, ⟨26, _⟩ => ⟨S_, .f32⟩
  | .hbm, ⟨27, _⟩ => ⟨S32x2048x2816, .f32⟩
  | .hbm, ⟨28, _⟩ => ⟨S32x2048x2816, .f32⟩
  | .hbm, ⟨29, _⟩ => ⟨S_, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S32x2048x1024, .f32⟩
  | .hbm, ⟨35, _⟩ => ⟨S_, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S_, .f32⟩
  | .hbm, ⟨41, _⟩ => ⟨S32x2048, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S_, .f32⟩
  | .hbm, ⟨47, _⟩ => ⟨S32x2048x1, .f32⟩
  | .hbm, ⟨48, _⟩ => ⟨S32x2048x1, .f32⟩
  | .hbm, ⟨49, _⟩ => ⟨S32x2048x1, .f32⟩
  | .hbm, ⟨50, _⟩ => ⟨S32x2048x1024, .f32⟩
  | .hbm, ⟨51, _⟩ => ⟨S32x2048x1024, .f32⟩
  | .hbm, ⟨52, _⟩ => ⟨S1x1x1024, .f32⟩
  | .hbm, ⟨53, _⟩ => ⟨S32x2048x1024, .f32⟩
  | .hbm, ⟨54, _⟩ => ⟨S32x2048x1024, .f32⟩
  | .hbm, ⟨55, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Merge.lean ====
abbrev S32x2048x1024 : Shape := ⟨3, ![32, 2048, 1024]⟩
abbrev S32x2048x4x128 : Shape := ⟨4, ![32, 2048, 4, 128]⟩
abbrev S32x2048x512 : Shape := ⟨3, ![32, 2048, 512]⟩
abbrev S32x2048x8x64 : Shape := ⟨4, ![32, 2048, 8, 64]⟩
abbrev S1024 : Shape := ⟨1, ![1024]⟩
abbrev S128 : Shape := ⟨1, ![128]⟩
abbrev S8 : Shape := ⟨1, ![8]⟩
abbrev S512 : Shape := ⟨1, ![512]⟩
abbrev S512x1024 : Shape := ⟨2, ![512, 1024]⟩
abbrev S1024x3072 : Shape := ⟨2, ![1024, 3072]⟩
abbrev S3072 : Shape := ⟨1, ![3072]⟩
abbrev S1024x1024 : Shape := ⟨2, ![1024, 1024]⟩
abbrev S65536x1024 : Shape := ⟨2, ![65536, 1024]⟩
abbrev S65536x512 : Shape := ⟨2, ![65536, 512]⟩
abbrev S1x1024 : Shape := ⟨2, ![1, 1024]⟩
abbrev S1x128 : Shape := ⟨2, ![1, 128]⟩
abbrev S8x64 : Shape := ⟨2, ![8, 64]⟩
abbrev S1x512 : Shape := ⟨2, ![1, 512]⟩
abbrev S1x3072 : Shape := ⟨2, ![1, 3072]⟩
abbrev S512x512 : Shape := ⟨2, ![512, 512]⟩
abbrev S512x1 : Shape := ⟨2, ![512, 1]⟩
abbrev S512x3072 : Shape := ⟨2, ![512, 3072]⟩
abbrev S512x128 : Shape := ⟨2, ![512, 128]⟩

abbrev nBuf : Space → Nat
  | .hbm => 45
  | .vmem => 30
  | .smem => 0
  | _ => 0

abbrev bufTy : (tb : Table) → Fin (tcTables nBuf tb) → BufTy
  | .hbm, ⟨0, _⟩ => ⟨S32x2048x1024, .f32⟩
  | .hbm, ⟨1, _⟩ => ⟨S32x2048x4x128, .f32⟩
  | .hbm, ⟨2, _⟩ => ⟨S32x2048x4x128, .f32⟩
  | .hbm, ⟨3, _⟩ => ⟨S32x2048x512, .f32⟩
  | .hbm, ⟨4, _⟩ => ⟨S32x2048x8x64, .f32⟩
  | .hbm, ⟨5, _⟩ => ⟨S32x2048x8x64, .f32⟩
  | .hbm, ⟨6, _⟩ => ⟨S32x2048x1024, .f32⟩
  | .hbm, ⟨7, _⟩ => ⟨S32x2048x512, .f32⟩
  | .hbm, ⟨8, _⟩ => ⟨S32x2048x512, .f32⟩
  | .hbm, ⟨9, _⟩ => ⟨S1024, .f32⟩
  | .hbm, ⟨10, _⟩ => ⟨S128, .f32⟩
  | .hbm, ⟨11, _⟩ => ⟨S8, .f32⟩
  | .hbm, ⟨12, _⟩ => ⟨S512, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S1024x3072, .f32⟩
  | .hbm, ⟨17, _⟩ => ⟨S3072, .f32⟩
  | .hbm, ⟨18, _⟩ => ⟨S1024x1024, .f32⟩
  | .hbm, ⟨19, _⟩ => ⟨S65536x1024, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x512, .bf16⟩
  | .hbm, ⟨24, _⟩ => ⟨S65536x512, .f32⟩
  | .hbm, ⟨25, _⟩ => ⟨S65536x512, .f32⟩
  | .hbm, ⟨26, _⟩ => ⟨S65536x1024, .f32⟩
  | .hbm, ⟨27, _⟩ => ⟨S65536x1024, .bf16⟩
  | .hbm, ⟨28, _⟩ => ⟨S65536x512, .f32⟩
  | .hbm, ⟨29, _⟩ => ⟨S65536x512, .bf16⟩
  | .hbm, ⟨30, _⟩ => ⟨S65536x512, .f32⟩
  | .hbm, ⟨31, _⟩ => ⟨S65536x512, .bf16⟩
  | .hbm, ⟨32, _⟩ => ⟨S1x1024, .f32⟩
  | .hbm, ⟨33, _⟩ => ⟨S1x128, .f32⟩
  | .hbm, ⟨34, _⟩ => ⟨S8x64, .f32⟩
  | .hbm, ⟨35, _⟩ => ⟨S512, .f32⟩
  | .hbm, ⟨36, _⟩ => ⟨S1x512, .f32⟩
  | .hbm, ⟨37, _⟩ => ⟨S1x512, .f32⟩
  | .hbm, ⟨38, _⟩ => ⟨S512x1024, .bf16⟩
  | .hbm, ⟨39, _⟩ => ⟨S512x1024, .bf16⟩
  | .hbm, ⟨40, _⟩ => ⟨S512x1024, .bf16⟩
  | .hbm, ⟨41, _⟩ => ⟨S1024x3072, .bf16⟩
  | .hbm, ⟨42, _⟩ => ⟨S1x3072, .f32⟩
  | .hbm, ⟨43, _⟩ => ⟨S1024x1024, .bf16⟩
  | .hbm, ⟨44, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S1x1024, .f32⟩
  | .local _ .vmem, ⟨19, _⟩ => ⟨S1x128, .f32⟩
  | .local _ .vmem, ⟨20, _⟩ => ⟨S1x512, .f32⟩
  | .local _ .vmem, ⟨21, _⟩ => ⟨S1x512, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x3072, .bf16⟩
  | .local _ .vmem, ⟨26, _⟩ => ⟨S1x3072, .f32⟩
  | .local _ .vmem, ⟨27, _⟩ => ⟨S1024x1024, .bf16⟩
  | .local _ .vmem, ⟨28, _⟩ => ⟨S512x1024, .f32⟩
  | .local _ .vmem, ⟨29, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x3072 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeReferenceIdeal.lean ====
abbrev S32x2048x1024 : Shape := ⟨3, ![32, 2048, 1024]⟩
abbrev S32x2048x4x128 : Shape := ⟨4, ![32, 2048, 4, 128]⟩
abbrev S32x2048x512 : Shape := ⟨3, ![32, 2048, 512]⟩
abbrev S32x2048x8x64 : Shape := ⟨4, ![32, 2048, 8, 64]⟩
abbrev S1024 : Shape := ⟨1, ![1024]⟩
abbrev S128 : Shape := ⟨1, ![128]⟩
abbrev S8 : Shape := ⟨1, ![8]⟩
abbrev S512 : Shape := ⟨1, ![512]⟩
abbrev S512x1024 : Shape := ⟨2, ![512, 1024]⟩
abbrev S1024x3072 : Shape := ⟨2, ![1024, 3072]⟩
abbrev S3072 : Shape := ⟨1, ![3072]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩
abbrev S8x1 : Shape := ⟨2, ![8, 1]⟩
abbrev S1x1x8x1 : Shape := ⟨4, ![1, 1, 8, 1]⟩
abbrev S1x1x512 : Shape := ⟨3, ![1, 1, 512]⟩
abbrev S32x2048x3072 : Shape := ⟨3, ![32, 2048, 3072]⟩
abbrev S1x1x3072 : Shape := ⟨3, ![1, 1, 3072]⟩
abbrev S65536x1024 : Shape := ⟨2, ![65536, 1024]⟩

abbrev nBuf : Space → Nat
  | .hbm => 125
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x4x128, .f32⟩
  | .hbm, ⟨2, _⟩ => ⟨S32x2048x4x128, .f32⟩
  | .hbm, ⟨3, _⟩ => ⟨S32x2048x512, .f32⟩
  | .hbm, ⟨4, _⟩ => ⟨S32x2048x8x64, .f32⟩
  | .hbm, ⟨5, _⟩ => ⟨S32x2048x8x64, .f32⟩
  | .hbm, ⟨6, _⟩ => ⟨S32x2048x1024, .f32⟩
  | .hbm, ⟨7, _⟩ => ⟨S32x2048x512, .f32⟩
  | .hbm, ⟨8, _⟩ => ⟨S32x2048x512, .f32⟩
  | .hbm, ⟨9, _⟩ => ⟨S1024, .f32⟩
  | .hbm, ⟨10, _⟩ => ⟨S128, .f32⟩
  | .hbm, ⟨11, _⟩ => ⟨S8, .f32⟩
  | .hbm, ⟨12, _⟩ => ⟨S512, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S1024x3072, .f32⟩
  | .hbm, ⟨17, _⟩ => ⟨S3072, .f32⟩
  | .hbm, ⟨18, _⟩ => ⟨S1024x1024, .f32⟩
  | .hbm, ⟨19, _⟩ => ⟨S32x2048x1024, .f32⟩
  | .hbm, ⟨20, _⟩ => ⟨S_, .f32⟩
  | .hbm, ⟨21, _⟩ => ⟨S32x2048, .f32⟩
  | .hbm, ⟨22, _⟩ => ⟨S32x2048x1, .f32⟩
  | .hbm, ⟨23, _⟩ => ⟨S_, .f32⟩
  | .hbm, ⟨24, _⟩ => ⟨S32x2048x1, .f32⟩
  | .hbm, ⟨25, _⟩ => ⟨S32x2048x1, .f32⟩
  | .hbm, ⟨26, _⟩ => ⟨S_, .f32⟩
  | .hbm, ⟨27, _⟩ => ⟨S32x2048x1, .f32⟩
  | .hbm, ⟨28, _⟩ => ⟨S32x2048x1, .f32⟩
  | .hbm, ⟨29, _⟩ => ⟨S32x2048x1, .f32⟩
  | .hbm, ⟨30, _⟩ => ⟨S32x2048x1024, .f32⟩
  | .hbm, ⟨31, _⟩ => ⟨S32x2048x1024, .f32⟩
  | .hbm, ⟨32, _⟩ => ⟨S1x1x1024, .f32⟩
  | .hbm, ⟨33, _⟩ => ⟨S32x2048x1024, .f32⟩
  | .hbm, ⟨34, _⟩ => ⟨S32x2048x1024, .f32⟩
  | .hbm, ⟨35, _⟩ => ⟨S32x2048x4x128, .f32⟩
  | .hbm, ⟨36, _⟩ => ⟨S32x2048x4x128, .f32⟩
  | .hbm, ⟨37, _⟩ => ⟨S32x2048x4x128, .f32⟩
  | .hbm, ⟨38, _⟩ => ⟨S_, .f32⟩
  | .hbm, ⟨39, _⟩ => ⟨S32x2048x4, .f32⟩
  | .hbm, ⟨40, _⟩ => ⟨S32x2048x4x1, .f32⟩
  | .hbm, ⟨41, _⟩ => ⟨S_, .f32⟩
  | .hbm, ⟨42, _⟩ => ⟨S32x2048x4x1, .f32⟩
  | .hbm, ⟨43, _⟩ => ⟨S32x2048x4x1, .f32⟩
  | .hbm, ⟨44, _⟩ => ⟨S_, .f32⟩
  | .hbm, ⟨45, _⟩ => ⟨S32x2048x4x1, .f32⟩
  | .hbm, ⟨46, _⟩ => ⟨S32x2048x4x1, .f32⟩
  | .hbm, ⟨47, _⟩ => ⟨S32x2048x4x1, .f32⟩
  | .hbm, ⟨48, _⟩ => ⟨S32x2048x4x128, .f32⟩
  | .hbm, ⟨49, _⟩ => ⟨S32x2048x4x128, .f32⟩
  | .hbm, ⟨50, _⟩ => ⟨S1x1x1x128, .f32⟩
  | .hbm, ⟨51, _⟩ => ⟨S32x2048x4x128, .f32⟩
  | .hbm, ⟨52, _⟩ => ⟨S32x2048x4x128, .f32⟩
  | .hbm, ⟨53, _⟩ => ⟨S32x2048x4x128, .f32⟩
  | .hbm, ⟨54, _⟩ => ⟨S32x2048x4x128, .f32⟩
  | .hbm, ⟨55, _⟩ => ⟨S_, .f32⟩
  | .hbm, ⟨56, _⟩ => ⟨S32x2048x4x128, .f32⟩
  | .hbm, ⟨57, _⟩ => ⟨S32x2048x4x128, .f32⟩
  | .hbm, ⟨58, _⟩ => ⟨S_, .f32⟩
  | .hbm, ⟨59, _⟩ => ⟨S32x2048x4x128, .f32⟩
  | .hbm, ⟨60, _⟩ => ⟨S32x2048x4x128, .f32⟩
  | .hbm, ⟨61, _⟩ => ⟨S32x2048x4x128, .f32⟩
  | .hbm, ⟨62, _⟩ => ⟨S32x2048x4x128, .f32⟩
  | .hbm, ⟨63, _⟩ => ⟨S32x2048x512, .f32⟩
  | .hbm, ⟨64, _⟩ => ⟨S32x2048x512, .f32⟩
  | .hbm, ⟨65, _⟩ => ⟨S32x2048x8x64, .f32⟩
  | .hbm, ⟨66, _⟩ => ⟨S32x2048x8x64, .f32⟩
  | .hbm, ⟨67, _⟩ => ⟨S8x1, .f32⟩
  | .hbm, ⟨68, _⟩ => ⟨S1x1x8x1, .f32⟩
  | .hbm, ⟨69, _⟩ => ⟨S32x2048x8x64, .f32⟩
  | .hbm, ⟨70, _⟩ => ⟨S32x2048x8x64, .f32⟩
  | .hbm, ⟨71, _⟩ => ⟨S32x2048x8x64, .f32⟩
  | .hbm, ⟨72, _⟩ => ⟨S32x2048x512, .f32⟩
  | .hbm, ⟨73, _⟩ => ⟨S32x2048x512, .f32⟩
  | .hbm, ⟨74, _⟩ => ⟨S32x2048x512, .f32⟩
  | .hbm, ⟨75, _⟩ => ⟨S_, .f32⟩
  | .hbm, ⟨76, _⟩ => ⟨S32x2048x512, .f32⟩
  | .hbm, ⟨77, _⟩ => ⟨S32x2048x512, .f32⟩
  | .hbm, ⟨78, _⟩ => ⟨S_, .f32⟩
  | .hbm, ⟨79, _⟩ => ⟨S32x2048x512, .f32⟩
  | .hbm, ⟨80, _⟩ => ⟨S32x2048x512, .f32⟩
  | .hbm, ⟨81, _⟩ => ⟨S32x2048x512, .f32⟩
  | .hbm, ⟨82, _⟩ => ⟨S32x2048x512, .f32⟩
  | .hbm, ⟨83, _⟩ => ⟨S32x2048x512, .f32⟩
  | .hbm, ⟨84, _⟩ => ⟨S_, .f32⟩
  | .hbm, ⟨85, _⟩ => ⟨S32x2048, .f32⟩
  | .hbm, ⟨86, _⟩ => ⟨S32x2048x1, .f32⟩
  | .hbm, ⟨87, _⟩ => ⟨S_, .f32⟩
  | .hbm, ⟨88, _⟩ => ⟨S32x2048x1, .f32⟩
  | .hbm, ⟨89, _⟩ => ⟨S32x2048x1, .f32⟩
  | .hbm, ⟨90, _⟩ => ⟨S_, .f32⟩
  | .hbm, ⟨91, _⟩ => ⟨S32x2048x1, .f32⟩
  | .hbm, ⟨92, _⟩ => ⟨S32x2048x1, .f32⟩
  | .hbm, ⟨93, _⟩ => ⟨S32x2048x1, .f32⟩
  | .hbm, ⟨94, _⟩ => ⟨S32x2048x512, .f32⟩
  | .hbm, ⟨95, _⟩ => ⟨S32x2048x512, .f32⟩
  | .hbm, ⟨96, _⟩ => ⟨S1x1x512, .f32⟩
  | .hbm, ⟨97, _⟩ => ⟨S32x2048x512, .f32⟩
  | .hbm, ⟨98, _⟩ => ⟨S32x2048x512, .f32⟩
  | .hbm, ⟨99, _⟩ => ⟨S32x2048x3072, .f32⟩
  | .hbm, ⟨100, _⟩ => ⟨S1x1x3072, .f32⟩
  | .hbm, ⟨101, _⟩ => ⟨S32x2048x3072, .f32⟩
  | .hbm, ⟨102, _⟩ => ⟨S32x2048x3072, .f32⟩
  | .hbm, ⟨103, _⟩ => ⟨S32x2048x3072, .f32⟩
  | .hbm, ⟨104, _⟩ => ⟨S32x2048x3072, .f32⟩
  | .hbm, ⟨105, _⟩ => ⟨S_, .f32⟩
  | .hbm, ⟨106, _⟩ => ⟨S32x2048x3072, .f32⟩
  | .hbm, ⟨107, _⟩ => ⟨S32x2048x3072, .f32⟩
  | .hbm, ⟨108, _⟩ => ⟨S_, .f32⟩
  | .hbm, ⟨109, _⟩ => ⟨S32x2048x3072, .f32⟩
  | .hbm, ⟨110, _⟩ => ⟨S32x2048x3072, .f32⟩
  | .hbm, ⟨111, _⟩ => ⟨S32x2048x1024, .f32⟩
  | .hbm, ⟨112, _⟩ => ⟨S32x2048x1024, .f32⟩
  | .hbm, ⟨113, _⟩ => ⟨S32x2048x1024, .f32⟩
  | .hbm, ⟨114, _⟩ => ⟨S32x2048x1024, .f32⟩
  | .hbm, ⟨115, _⟩ => ⟨S32x2048x1024, .f32⟩
  | .hbm, ⟨116, _⟩ => ⟨S32x2048x1024, .f32⟩
  | .hbm, ⟨117, _⟩ => ⟨S32x2048x1024, .f32⟩
  | .hbm, ⟨118, _⟩ => ⟨S32x2048x1024, .f32⟩
  | .hbm, ⟨119, _⟩ => ⟨S32x2048x1024, .f32⟩
  | .hbm, ⟨120, _⟩ => ⟨S32x2048x1024, .f32⟩
  | .hbm, ⟨121, _⟩ => ⟨S32x2048x1024, .f32⟩
  | .hbm, ⟨122, _⟩ => ⟨S32x2048x1024, .f32⟩
  | .hbm, ⟨123, _⟩ => ⟨S32x2048x1024, .f32⟩
  | .hbm, ⟨124, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_5 : Ref sig .tc := ⟨.hbm, 84, rfl⟩
abbrev main_v43 : Ref sig .tc := ⟨.hbm, 85, rfl⟩
abbrev main_v44 : Ref sig .tc := ⟨.hbm, 86, rfl⟩
abbrev main_cst_6 : Ref sig .tc := ⟨.hbm, 87, rfl⟩
abbrev main_v45 : Ref sig .tc := ⟨.hbm, 88, rfl⟩
abbrev main_v46 : Ref sig .tc := ⟨.hbm, 89, rfl⟩
abbrev main_cst_7 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_8 : Ref sig .tc := ⟨.hbm, 105, rfl⟩
abbrev main_v61 : Ref sig .tc := ⟨.hbm, 106, rfl⟩
abbrev main_v62 : Ref sig .tc := ⟨.hbm, 107, rfl⟩
abbrev main_cst_9 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩

abbrev nD : Nat := 1
abbrev τ : Topo := Topo.v7x

variable {F : FTy → Type} [FloatOps F]
-- ==== Tail.lean ====
abbrev S32x2048x1024 : Shape := ⟨3, ![32, 2048, 1024]⟩
abbrev S32x2048x4x128 : Shape := ⟨4, ![32, 2048, 4, 128]⟩
abbrev S32x2048x512 : Shape := ⟨3, ![32, 2048, 512]⟩
abbrev S32x2048x8x64 : Shape := ⟨4, ![32, 2048, 8, 64]⟩
abbrev S1024 : Shape := ⟨1, ![1024]⟩
abbrev S128 : Shape := ⟨1, ![128]⟩
abbrev S8 : Shape := ⟨1, ![8]⟩
abbrev S512 : Shape := ⟨1, ![512]⟩
abbrev S512x1024 : Shape := ⟨2, ![512, 1024]⟩
abbrev S1024x3072 : Shape := ⟨2, ![1024, 3072]⟩
abbrev S3072 : Shape := ⟨1, ![3072]⟩
abbrev S1024x1024 : Shape := ⟨2, ![1024, 1024]⟩
abbrev S1024x5632 : Shape := ⟨2, ![1024, 5632]⟩
abbrev S2816x1024 : Shape := ⟨2, ![2816, 1024]⟩
abbrev S65536x1024 : Shape := ⟨2, ![65536, 1024]⟩
abbrev S65536x512 : Shape := ⟨2, ![65536, 512]⟩
abbrev S1x1024 : Shape := ⟨2, ![1, 1024]⟩
abbrev S1x128 : Shape := ⟨2, ![1, 128]⟩
abbrev S8x64 : Shape := ⟨2, ![8, 64]⟩
abbrev S1x512 : Shape := ⟨2, ![1, 512]⟩
abbrev S1x3072 : Shape := ⟨2, ![1, 3072]⟩
abbrev S512x512 : Shape := ⟨2, ![512, 512]⟩
abbrev S512x1 : Shape := ⟨2, ![512, 1]⟩
abbrev S512x3072 : Shape := ⟨2, ![512, 3072]⟩
abbrev S512x128 : Shape := ⟨2, ![512, 128]⟩
abbrev S512x5632 : Shape := ⟨2, ![512, 5632]⟩
abbrev S512x2816 : Shape := ⟨2, ![512, 2816]⟩

abbrev nBuf : Space → Nat
  | .hbm => 54
  | .vmem => 38
  | .smem => 0
  | _ => 0

abbrev bufTy : (tb : Table) → Fin (tcTables nBuf tb) → BufTy
  | .hbm, ⟨0, _⟩ => ⟨S32x2048x1024, .f32⟩
  | .hbm, ⟨1, _⟩ => ⟨S32x2048x4x128, .f32⟩
  | .hbm, ⟨2, _⟩ => ⟨S32x2048x4x128, .f32⟩
  | .hbm, ⟨3, _⟩ => ⟨S32x2048x512, .f32⟩
  | .hbm, ⟨4, _⟩ => ⟨S32x2048x8x64, .f32⟩
  | .hbm, ⟨5, _⟩ => ⟨S32x2048x8x64, .f32⟩
  | .hbm, ⟨6, _⟩ => ⟨S32x2048x1024, .f32⟩
  | .hbm, ⟨7, _⟩ => ⟨S32x2048x512, .f32⟩
  | .hbm, ⟨8, _⟩ => ⟨S32x2048x512, .f32⟩
  | .hbm, ⟨9, _⟩ => ⟨S1024, .f32⟩
  | .hbm, ⟨10, _⟩ => ⟨S128, .f32⟩
  | .hbm, ⟨11, _⟩ => ⟨S8, .f32⟩
  | .hbm, ⟨12, _⟩ => ⟨S512, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S1024x3072, .f32⟩
  | .hbm, ⟨17, _⟩ => ⟨S3072, .f32⟩
  | .hbm, ⟨18, _⟩ => ⟨S1024x1024, .f32⟩
  | .hbm, ⟨19, _⟩ => ⟨S1024, .f32⟩
  | .hbm, ⟨20, _⟩ => ⟨S1024x5632, .f32⟩
  | .hbm, ⟨21, _⟩ => ⟨S2816x1024, .f32⟩
  | .hbm, ⟨22, _⟩ => ⟨S1024, .f32⟩
  | .hbm, ⟨23, _⟩ => ⟨S65536x1024, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S65536x512, .bf16⟩
  | .hbm, ⟨28, _⟩ => ⟨S65536x512, .f32⟩
  | .hbm, ⟨29, _⟩ => ⟨S65536x512, .f32⟩
  | .hbm, ⟨30, _⟩ => ⟨S65536x1024, .f32⟩
  | .hbm, ⟨31, _⟩ => ⟨S65536x1024, .bf16⟩
  | .hbm, ⟨32, _⟩ => ⟨S65536x512, .f32⟩
  | .hbm, ⟨33, _⟩ => ⟨S65536x512, .bf16⟩
  | .hbm, ⟨34, _⟩ => ⟨S65536x512, .f32⟩
  | .hbm, ⟨35, _⟩ => ⟨S65536x512, .bf16⟩
  | .hbm, ⟨36, _⟩ => ⟨S1x1024, .f32⟩
  | .hbm, ⟨37, _⟩ => ⟨S1x128, .f32⟩
  | .hbm, ⟨38, _⟩ => ⟨S8x64, .f32⟩
  | .hbm, ⟨39, _⟩ => ⟨S512, .f32⟩
  | .hbm, ⟨40, _⟩ => ⟨S1x512, .f32⟩
  | .hbm, ⟨41, _⟩ => ⟨S1x512, .f32⟩
  | .hbm, ⟨42, _⟩ => ⟨S512x1024, .bf16⟩
  | .hbm, ⟨43, _⟩ => ⟨S512x1024, .bf16⟩
  | .hbm, ⟨44, _⟩ => ⟨S512x1024, .bf16⟩
  | .hbm, ⟨45, _⟩ => ⟨S1024x3072, .bf16⟩
  | .hbm, ⟨46, _⟩ => ⟨S1x3072, .f32⟩
  | .hbm, ⟨47, _⟩ => ⟨S1024x1024, .bf16⟩
  | .hbm, ⟨48, _⟩ => ⟨S65536x1024, .f32⟩
  | .hbm, ⟨49, _⟩ => ⟨S1x1024, .f32⟩
  | .hbm, ⟨50, _⟩ => ⟨S1024x5632, .bf16⟩
  | .hbm, ⟨51, _⟩ => ⟨S2816x1024, .bf16⟩
  | .hbm, ⟨52, _⟩ => ⟨S1x1024, .f32⟩
  | .hbm, ⟨53, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S1x1024, .f32⟩
  | .local _ .vmem, ⟨19, _⟩ => ⟨S1x128, .f32⟩
  | .local _ .vmem, ⟨20, _⟩ => ⟨S1x512, .f32⟩
  | .local _ .vmem, ⟨21, _⟩ => ⟨S1x512, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x3072, .bf16⟩
  | .local _ .vmem, ⟨26, _⟩ => ⟨S1x3072, .f32⟩
  | .local _ .vmem, ⟨27, _⟩ => ⟨S1024x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S1x1024, .f32⟩
  | .local _ .vmem, ⟨33, _⟩ => ⟨S1024x5632, .bf16⟩
  | .local _ .vmem, ⟨34, _⟩ => ⟨S2816x1024, .bf16⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg2_0 : Ref sig .tc := ⟨.vmem, 33, rfl⟩
abbrev cc1_stg3_0 : Ref sig .tc := ⟨.vmem, 34, rfl⟩
abbrev cc1_stg4_0 : Ref sig .tc := ⟨.vmem, 35, rfl⟩
abbrev cc1_stg5_0 : Ref sig .tc := ⟨.vmem, 36, rfl⟩
abbrev cc1_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29
abbrev cc1_sem0_0 : DmaSem sig := 30
abbrev cc1_sem0_1 : DmaSem sig := 31
abbrev cc1_sem1_0 : DmaSem sig := 32
abbrev cc1_sem2_0 : DmaSem sig := 33
abbrev cc1_sem3_0 : DmaSem sig := 34
abbrev cc1_sem4_0 : DmaSem sig := 35
abbrev cc1_sem5_0 : DmaSem sig := 36
abbrev cc1_sem5_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x3072 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x5632 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== TailReferenceIdeal.lean ====
abbrev S32x2048x1024 : Shape := ⟨3, ![32, 2048, 1024]⟩
abbrev S32x2048x4x128 : Shape := ⟨4, ![32, 2048, 4, 128]⟩
abbrev S32x2048x512 : Shape := ⟨3, ![32, 2048, 512]⟩
abbrev S32x2048x8x64 : Shape := ⟨4, ![32, 2048, 8, 64]⟩
abbrev S1024 : Shape := ⟨1, ![1024]⟩
abbrev S128 : Shape := ⟨1, ![128]⟩
abbrev S8 : Shape := ⟨1, ![8]⟩
abbrev S512 : Shape := ⟨1, ![512]⟩
abbrev S512x1024 : Shape := ⟨2, ![512, 1024]⟩
abbrev S1024x3072 : Shape := ⟨2, ![1024, 3072]⟩
abbrev S3072 : Shape := ⟨1, ![3072]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩
abbrev S8x1 : Shape := ⟨2, ![8, 1]⟩
abbrev S1x1x8x1 : Shape := ⟨4, ![1, 1, 8, 1]⟩
abbrev S1x1x512 : Shape := ⟨3, ![1, 1, 512]⟩
abbrev S32x2048x3072 : Shape := ⟨3, ![32, 2048, 3072]⟩
abbrev S1x1x3072 : Shape := ⟨3, ![1, 1, 3072]⟩
abbrev S65536x1024 : Shape := ⟨2, ![65536, 1024]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 179
  | .vmem => 0
  | .smem => 0
  | _ => 0

abbrev hbmTy0_0 (i : Nat) : BufTy := match i % 128 with
  | 0 => ⟨S32x2048x1024, .f32⟩
  | 1 => ⟨S32x2048x4x128, .f32⟩
  | 2 => ⟨S32x2048x4x128, .f32⟩
  | 3 => ⟨S32x2048x512, .f32⟩
  | 4 => ⟨S32x2048x8x64, .f32⟩
  | 5 => ⟨S32x2048x8x64, .f32⟩
  | 6 => ⟨S32x2048x1024, .f32⟩
  | 7 => ⟨S32x2048x512, .f32⟩
  | 8 => ⟨S32x2048x512, .f32⟩
  | 9 => ⟨S1024, .f32⟩
  | 10 => ⟨S128, .f32⟩
  | 11 => ⟨S8, .f32⟩
  | 12 => ⟨S512, .f32⟩
  | 13 => ⟨S512x1024, .f32⟩
  | 14 => ⟨S512x1024, .f32⟩
  | 15 => ⟨S512x1024, .f32⟩
  | 16 => ⟨S1024x3072, .f32⟩
  | 17 => ⟨S3072, .f32⟩
  | 18 => ⟨S1024x1024, .f32⟩
  | 19 => ⟨S1024, .f32⟩
  | 20 => ⟨S1024x5632, .f32⟩
  | 21 => ⟨S2816x1024, .f32⟩
  | 22 => ⟨S1024, .f32⟩
  | 23 => ⟨S32x2048x1024, .f32⟩
  | 24 => ⟨S_, .f32⟩
  | 25 => ⟨S32x2048, .f32⟩
  | 26 => ⟨S32x2048x1, .f32⟩
  | 27 => ⟨S_, .f32⟩
  | 28 => ⟨S32x2048x1, .f32⟩
  | 29 => ⟨S32x2048x1, .f32⟩
  | 30 => ⟨S_, .f32⟩
  | 31 => ⟨S32x2048x1, .f32⟩
  | 32 => ⟨S32x2048x1, .f32⟩
  | 33 => ⟨S32x2048x1, .f32⟩
  | 34 => ⟨S32x2048x1024, .f32⟩
  | 35 => ⟨S32x2048x1024, .f32⟩
  | 36 => ⟨S1x1x1024, .f32⟩
  | 37 => ⟨S32x2048x1024, .f32⟩
  | 38 => ⟨S32x2048x1024, .f32⟩
  | 39 => ⟨S32x2048x4x128, .f32⟩
  | 40 => ⟨S32x2048x4x128, .f32⟩
  | 41 => ⟨S32x2048x4x128, .f32⟩
  | 42 => ⟨S_, .f32⟩
  | 43 => ⟨S32x2048x4, .f32⟩
  | 44 => ⟨S32x2048x4x1, .f32⟩
  | 45 => ⟨S_, .f32⟩
  | 46 => ⟨S32x2048x4x1, .f32⟩
  | 47 => ⟨S32x2048x4x1, .f32⟩
  | 48 => ⟨S_, .f32⟩
  | 49 => ⟨S32x2048x4x1, .f32⟩
  | 50 => ⟨S32x2048x4x1, .f32⟩
  | 51 => ⟨S32x2048x4x1, .f32⟩
  | 52 => ⟨S32x2048x4x128, .f32⟩
  | 53 => ⟨S32x2048x4x128, .f32⟩
  | 54 => ⟨S1x1x1x128, .f32⟩
  | 55 => ⟨S32x2048x4x128, .f32⟩
  | 56 => ⟨S32x2048x4x128, .f32⟩
  | 57 => ⟨S32x2048x4x128, .f32⟩
  | 58 => ⟨S32x2048x4x128, .f32⟩
  | 59 => ⟨S_, .f32⟩
  | 60 => ⟨S32x2048x4x128, .f32⟩
  | 61 => ⟨S32x2048x4x128, .f32⟩
  | 62 => ⟨S_, .f32⟩
  | 63 => ⟨S32x2048x4x128, .f32⟩
  | 64 => ⟨S32x2048x4x128, .f32⟩
  | 65 => ⟨S32x2048x4x128, .f32⟩
  | 66 => ⟨S32x2048x4x128, .f32⟩
  | 67 => ⟨S32x2048x512, .f32⟩
  | 68 => ⟨S32x2048x512, .f32⟩
  | 69 => ⟨S32x2048x8x64, .f32⟩
  | 70 => ⟨S32x2048x8x64, .f32⟩
  | 71 => ⟨S8x1, .f32⟩
  | 72 => ⟨S1x1x8x1, .f32⟩
  | 73 => ⟨S32x2048x8x64, .f32⟩
  | 74 => ⟨S32x2048x8x64, .f32⟩
  | 75 => ⟨S32x2048x8x64, .f32⟩
  | 76 => ⟨S32x2048x512, .f32⟩
  | 77 => ⟨S32x2048x512, .f32⟩
  | 78 => ⟨S32x2048x512, .f32⟩
  | 79 => ⟨S_, .f32⟩
  | 80 => ⟨S32x2048x512, .f32⟩
  | 81 => ⟨S32x2048x512, .f32⟩
  | 82 => ⟨S_, .f32⟩
  | 83 => ⟨S32x2048x512, .f32⟩
  | 84 => ⟨S32x2048x512, .f32⟩
  | 85 => ⟨S32x2048x512, .f32⟩
  | 86 => ⟨S32x2048x512, .f32⟩
  | 87 => ⟨S32x2048x512, .f32⟩
  | 88 => ⟨S_, .f32⟩
  | 89 => ⟨S32x2048, .f32⟩
  | 90 => ⟨S32x2048x1, .f32⟩
  | 91 => ⟨S_, .f32⟩
  | 92 => ⟨S32x2048x1, .f32⟩
  | 93 => ⟨S32x2048x1, .f32⟩
  | 94 => ⟨S_, .f32⟩
  | 95 => ⟨S32x2048x1, .f32⟩
  | 96 => ⟨S32x2048x1, .f32⟩
  | 97 => ⟨S32x2048x1, .f32⟩
  | 98 => ⟨S32x2048x512, .f32⟩
  | 99 => ⟨S32x2048x512, .f32⟩
  | 100 => ⟨S1x1x512, .f32⟩
  | 101 => ⟨S32x2048x512, .f32⟩
  | 102 => ⟨S32x2048x512, .f32⟩
  | 103 => ⟨S32x2048x3072, .f32⟩
  | 104 => ⟨S1x1x3072, .f32⟩
  | 105 => ⟨S32x2048x3072, .f32⟩
  | 106 => ⟨S32x2048x3072, .f32⟩
  | 107 => ⟨S32x2048x3072, .f32⟩
  | 108 => ⟨S32x2048x3072, .f32⟩
  | 109 => ⟨S_, .f32⟩
  | 110 => ⟨S32x2048x3072, .f32⟩
  | 111 => ⟨S32x2048x3072, .f32⟩
  | 112 => ⟨S_, .f32⟩
  | 113 => ⟨S32x2048x3072, .f32⟩
  | 114 => ⟨S32x2048x3072, .f32⟩
  | 115 => ⟨S32x2048x1024, .f32⟩
  | 116 => ⟨S32x2048x1024, .f32⟩
  | 117 => ⟨S32x2048x1024, .f32⟩
  | 118 => ⟨S32x2048x1024, .f32⟩
  | 119 => ⟨S32x2048x1024, .f32⟩
  | 120 => ⟨S32x2048x1024, .f32⟩
  | 121 => ⟨S32x2048x1024, .f32⟩
  | 122 => ⟨S32x2048x1024, .f32⟩
  | 123 => ⟨S32x2048x1024, .f32⟩
  | 124 => ⟨S32x2048x1024, .f32⟩
  | 125 => ⟨S32x2048x1024, .f32⟩
  | 126 => ⟨S32x2048x1024, .f32⟩
  | 127 => ⟨S32x2048x1024, .f32⟩
  | _ => ⟨S32x2048x1024, .f32⟩

abbrev hbmTy0_1 (i : Nat) : BufTy := match i % 128 with
  | 0 => ⟨S65536x1024, .f32⟩
  | 1 => ⟨S65536x1024, .f32⟩
  | 2 => ⟨S_, .f32⟩
  | 3 => ⟨S65536, .f32⟩
  | 4 => ⟨S65536x1, .f32⟩
  | 5 => ⟨S_, .f32⟩
  | 6 => ⟨S65536x1, .f32⟩
  | 7 => ⟨S65536x1, .f32⟩
  | 8 => ⟨S_, .f32⟩
  | 9 => ⟨S65536x1, .f32⟩
  | 10 => ⟨S65536x1, .f32⟩
  | 11 => ⟨S65536x1, .f32⟩
  | 12 => ⟨S65536x1024, .f32⟩
  | 13 => ⟨S65536x1024, .f32⟩
  | 14 => ⟨S1x1024, .f32⟩
  | 15 => ⟨S65536x1024, .f32⟩
  | 16 => ⟨S65536x1024, .f32⟩
  | 17 => ⟨S65536x5632, .f32⟩
  | 18 => ⟨S65536x2816, .f32⟩
  | 19 => ⟨S65536x2816, .f32⟩
  | 20 => ⟨S65536x2816, .f32⟩
  | 21 => ⟨S65536x2816, .f32⟩
  | 22 => ⟨S_, .f32⟩
  | 23 => ⟨S65536x2816, .f32⟩
  | 24 => ⟨S65536x2816, .f32⟩
  | 25 => ⟨S_, .f32⟩
  | 26 => ⟨S65536x2816, .f32⟩
  | 27 => ⟨S65536x2816, .f32⟩
  | 28 => ⟨S65536x2816, .f32⟩
  | 29 => ⟨S65536x2816, .f32⟩
  | 30 => ⟨S65536x1024, .f32⟩
  | 31 => ⟨S_, .f32⟩
  | 32 => ⟨S65536x1024, .f32⟩
  | 33 => ⟨S65536x1024, .f32⟩
  | 34 => ⟨S65536x1024, .f32⟩
  | 35 => ⟨S65536x1024, .f32⟩
  | 36 => ⟨S_, .f32⟩
  | 37 => ⟨S65536, .f32⟩
  | 38 => ⟨S65536x1, .f32⟩
  | 39 => ⟨S_, .f32⟩
  | 40 => ⟨S65536x1, .f32⟩
  | 41 => ⟨S65536x1, .f32⟩
  | 42 => ⟨S_, .f32⟩
  | 43 => ⟨S65536x1, .f32⟩
  | 44 => ⟨S65536x1, .f32⟩
  | 45 => ⟨S65536x1, .f32⟩
  | 46 => ⟨S65536x1024, .f32⟩
  | 47 => ⟨S65536x1024, .f32⟩
  | 48 => ⟨S1x1024, .f32⟩
  | 49 => ⟨S65536x1024, .f32⟩
  | 50 => ⟨S65536x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_v2 : Ref sig .tc := ⟨.hbm, 26, rfl⟩
abbrev main_cst_0 : Ref sig .tc := ⟨.hbm, 27, rfl⟩
abbrev main_v3 : Ref sig .tc := ⟨.hbm, 28, rfl⟩
abbrev main_v4 : Ref sig .tc := ⟨.hbm, 29, rfl⟩
abbrev main_cst_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_cst_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_5 : Ref sig .tc := ⟨.hbm, 88, rfl⟩
abbrev main_v43 : Ref sig .tc := ⟨.hbm, 89, rfl⟩
abbrev main_v44 : Ref sig .tc := ⟨.hbm, 90, rfl⟩
abbrev main_cst_6 : Ref sig .tc := ⟨.hbm, 91, rfl⟩
abbrev main_v45 : Ref sig .tc := ⟨.hbm, 92, rfl⟩
abbrev main_v46 : Ref sig .tc := ⟨.hbm, 93, rfl⟩
abbrev main_cst_7 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_8 : Ref sig .tc := ⟨.hbm, 109, rfl⟩
abbrev main_v61 : Ref sig .tc := ⟨.hbm, 110, rfl⟩
abbrev main_v62 : Ref sig .tc := ⟨.hbm, 111, rfl⟩
abbrev main_cst_9 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_10 : Ref sig .tc := ⟨.hbm, 130, rfl⟩
abbrev main_v80 : Ref sig .tc := ⟨.hbm, 131, rfl⟩
abbrev main_v81 : Ref sig .tc := ⟨.hbm, 132, rfl⟩
abbrev main_cst_11 : Ref sig .tc := ⟨.hbm, 133, rfl⟩
abbrev main_v82 : Ref sig .tc := ⟨.hbm, 134, rfl⟩
abbrev main_v83 : Ref sig .tc := ⟨.hbm, 135, rfl⟩
abbrev main_cst_12 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_call2_v0 : Ref sig .tc := ⟨.hbm, 148, rfl⟩
abbrev main_call2_v1 : Ref sig .tc := ⟨.hbm, 149, rfl⟩
abbrev main_call2_cst : Ref sig .tc := ⟨.hbm, 150, rfl⟩
abbrev main_call2_v2 : Ref sig .tc := ⟨.hbm, 151, rfl⟩
abbrev main_call2_v3 : Ref sig .tc := ⟨.hbm, 152, rfl⟩
abbrev main_call2_cst_0 : Ref sig .tc := ⟨.hbm, 153, rfl⟩
abbrev main_call2_v4 : Ref sig .tc := ⟨.hbm, 154, rfl⟩
abbrev main_call2_v5 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_13 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_14 : Ref sig .tc := ⟨.hbm, 164, rfl⟩
abbrev main_v102 : Ref sig .tc := ⟨.hbm, 165, rfl⟩
abbrev main_v103 : Ref sig .tc := ⟨.hbm, 166, rfl⟩
abbrev main_cst_15 : Ref sig .tc := ⟨.hbm, 167, rfl⟩
abbrev main_v104 : Ref sig .tc := ⟨.hbm, 168, rfl⟩
abbrev main_v105 : Ref sig .tc := ⟨.hbm, 169, rfl⟩
abbrev main_cst_16 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩

abbrev nD : Nat := 1
abbrev τ : Topo := Topo.v7x

variable {F : FTy → Type} [FloatOps F]
-- ==== Mix.lean ====
abbrev S32x2048x1024 : Shape := ⟨3, ![32, 2048, 1024]⟩
abbrev S1024 : Shape := ⟨1, ![1024]⟩
abbrev S1024x4192 : Shape := ⟨2, ![1024, 4192]⟩
abbrev S5x1536 : Shape := ⟨2, ![5, 1536]⟩
abbrev S2x4 : Shape := ⟨2, ![2, 4]⟩
abbrev S5x1024 : Shape := ⟨2, ![5, 1024]⟩
abbrev S2x8 : Shape := ⟨2, ![2, 8]⟩
abbrev S256 : Shape := ⟨1, ![256]⟩
abbrev S256x768 : Shape := ⟨2, ![256, 768]⟩
abbrev S256x1024 : Shape := ⟨2, ![256, 1024]⟩
abbrev S1024x1536 : Shape := ⟨2, ![1024, 1536]⟩
abbrev S1024x512 : Shape := ⟨2, ![1024, 512]⟩
abbrev S1024x16 : Shape := ⟨2, ![1024, 16]⟩
abbrev S1024x1024 : Shape := ⟨2, ![1024, 1024]⟩
abbrev S1024x256 : Shape := ⟨2, ![1024, 256]⟩
abbrev S1024x64 : Shape := ⟨2, ![1024, 64]⟩
abbrev S1024x2560 : Shape := ⟨2, ![1024, 2560]⟩
abbrev S_ : Shape := ⟨0, ![]⟩
abbrev S1024x96 : Shape := ⟨2, ![1024, 96]⟩
abbrev S1024x32 : Shape := ⟨2, ![1024, 32]⟩
abbrev S256x4x192 : Shape := ⟨3, ![256, 4, 192]⟩
abbrev S256x4x64 : Shape := ⟨3, ![256, 4, 64]⟩
abbrev S256x4x32 : Shape := ⟨3, ![256, 4, 32]⟩
abbrev S256x4x256 : Shape := ⟨3, ![256, 4, 256]⟩
abbrev S1x1024 : Shape := ⟨2, ![1, 1024]⟩
abbrev S3x1536 : Shape := ⟨2, ![3, 1536]⟩
abbrev S8x1536 : Shape := ⟨2, ![8, 1536]⟩
abbrev S8 : Shape := ⟨1, ![8]⟩
abbrev S1x128 : Shape := ⟨2, ![1, 128]⟩
abbrev S1 : Shape := ⟨1, ![1]⟩
abbrev S2 : Shape := ⟨1, ![2]⟩
abbrev S3x1024 : Shape := ⟨2, ![3, 1024]⟩
abbrev S8x1024 : Shape := ⟨2, ![8, 1024]⟩
abbrev S16 : Shape := ⟨1, ![16]⟩
abbrev S1x256 : Shape := ⟨2, ![1, 256]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S32x2048x512 : Shape := ⟨3, ![32, 2048, 512]⟩
abbrev S32x2048x128 : Shape := ⟨3, ![32, 2048, 128]⟩
abbrev S32x4x2048x256 : Shape := ⟨4, ![32, 4, 2048, 256]⟩
abbrev S1x512x1024 : Shape := ⟨3, ![1, 512, 1024]⟩
abbrev S1x8x1024 : Shape := ⟨3, ![1, 8, 1024]⟩
abbrev S512x128 : Shape := ⟨2, ![512, 128]⟩
abbrev S1x512x512 : Shape := ⟨3, ![1, 512, 512]⟩
abbrev S1x512x128 : Shape := ⟨3, ![1, 512, 128]⟩
abbrev S1x4x512x256 : Shape := ⟨4, ![1, 4, 512, 256]⟩
abbrev S512x1024 : Shape := ⟨2, ![512, 1024]⟩
abbrev S528x1024 : Shape := ⟨2, ![528, 1024]⟩
abbrev S528 : Shape := ⟨1, ![528]⟩
abbrev S528x1 : Shape := ⟨2, ![528, 1]⟩
abbrev S528x512 : Shape := ⟨2, ![528, 512]⟩
abbrev S8x512 : Shape := ⟨2, ![8, 512]⟩
abbrev S512x512 : Shape := ⟨2, ![512, 512]⟩
abbrev S66x8x512 : Shape := ⟨3, ![66, 8, 512]⟩
abbrev S64x8x512 : Shape := ⟨3, ![64, 8, 512]⟩
abbrev S1x512 : Shape := ⟨2, ![1, 512]⟩
abbrev S1x1x512 : Shape := ⟨3, ![1, 1, 512]⟩
abbrev S512 : Shape := ⟨1, ![512]⟩
abbrev S512x1 : Shape := ⟨2, ![512, 1]⟩
abbrev S528x256 : Shape := ⟨2, ![528, 256]⟩
abbrev S512x256 : Shape := ⟨2, ![512, 256]⟩
abbrev S528x1536 : Shape := ⟨2, ![528, 1536]⟩
abbrev S512x1536 : Shape := ⟨2, ![512, 1536]⟩
abbrev S1x1x512x128 : Shape := ⟨4, ![1, 1, 512, 128]⟩

abbrev nBuf : Space → Nat
  | .hbm => 130
  | .vmem => 53
  | .smem => 0
  | _ => 0

abbrev hbmTy0_0 (i : Nat) : BufTy := match i % 128 with
  | 0 => ⟨S32x2048x1024, .f32⟩
  | 1 => ⟨S1024, .f32⟩
  | 2 => ⟨S1024x4192, .f32⟩
  | 3 => ⟨S5x1536, .f32⟩
  | 4 => ⟨S2x4, .f32⟩
  | 5 => ⟨S2x4, .f32⟩
  | 6 => ⟨S5x1024, .f32⟩
  | 7 => ⟨S1024, .f32⟩
  | 8 => ⟨S2x8, .f32⟩
  | 9 => ⟨S2x8, .f32⟩
  | 10 => ⟨S256, .f32⟩
  | 11 => ⟨S256x768, .f32⟩
  | 12 => ⟨S256, .f32⟩
  | 13 => ⟨S256x1024, .f32⟩
  | 14 => ⟨S1024x1536, .f32⟩
  | 15 => ⟨S1024x512, .f32⟩
  | 16 => ⟨S1024x16, .f32⟩
  | 17 => ⟨S1024x512, .f32⟩
  | 18 => ⟨S1024x1024, .f32⟩
  | 19 => ⟨S1024x16, .f32⟩
  | 20 => ⟨S1024x256, .f32⟩
  | 21 => ⟨S1024x256, .f32⟩
  | 22 => ⟨S1024x64, .f32⟩
  | 23 => ⟨S1024x2560, .f32⟩
  | 24 => ⟨S1024x1536, .f32⟩
  | 25 => ⟨S_, .f32⟩
  | 26 => ⟨S1024x96, .f32⟩
  | 27 => ⟨S1024x32, .f32⟩
  | 28 => ⟨S1024x32, .f32⟩
  | 29 => ⟨S1024x32, .f32⟩
  | 30 => ⟨S1024x64, .f32⟩
  | 31 => ⟨S1024x256, .f32⟩
  | 32 => ⟨S256x4x192, .f32⟩
  | 33 => ⟨S256x4x64, .f32⟩
  | 34 => ⟨S256x4x32, .f32⟩
  | 35 => ⟨S256x4x32, .f32⟩
  | 36 => ⟨S256x4x32, .f32⟩
  | 37 => ⟨S256x4x64, .f32⟩
  | 38 => ⟨S256x4x256, .f32⟩
  | 39 => ⟨S256x1024, .f32⟩
  | 40 => ⟨S1x1024, .f32⟩
  | 41 => ⟨S1024x2560, .bf16⟩
  | 42 => ⟨S1024x1536, .bf16⟩
  | 43 => ⟨S1024x256, .bf16⟩
  | 44 => ⟨S_, .f32⟩
  | 45 => ⟨S3x1536, .f32⟩
  | 46 => ⟨S8x1536, .f32⟩
  | 47 => ⟨S8, .f32⟩
  | 48 => ⟨S_, .f32⟩
  | 49 => ⟨S1x128, .f32⟩
  | 50 => ⟨S_, .i32⟩
  | 51 => ⟨S1, .i32⟩
  | 52 => ⟨S_, .i32⟩
  | 53 => ⟨S1, .i32⟩
  | 54 => ⟨S2, .i32⟩
  | 55 => ⟨S1x128, .f32⟩
  | 56 => ⟨S8, .f32⟩
  | 57 => ⟨S_, .f32⟩
  | 58 => ⟨S1x128, .f32⟩
  | 59 => ⟨S_, .i32⟩
  | 60 => ⟨S1, .i32⟩
  | 61 => ⟨S_, .i32⟩
  | 62 => ⟨S1, .i32⟩
  | 63 => ⟨S2, .i32⟩
  | 64 => ⟨S1x128, .f32⟩
  | 65 => ⟨S_, .f32⟩
  | 66 => ⟨S3x1024, .f32⟩
  | 67 => ⟨S8x1024, .f32⟩
  | 68 => ⟨S1x1024, .f32⟩
  | 69 => ⟨S16, .f32⟩
  | 70 => ⟨S_, .f32⟩
  | 71 => ⟨S1x128, .f32⟩
  | 72 => ⟨S_, .i32⟩
  | 73 => ⟨S1, .i32⟩
  | 74 => ⟨S_, .i32⟩
  | 75 => ⟨S1, .i32⟩
  | 76 => ⟨S2, .i32⟩
  | 77 => ⟨S1x128, .f32⟩
  | 78 => ⟨S16, .f32⟩
  | 79 => ⟨S_, .f32⟩
  | 80 => ⟨S1x128, .f32⟩
  | 81 => ⟨S_, .i32⟩
  | 82 => ⟨S1, .i32⟩
  | 83 => ⟨S_, .i32⟩
  | 84 => ⟨S1, .i32⟩
  | 85 => ⟨S2, .i32⟩
  | 86 => ⟨S1x128, .f32⟩
  | 87 => ⟨S1x256, .f32⟩
  | 88 => ⟨S1x256, .f32⟩
  | 89 => ⟨S256x1024, .bf16⟩
  | 90 => ⟨S256x1024, .bf16⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S2048, .f32⟩
  | 106 => ⟨S2048x1, .f32⟩
  | 107 => ⟨S1x32, .f32⟩
  | 108 => ⟨S2048x32, .f32⟩
  | 109 => ⟨S2048x32, .f32⟩
  | 110 => ⟨S2048x32, .f32⟩
  | 111 => ⟨S2048x64, .f32⟩
  | 112 => ⟨S2048x64, .f32⟩
  | 113 => ⟨S2048x64, .f32⟩
  | 114 => ⟨S2048x128, .f32⟩
  | 115 => ⟨S32x2048x512, .bf16⟩
  | 116 => ⟨S32x2048x512, .bf16⟩
  | 117 => ⟨S32x2048x512, .bf16⟩
  | 118 => ⟨S32x2048x128, .f32⟩
  | 119 => ⟨S32x2048x512, .bf16⟩
  | 120 => ⟨S32x2048x512, .bf16⟩
  | 121 => ⟨S32x2048x1024, .bf16⟩
  | 122 => ⟨S32x2048x128, .f32⟩
  | 123 => ⟨S32x2048x512, .bf16⟩
  | 124 => ⟨S32x2048x512, .bf16⟩
  | 125 => ⟨S32x2048x512, .f32⟩
  | 126 => ⟨S32x2048x512, .f32⟩
  | 127 => ⟨S32x4x2048x256, .bf16⟩
  | _ => ⟨S32x2048x1024, .f32⟩

abbrev hbmTy0_1 (i : Nat) : BufTy := match i % 128 with
  | 0 => ⟨S32x4x2048x256, .bf16⟩
  | 1 => ⟨S32x4x2048x256, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1024x2560, .bf16⟩
  | .local _ .vmem, ⟨10, _⟩ => ⟨S1024x1536, .bf16⟩
  | .local _ .vmem, ⟨11, _⟩ => ⟨S1024x256, .bf16⟩
  | .local _ .vmem, ⟨12, _⟩ => ⟨S8x1536, .f32⟩
  | .local _ .vmem, ⟨13, _⟩ => ⟨S1x128, .f32⟩
  | .local _ .vmem, ⟨14, _⟩ => ⟨S1x128, .f32⟩
  | .local _ .vmem, ⟨15, _⟩ => ⟨S8x1024, .f32⟩
  | .local _ .vmem, ⟨16, _⟩ => ⟨S1x1024, .f32⟩
  | .local _ .vmem, ⟨17, _⟩ => ⟨S1x128, .f32⟩
  | .local _ .vmem, ⟨18, _⟩ => ⟨S1x128, .f32⟩
  | .local _ .vmem, ⟨19, _⟩ => ⟨S1x256, .f32⟩
  | .local _ .vmem, ⟨20, _⟩ => ⟨S1x256, .f32⟩
  | .local _ .vmem, ⟨21, _⟩ => ⟨S256x1024, .bf16⟩
  | .local _ .vmem, ⟨22, _⟩ => ⟨S256x1024, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x128, .f32⟩
  | .local _ .vmem, ⟨30, _⟩ => ⟨S1x512x128, .f32⟩
  | .local _ .vmem, ⟨31, _⟩ => ⟨S1x512x512, .bf16⟩
  | .local _ .vmem, ⟨32, _⟩ => ⟨S1x512x512, .bf16⟩
  | .local _ .vmem, ⟨33, _⟩ => ⟨S1x512x512, .bf16⟩
  | .local _ .vmem, ⟨34, _⟩ => ⟨S1x512x512, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x512x128, .f32⟩
  | .local _ .vmem, ⟨38, _⟩ => ⟨S1x512x128, .f32⟩
  | .local _ .vmem, ⟨39, _⟩ => ⟨S1x512x512, .bf16⟩
  | .local _ .vmem, ⟨40, _⟩ => ⟨S1x512x512, .bf16⟩
  | .local _ .vmem, ⟨41, _⟩ => ⟨S1x512x512, .bf16⟩
  | .local _ .vmem, ⟨42, _⟩ => ⟨S1x512x512, .bf16⟩
  | .local _ .vmem, ⟨43, _⟩ => ⟨S1x512x512, .f32⟩
  | .local _ .vmem, ⟨44, _⟩ => ⟨S1x512x512, .f32⟩
  | .local _ .vmem, ⟨45, _⟩ => ⟨S1x512x512, .f32⟩
  | .local _ .vmem, ⟨46, _⟩ => ⟨S1x512x512, .f32⟩
  | .local _ .vmem, ⟨47, _⟩ => ⟨S1x4x512x256, .bf16⟩
  | .local _ .vmem, ⟨48, _⟩ => ⟨S1x4x512x256, .bf16⟩
  | .local _ .vmem, ⟨49, _⟩ => ⟨S1x4x512x256, .bf16⟩
  | .local _ .vmem, ⟨50, _⟩ => ⟨S1x4x512x256, .bf16⟩
  | .local _ .vmem, ⟨51, _⟩ => ⟨S1x4x512x256, .bf16⟩
  | .local _ .vmem, ⟨52, _⟩ => ⟨S1x4x512x256, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_c : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_cst_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82_0 : Ref sig .tc := ⟨.hbm, 115, rfl⟩
abbrev main_v82_1 : Ref sig .tc := ⟨.hbm, 116, rfl⟩
abbrev main_v82_2 : Ref sig .tc := ⟨.hbm, 117, rfl⟩
abbrev main_v82_3 : Ref sig .tc := ⟨.hbm, 118, rfl⟩
abbrev main_v82_4 : Ref sig .tc := ⟨.hbm, 119, rfl⟩
abbrev main_v82_5 : Ref sig .tc := ⟨.hbm, 120, rfl⟩
abbrev main_v82_6 : Ref sig .tc := ⟨.hbm, 121, rfl⟩
abbrev main_v82_7 : Ref sig .tc := ⟨.hbm, 122, rfl⟩
abbrev main_v82_8 : Ref sig .tc := ⟨.hbm, 123, rfl⟩
abbrev main_v82_9 : Ref sig .tc := ⟨.hbm, 124, rfl⟩
abbrev main_v82_10 : Ref sig .tc := ⟨.hbm, 125, rfl⟩
abbrev main_v82_11 : Ref sig .tc := ⟨.hbm, 126, rfl⟩
abbrev main_v82_12 : Ref sig .tc := ⟨.hbm, 127, rfl⟩
abbrev main_v82_13 : Ref sig .tc := ⟨.hbm, 128, rfl⟩
abbrev main_v82_14 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_stg29_0 : Ref sig .tc := ⟨.vmem, 43, rfl⟩
abbrev cc0_stg29_1 : Ref sig .tc := ⟨.vmem, 44, rfl⟩
abbrev cc0_stg30_0 : Ref sig .tc := ⟨.vmem, 45, rfl⟩
abbrev cc0_stg30_1 : Ref sig .tc := ⟨.vmem, 46, rfl⟩
abbrev cc0_stg31_0 : Ref sig .tc := ⟨.vmem, 47, rfl⟩
abbrev cc0_stg31_1 : Ref sig .tc := ⟨.vmem, 48, rfl⟩
abbrev cc0_stg32_0 : Ref sig .tc := ⟨.vmem, 49, rfl⟩
abbrev cc0_stg32_1 : Ref sig .tc := ⟨.vmem, 50, rfl⟩
abbrev cc0_stg33_0 : Ref sig .tc := ⟨.vmem, 51, rfl⟩
abbrev cc0_stg33_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem28_1 : DmaSem sig := 42
abbrev cc0_sem29_0 : DmaSem sig := 43
abbrev cc0_sem29_1 : DmaSem sig := 44
abbrev cc0_sem30_0 : DmaSem sig := 45
abbrev cc0_sem30_1 : DmaSem sig := 46
abbrev cc0_sem31_0 : DmaSem sig := 47
abbrev cc0_sem31_1 : DmaSem sig := 48
abbrev cc0_sem32_0 : DmaSem sig := 49
abbrev cc0_sem32_1 : DmaSem sig := 50
abbrev cc0_sem33_0 : DmaSem sig := 51
abbrev cc0_sem33_1 : DmaSem sig := 52

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_31 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_32 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_33 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x512 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x512x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x512x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x4x512x256 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x4x512x256 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x4x512x256 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]
-- ==== MixReferenceIdeal.lean ====
abbrev S32x2048x1024 : Shape := ⟨3, ![32, 2048, 1024]⟩
abbrev S1024 : Shape := ⟨1, ![1024]⟩
abbrev S1024x4192 : Shape := ⟨2, ![1024, 4192]⟩
abbrev S5x1536 : Shape := ⟨2, ![5, 1536]⟩
abbrev S2x4 : Shape := ⟨2, ![2, 4]⟩
abbrev S5x1024 : Shape := ⟨2, ![5, 1024]⟩
abbrev S2x8 : Shape := ⟨2, ![2, 8]⟩
abbrev S256 : Shape := ⟨1, ![256]⟩
abbrev S256x768 : Shape := ⟨2, ![256, 768]⟩
abbrev S256x1024 : Shape := ⟨2, ![256, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4192 : Shape := ⟨3, ![32, 2048, 4192]⟩
abbrev S32x2048x2064 : Shape := ⟨3, ![32, 2048, 2064]⟩
abbrev S32x2048x2128 : Shape := ⟨3, ![32, 2048, 2128]⟩
abbrev S32x2048x576 : Shape := ⟨3, ![32, 2048, 576]⟩
abbrev S32x2048x256 : Shape := ⟨3, ![32, 2048, 256]⟩
abbrev S1x1x256 : Shape := ⟨3, ![1, 1, 256]⟩
abbrev S32x2048x4x256 : Shape := ⟨4, ![32, 2048, 4, 256]⟩
abbrev S32x2048x4x128 : Shape := ⟨4, ![32, 2048, 4, 128]⟩
abbrev S32x4x2048x128 : Shape := ⟨4, ![32, 4, 2048, 128]⟩
abbrev S32x2048x512 : Shape := ⟨3, ![32, 2048, 512]⟩
abbrev S32x4x2048x256 : Shape := ⟨4, ![32, 4, 2048, 256]⟩

abbrev nBuf : Space → Nat
  | .hbm => 63
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x4192, .f32⟩
  | .hbm, ⟨3, _⟩ => ⟨S5x1536, .f32⟩
  | .hbm, ⟨4, _⟩ => ⟨S2x4, .f32⟩
  | .hbm, ⟨5, _⟩ => ⟨S2x4, .f32⟩
  | .hbm, ⟨6, _⟩ => ⟨S5x1024, .f32⟩
  | .hbm, ⟨7, _⟩ => ⟨S1024, .f32⟩
  | .hbm, ⟨8, _⟩ => ⟨S2x8, .f32⟩
  | .hbm, ⟨9, _⟩ => ⟨S2x8, .f32⟩
  | .hbm, ⟨10, _⟩ => ⟨S256, .f32⟩
  | .hbm, ⟨11, _⟩ => ⟨S256x768, .f32⟩
  | .hbm, ⟨12, _⟩ => ⟨S256, .f32⟩
  | .hbm, ⟨13, _⟩ => ⟨S256x1024, .f32⟩
  | .hbm, ⟨14, _⟩ => ⟨S32x2048x1024, .f32⟩
  | .hbm, ⟨15, _⟩ => ⟨S_, .f32⟩
  | .hbm, ⟨16, _⟩ => ⟨S32x2048, .f32⟩
  | .hbm, ⟨17, _⟩ => ⟨S32x2048x1, .f32⟩
  | .hbm, ⟨18, _⟩ => ⟨S_, .f32⟩
  | .hbm, ⟨19, _⟩ => ⟨S32x2048x1, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S32x2048x1, .f32⟩
  | .hbm, ⟨25, _⟩ => ⟨S32x2048x1024, .f32⟩
  | .hbm, ⟨26, _⟩ => ⟨S32x2048x1024, .f32⟩
  | .hbm, ⟨27, _⟩ => ⟨S1x1x1024, .f32⟩
  | .hbm, ⟨28, _⟩ => ⟨S32x2048x1024, .f32⟩
  | .hbm, ⟨29, _⟩ => ⟨S32x2048x1024, .f32⟩
  | .hbm, ⟨30, _⟩ => ⟨S32x2048x4192, .f32⟩
  | .hbm, ⟨31, _⟩ => ⟨S32x2048x2064, .f32⟩
  | .hbm, ⟨32, _⟩ => ⟨S32x2048x2128, .f32⟩
  | .hbm, ⟨33, _⟩ => ⟨S32x2048x576, .f32⟩
  | .hbm, ⟨34, _⟩ => ⟨S32x2048x256, .f32⟩
  | .hbm, ⟨35, _⟩ => ⟨S32x2048x256, .f32⟩
  | .hbm, ⟨36, _⟩ => ⟨S_, .f32⟩
  | .hbm, ⟨37, _⟩ => ⟨S32x2048, .f32⟩
  | .hbm, ⟨38, _⟩ => ⟨S32x2048x1, .f32⟩
  | .hbm, ⟨39, _⟩ => ⟨S_, .f32⟩
  | .hbm, ⟨40, _⟩ => ⟨S32x2048x1, .f32⟩
  | .hbm, ⟨41, _⟩ => ⟨S32x2048x1, .f32⟩
  | .hbm, ⟨42, _⟩ => ⟨S_, .f32⟩
  | .hbm, ⟨43, _⟩ => ⟨S32x2048x1, .f32⟩
  | .hbm, ⟨44, _⟩ => ⟨S32x2048x1, .f32⟩
  | .hbm, ⟨45, _⟩ => ⟨S32x2048x1, .f32⟩
  | .hbm, ⟨46, _⟩ => ⟨S32x2048x256, .f32⟩
  | .hbm, ⟨47, _⟩ => ⟨S32x2048x256, .f32⟩
  | .hbm, ⟨48, _⟩ => ⟨S1x1x256, .f32⟩
  | .hbm, ⟨49, _⟩ => ⟨S32x2048x256, .f32⟩
  | .hbm, ⟨50, _⟩ => ⟨S32x2048x256, .f32⟩
  | .hbm, ⟨51, _⟩ => ⟨S32x2048x1024, .f32⟩
  | .hbm, ⟨52, _⟩ => ⟨S32x2048x4x256, .f32⟩
  | .hbm, ⟨53, _⟩ => ⟨S32x2048x4x128, .f32⟩
  | .hbm, ⟨54, _⟩ => ⟨S32x4x2048x128, .f32⟩
  | .hbm, ⟨55, _⟩ => ⟨S32x2048x512, .f32⟩
  | .hbm, ⟨56, _⟩ => ⟨S32x2048x512, .bf16⟩
  | .hbm, ⟨57, _⟩ => ⟨S32x2048x512, .f32⟩
  | .hbm, ⟨58, _⟩ => ⟨S32x2048x512, .bf16⟩
  | .hbm, ⟨59, _⟩ => ⟨S_, .f32⟩
  | .hbm, ⟨60, _⟩ => ⟨S32x4x2048x128, .f32⟩
  | .hbm, ⟨61, _⟩ => ⟨S32x4x2048x256, .f32⟩
  | .hbm, ⟨62, _⟩ => ⟨S32x4x2048x256, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Proof.RowSums.lean ====
/-
  Sums of extended reals, as far as a softmax needs them: a real sum read as an extended real, a non-negative real
  factor taken out of a sum (nothing is asked of the terms: they may be infinite), a sum over 2048 keys cut into four
  tiles of 512, the largest of finitely many reals.
-/
module

public import Idealize.ShloMosaic.PureOps.Ideal
public import Idealize.ShloMosaic.PureOps.Ideal.Laws

@[expose] public section

noncomputable section

namespace Cert.RowSums

open Idealize.ShloMosaic

/-- A real sum is the sum of its terms read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real factor goes into a sum of any extended reals. -/
theorem mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The largest of the values `f k`, taken from `⊥`, is a real number when the values are and there is one at least. -/
theorem fold_max_real {n : ℕ} [NeZero n] (f : Fin n → EReal) (hf : ∀ k, ∃ r : ℝ, f k = r) :
    ∃ r : ℝ, Finset.univ.fold max (⊥ : EReal) f = r := by
  have key : ∀ s : Finset (Fin n), s.Nonempty → ∃ r : ℝ, s.fold max (⊥ : EReal) f = r := by
    intro s hs
    induction hs using Finset.Nonempty.cons_induction with
    | singleton a => obtain ⟨r, hr⟩ := hf a; exact ⟨r, by simp [hr]⟩
    | cons a s ha hs ih =>
      obtain ⟨r, hr⟩ := ih
      obtain ⟨q, hq⟩ := hf a
      exact ⟨max q r, by rw [Finset.fold_cons, hr, hq]; exact (EReal.coe_strictMono.monotone.map_max).symm⟩
  exact key _ ⟨0, Finset.mem_univ _⟩

/-- The larger of `⊥` or a real number, and a real number, is a real number. -/
theorem max_real (M x : EReal) (hM : M = ⊥ ∨ ∃ r : ℝ, M = r) (hx : ∃ r : ℝ, x = r) : ∃ r : ℝ, max M x = r := by
  obtain ⟨x, rfl⟩ := hx
  rcases hM with rfl | ⟨r, rfl⟩
  · exact ⟨x, by simp⟩
  · exact ⟨max r x, (EReal.coe_strictMono.monotone.map_max).symm⟩

/-- Key `k` of tile `j`, of four tiles of 512. -/
def key (j : Fin 4) (k : Fin 512) : Fin 2048 := ⟨512 * j.val + k.val, by omega⟩

/-- A sum over the 2048 keys is the sum over the four tiles of the sums over a tile's 512 keys. -/
theorem sum_keys {M : Type} [AddCommMonoid M] (g : Fin 2048 → M) :
    ∑ k, g k = (∑ k, g (key 0 k)) + (∑ k, g (key 1 k)) + (∑ k, g (key 2 k)) + (∑ k, g (key 3 k)) := by
  have h : ∑ k : Fin (512 + 512 + 512 + 512), g k = _ := Fin.sum_univ_add (a := 512 + 512 + 512) (b := 512) _
  rw [show ∑ k, g k = ∑ k : Fin (512 + 512 + 512 + 512), g k from rfl, h, Fin.sum_univ_add (a := 512 + 512) (b := 512),
    Fin.sum_univ_add (a := 512) (b := 512)]
  have e0 : ∀ k : Fin 512, g (Fin.castAdd 512 (Fin.castAdd 512 (Fin.castAdd 512 k))) = g (key 0 k) :=
    fun k => congrArg g (Fin.ext (by simp [key] <;> omega))
  have e1 : ∀ k : Fin 512, g (Fin.castAdd 512 (Fin.castAdd 512 (Fin.natAdd 512 k))) = g (key 1 k) :=
    fun k => congrArg g (Fin.ext (by simp [key] <;> omega))
  have e2 : ∀ k : Fin 512, g (Fin.castAdd 512 (Fin.natAdd (512 + 512) k)) = g (key 2 k) :=
    fun k => congrArg g (Fin.ext (by simp [key] <;> omega))
  have e3 : ∀ k : Fin 512, g (Fin.natAdd (512 + 512 + 512) k) = g (key 3 k) :=
    fun k => congrArg g (Fin.ext (by simp [key] <;> omega))
  simp only [e0, e1, e2, e3]

end Cert.RowSums

end
-- ==== Proof.AttnRow.lean ====
/-
  One row of the attention, as numbers. The kernel walks over the keys in tiles; for each row it keeps the largest
  base-2 score seen so far, and a sum of the values weighted with `2 ^ (score - largest)`, which it rescales when the
  largest score grows. Here: such a sum is, at every moment, `2 ^ (- largest)` times the plain sum of the values with
  the weights `2 ^ score`; so the quotient of two such sums does not depend on the largest score. And the plain
  softmax, taken with the natural exponential, has the same weights.
-/
module

public import proofs.«01_k».proof.Proof.RowSums

@[expose] public section

noncomputable section

namespace Cert.AttnRow

open Idealize.ShloMosaic Cert.RowSums

/-- Two to a real power, as a real number. -/
def two (x : ℝ) : ℝ := Real.rpow 2 x

theorem two_pos (x : ℝ) : 0 < two x := Real.rpow_pos_of_pos (by norm_num) x

theorem two_add (x y : ℝ) : two (x + y) = two x * two y := Real.rpow_add (by norm_num) x y

theorem exp2_coe (x : ℝ) : Ideal.exp2 (x : EReal) = (two x : EReal) := rfl

/-- Base-2 scores are natural ones divided by `log 2`. -/
theorem two_div_log (x : ℝ) : two (x * (1 / Real.log 2)) = Real.exp x := by
  unfold two
  rw [Real.rpow_eq_pow]
  have h : Real.log 2 ≠ 0 := (Real.log_pos (by norm_num)).ne'
  rw [Real.rpow_def_of_pos (by norm_num)]
  congr 1
  field_simp

/-- The state of a row: the largest score so far `M`, and a running sum `A` that stands for the plain sum `U`.
    Before the first tile nothing has been seen. -/
def Holds (M A U : EReal) : Prop :=
  (M = ⊥ ∧ A = 0 ∧ U = 0) ∨ ∃ c : ℝ, M = c ∧ A = (two (-c) : EReal) * U

theorem holds_start : Holds ⊥ 0 0 := .inl ⟨rfl, rfl, rfl⟩

theorem Holds.max_cases {M A U : EReal} (h : Holds M A U) : M = ⊥ ∨ ∃ r : ℝ, M = r := by
  rcases h with ⟨h, _⟩ | ⟨c, h, _⟩
  · exact .inl h
  · exact .inr ⟨c, h⟩

/-- One tile: the largest score is renewed, the running sum is rescaled, the tile's weighted values are added. -/
theorem Holds.step {n : ℕ} [NeZero n] {M A U : EReal} (h : Holds M A U) (s : Fin n → ℝ) (v : Fin n → EReal) (M' : EReal)
    (hM : M' = max M (Finset.univ.fold max ⊥ fun k => (s k : EReal))) :
    Holds M' (Ideal.exp2 (M - M') * A + ∑ k, Ideal.exp2 ((s k : EReal) - M') * v k)
      (U + ∑ k, (two (s k) : EReal) * v k) := by
  obtain ⟨c', hc'⟩ := max_real M _ h.max_cases (fold_max_real (fun k => (s k : EReal)) fun k => ⟨s k, rfl⟩)
  have e : M' = (c' : EReal) := hM.trans hc'
  refine .inr ⟨c', e, ?_⟩
  rw [e, EReal.left_distrib_of_nonneg_of_ne_top (by exact_mod_cast (two_pos _).le) (EReal.coe_ne_top _),
    mul_sum _ (two_pos _).le]
  congr 1
  · rcases h with ⟨rfl, rfl, rfl⟩ | ⟨c, rfl, rfl⟩
    · simp
    · rw [← EReal.coe_sub, exp2_coe, ← mul_assoc, ← EReal.coe_mul, ← two_add]
      congr 3; ring
  · refine Finset.sum_congr rfl fun k _ => ?_
    rw [← EReal.coe_sub, exp2_coe, ← mul_assoc, ← EReal.coe_mul, ← two_add]
    congr 3; ring

/-- A positive real sum of weights: the sum of the values `1`. -/
theorem sum_ones {n : ℕ} (s : Fin n → ℝ) :
    ∑ k, (two (s k) : EReal) * (1 : EReal) = ((∑ k, two (s k) : ℝ) : EReal) := by
  rw [coe_sum]; simp

/-- The quotient of the weighted sum by the sum of the weights, after at least one tile. -/
theorem Holds.quotient {M A U L W : EReal} {w c : ℝ} (h : Holds M A U) (h' : Holds M L W) (hM : M = c) (hw : W = w) (hpos : 0 < w) :
    Ideal.div A L = ((w⁻¹ : ℝ) : EReal) * U := by
  subst hw
  rcases h with ⟨rfl, _⟩ | ⟨a, ha, rfl⟩
  · exact absurd hM (EReal.bot_ne_coe c)
  rcases h' with ⟨rfl, _⟩ | ⟨b, hb, rfl⟩
  · exact absurd hM (EReal.bot_ne_coe c)
  obtain rfl : a = b := by rw [ha] at hb; exact_mod_cast hb
  have h2 := two_pos (-a)
  have hne : ((two (-a) * w : ℝ) : EReal) ≠ 0 := by exact_mod_cast (mul_pos h2 hpos).ne'
  rw [← EReal.coe_mul, Ideal.div, if_neg hne, ← EReal.coe_inv, mul_comm, ← mul_assoc, ← EReal.coe_mul]
  congr 2
  rw [mul_inv]
  field_simp

/-- One weight of the plain softmax. -/
theorem softmax_weight {n : ℕ} [NeZero n] (t : Fin n → ℝ) (T : EReal) (hT : T = max ⊥ (Finset.univ.fold max ⊥ fun k => (t k : EReal)))
    (k : Fin n) :
    Ideal.div (Ideal.exp ((t k : EReal) - T)) (0 + ∑ k, Ideal.exp ((t k : EReal) - T))
      = (((∑ k, Real.exp (t k))⁻¹ * Real.exp (t k) : ℝ) : EReal) := by
  obtain ⟨c, hc⟩ := max_real ⊥ _ (.inl rfl) (fold_max_real (fun k => (t k : EReal)) fun k => ⟨t k, rfl⟩)
  have e : T = (c : EReal) := hT.trans hc
  have hx : ∀ k, Ideal.exp ((t k : EReal) - T) = ((Real.exp (t k) * Real.exp (-c) : ℝ) : EReal) := fun k => by
    rw [e, ← EReal.coe_sub, sub_eq_add_neg, ← Real.exp_add]; rfl
  simp only [hx]
  rw [← coe_sum, zero_add, ← Finset.sum_mul]
  have hS : 0 < ∑ k, Real.exp (t k) := Finset.sum_pos (fun k _ => Real.exp_pos _) ⟨0, Finset.mem_univ _⟩
  have hc := Real.exp_pos (-c)
  have hne : (((∑ k, Real.exp (t k)) * Real.exp (-c) : ℝ) : EReal) ≠ 0 := by exact_mod_cast (mul_pos hS hc).ne'
  rw [Ideal.div, if_neg hne, ← EReal.coe_inv, ← EReal.coe_mul]
  congr 1
  field_simp

/-- The plain softmax's weighted sum of the values. -/
theorem softmax_sum {n : ℕ} [NeZero n] (t : Fin n → ℝ) (v : Fin n → EReal) (T : EReal)
    (hT : T = max ⊥ (Finset.univ.fold max ⊥ fun k => (t k : EReal))) :
    ∑ k, v k * Ideal.div (Ideal.exp ((t k : EReal) - T)) (0 + ∑ k, Ideal.exp ((t k : EReal) - T))
      = (((∑ k, Real.exp (t k))⁻¹ : ℝ) : EReal) * ∑ k, (Real.exp (t k) : EReal) * v k := by
  have hS : 0 < ∑ k, Real.exp (t k) := Finset.sum_pos (fun k _ => Real.exp_pos _) ⟨0, Finset.mem_univ _⟩
  rw [mul_sum _ (inv_pos.mpr hS).le]
  refine Finset.sum_congr rfl fun k _ => ?_
  rw [softmax_weight t T hT k, mul_comm, EReal.coe_mul, mul_assoc]

end Cert.AttnRow

end
-- ==== Proof.AttnHead.lean ====
/-
  What the attention's body computes for one head, from the head's queries and its four tiles of keys and of values:
  first as the vector operations the body runs, then at one row and one lane.
-/
module

public import proofs.«01_k».proof.Proof.AttnRow
public import proofs.«01_k».proof.Proof.Gen.KernelIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.AttnHead

open Cert.KernelIdeal Cert.KernelIdeal.Gen Idealize.ShloMosaic Idealize.SL.Sem Cert.RowSums Cert.AttnRow

/-- A head's queries (1024 rows), a tile of its keys or values (512 rows). -/
abbrev Queries := Vec Ideal S1x1x1024x256 .bf16
abbrev Tile := Vec Ideal S1x1x512x256 .bf16

/-- The scores of the rows against a tile's keys. -/
def scores (q : Queries) (k : Tile) : FVec Ideal S1024x512 .f32 :=
  matmul dot_S1024x256_S512x256_S1024x512_1_1_0_0_n_n none
    (shapeCast S1024x256 q shapeCasts_S1x1x1024x256_S1024x256 : FVec Ideal S1024x256 .bf16)
    (shapeCast S512x256 k shapeCasts_S1x1x512x256_S512x256 : FVec Ideal S512x256 .bf16)
    (constant S1024x512 .f32 0x00000000#32)

/-- The largest scores after a tile. -/
def newMax (M : FVec Ideal S1024x1 .f32) (s : FVec Ideal S1024x512 .f32) : FVec Ideal S1024x1 .f32 :=
  maximumf M (shapeCast S1024x1
    (multiReduction .maximumf [1] S1024 s 0xFF800000#32 reduces_S1024x512_S1024 (.inl rfl) rfl : FVec Ideal S1024 .f32)
    shapeCasts_S1024_S1024x1)

/-- The running sums after a tile. -/
def newSum (M M' : FVec Ideal S1024x1 .f32) (A : FVec Ideal S1024x256 .f32) (s : FVec Ideal S1024x512 .f32) (v : Tile) :
    FVec Ideal S1024x256 .f32 :=
  addf (mulf (broadcastTo S1024x256 (exp2 (subf M M')) broadcasts_S1024x1_S1024x256) A)
    (matmul dot_S1024x512_S512x256_S1024x256_1_0_0_1_n_n none
      (truncf .bf16 (exp2 (subf s (broadcastTo S1024x512 M' broadcasts_S1024x1_S1024x512))) bitsLt_bf16_f32 : FVec Ideal S1024x512 .bf16)
      (shapeCast S512x256 v shapeCasts_S1x1x512x256_S512x256 : FVec Ideal S512x256 .bf16)
      (constant S1024x256 .f32 0x00000000#32))

/-- The largest scores after the first one, two, three, four tiles of keys, from no score. -/
def max1 (q : Queries) (k : Tile) : FVec Ideal S1024x1 .f32 :=
  newMax (broadcast S1024x1 (Scalar.ofBits .f32 0xFF800000#32)) (scores q k)
def max2 (q : Queries) (k0 k1 : Tile) := newMax (max1 q k0) (scores q k1)
def max3 (q : Queries) (k0 k1 k2 : Tile) := newMax (max2 q k0 k1) (scores q k2)
def max4 (q : Queries) (k0 k1 k2 k3 : Tile) := newMax (max3 q k0 k1 k2) (scores q k3)

/-- The running sums after the first one, two, three, four tiles, from zero. -/
def sum1 (q : Queries) (k0 v0 : Tile) : FVec Ideal S1024x256 .f32 :=
  newSum (broadcast S1024x1 (Scalar.ofBits .f32 0xFF800000#32)) (max1 q k0) (broadcast S1024x256 (Scalar.ofBits .f32 0x00000000#32))
    (scores q k0) v0
def sum2 (q : Queries) (k0 k1 v0 v1 : Tile) := newSum (max1 q k0) (max2 q k0 k1) (sum1 q k0 v0) (scores q k1) v1
def sum3 (q : Queries) (k0 k1 k2 v0 v1 v2 : Tile) :=
  newSum (max2 q k0 k1) (max3 q k0 k1 k2) (sum2 q k0 k1 v0 v1) (scores q k2) v2
def sum4 (q : Queries) (k0 k1 k2 k3 v0 v1 v2 v3 : Tile) :=
  newSum (max3 q k0 k1 k2) (max4 q k0 k1 k2 k3) (sum3 q k0 k1 k2 v0 v1 v2) (scores q k3) v3

/-- A head's output: the running sums of the values' lanes over those of the lanes of ones. -/
def headOut (q : Queries) (k0 k1 k2 k3 v0 v1 v2 v3 : Tile) : FVec Ideal S1x1024x128 .bf16 :=
  shapeCast S1x1024x128 (truncf .bf16
    (divf (extractStridedSlice S1024x128 ![0, 0] (sum4 q k0 k1 k2 k3 v0 v1 v2 v3) slices_S1024x256_o0_0_S1024x128)
      (extractStridedSlice S1024x128 ![0, 128] (sum4 q k0 k1 k2 k3 v0 v1 v2 v3) slices_S1024x256_o0_128_S1024x128))
    bitsLt_bf16_f32 : FVec Ideal S1024x128 .bf16) shapeCasts_S1024x128_S1x1024x128

/-- The block a grid point leaves: the four heads' outputs side by side. -/
theorem out_eq (x0 : Vec Ideal S1x4x1024x256 .bf16) (x1 x2 : Vec Ideal S1x4x2048x256 .bf16) :
    out0_3 x0 x1 x2 = View.canon
      [⟨r0_23, headOut (View.ld x0 r0_17) (View.ld x1 r0_18) (View.ld x1 r0_20) (View.ld x1 r0_21) (View.ld x1 r0_22)
          (View.ld x2 r0_18) (View.ld x2 r0_20) (View.ld x2 r0_21) (View.ld x2 r0_22)⟩,
       ⟨r0_19, headOut (View.ld x0 r0_11) (View.ld x1 r0_12) (View.ld x1 r0_14) (View.ld x1 r0_15) (View.ld x1 r0_16)
          (View.ld x2 r0_12) (View.ld x2 r0_14) (View.ld x2 r0_15) (View.ld x2 r0_16)⟩,
       ⟨r0_13, headOut (View.ld x0 r0_5) (View.ld x1 r0_6) (View.ld x1 r0_8) (View.ld x1 r0_9) (View.ld x1 r0_10)
          (View.ld x2 r0_6) (View.ld x2 r0_8) (View.ld x2 r0_9) (View.ld x2 r0_10)⟩,
       ⟨r0_7, headOut (View.ld x0 r0_0) (View.ld x1 r0_1) (View.ld x1 r0_2) (View.ld x1 r0_3) (View.ld x1 r0_4)
          (View.ld x2 r0_1) (View.ld x2 r0_2) (View.ld x2 r0_3) (View.ld x2 r0_4)⟩] := by
  rfl

/-! ## At one row -/

/-- `-∞` as the kernel writes it. -/
theorem ofBits_bot : (Scalar.ofBits .f32 0xFF800000#32 : Ideal .f32) = (⊥ : EReal) := by
  show Ideal.ofBits .f32 0xFF800000#32 = ⊥
  simp [Ideal.ofBits, Ideal.ieee]

theorem scores_apply (q : Queries) (k : Tile) (r : Fin 1024) (a : Fin 512) :
    scores q k (ix2 r a) = ∑ l : Fin 256, q (ix4 0 0 r l) * k (ix4 0 0 a l) := by
  pointwise [scores]

theorem newMax_apply (M : FVec Ideal S1024x1 .f32) (s : FVec Ideal S1024x512 .f32) (r : Fin 1024) :
    newMax M s (ix2 r 0) = max (M (ix2 r 0)) (Finset.univ.fold max ⊥ fun a : Fin 512 => s (ix2 r a)) := by
  pointwise [newMax]
  rw [← ofBits_bot]
  rfl

theorem newSum_apply (M M' : FVec Ideal S1024x1 .f32) (A : FVec Ideal S1024x256 .f32) (s : FVec Ideal S1024x512 .f32) (v : Tile)
    (r : Fin 1024) (d : Fin 256) :
    newSum M M' A s v (ix2 r d) = Ideal.exp2 (M (ix2 r 0) - M' (ix2 r 0)) * A (ix2 r d)
      + ∑ a : Fin 512, Ideal.exp2 (s (ix2 r a) - M' (ix2 r 0)) * v (ix4 0 0 a d) := by
  pointwise [newSum]
  rfl

theorem headOut_apply (q : Queries) (k0 k1 k2 k3 v0 v1 v2 v3 : Tile) (r : Fin 1024) (d : Fin 128) :
    headOut q k0 k1 k2 k3 v0 v1 v2 v3 (ix3 0 r d)
      = Ideal.div (sum4 q k0 k1 k2 k3 v0 v1 v2 v3 (ix2 r ⟨d.val, by omega⟩))
          (sum4 q k0 k1 k2 k3 v0 v1 v2 v3 (ix2 r ⟨128 + d.val, by omega⟩)) := by
  pointwise [headOut]

end Cert.AttnHead

end
-- ==== Proof.AttnValue.lean ====
/-
  What a head's output holds at one row and one lane, in terms of the row's scores against all 2048 keys: the sum of
  the values with the weights `2 ^ score`, over the sum of the weights.
-/
module

public import proofs.«01_k».proof.Proof.AttnHead

@[expose] public section

set_option maxRecDepth 16384

noncomputable section

namespace Cert.AttnHead

open Cert.KernelIdeal Cert.KernelIdeal.Gen Idealize.ShloMosaic Idealize.SL.Sem Cert.RowSums Cert.AttnRow

/-- One tile on one row, for one lane of the values. -/
theorem step_row (M M' : FVec Ideal S1024x1 .f32) (A A' : FVec Ideal S1024x256 .f32) (sc : FVec Ideal S1024x512 .f32) (v : Tile)
    (hM : M' = newMax M sc) (hA : A' = newSum M M' A sc v) (r : Fin 1024) (d : Fin 256) (U : EReal)
    (h : Holds (M (ix2 r 0)) (A (ix2 r d)) U) (S : Fin 512 → ℝ) (hS : ∀ a, sc (ix2 r a) = (S a : EReal)) :
    Holds (M' (ix2 r 0)) (A' (ix2 r d)) (U + ∑ a, (two (S a) : EReal) * v (ix4 0 0 a d)) := by
  have e : M' (ix2 r 0) = max (M (ix2 r 0)) (Finset.univ.fold max ⊥ fun a => (S a : EReal)) := by
    rw [hM, newMax_apply]; simp only [hS]
  have e' : A' (ix2 r d) = Ideal.exp2 (M (ix2 r 0) - M' (ix2 r 0)) * A (ix2 r d)
      + ∑ a, Ideal.exp2 ((S a : EReal) - M' (ix2 r 0)) * v (ix4 0 0 a d) := by
    rw [hA, newSum_apply]; simp only [hS]
  rw [e']
  exact h.step S (fun a => v (ix4 0 0 a d)) _ e

/-- The four tiles on one row, for one lane of the values, given the scores against each tile. -/
theorem sum4_row (q : Queries) (k0 k1 k2 k3 v0 v1 v2 v3 : Tile) (r : Fin 1024) (S0 S1 S2 S3 : Fin 512 → ℝ)
    (h0 : ∀ a, scores q k0 (ix2 r a) = (S0 a : EReal)) (h1 : ∀ a, scores q k1 (ix2 r a) = (S1 a : EReal))
    (h2 : ∀ a, scores q k2 (ix2 r a) = (S2 a : EReal)) (h3 : ∀ a, scores q k3 (ix2 r a) = (S3 a : EReal)) (d : Fin 256) :
    Holds (max4 q k0 k1 k2 k3 (ix2 r 0)) (sum4 q k0 k1 k2 k3 v0 v1 v2 v3 (ix2 r d))
      ((∑ a, (two (S0 a) : EReal) * v0 (ix4 0 0 a d)) + (∑ a, (two (S1 a) : EReal) * v1 (ix4 0 0 a d))
        + (∑ a, (two (S2 a) : EReal) * v2 (ix4 0 0 a d)) + ∑ a, (two (S3 a) : EReal) * v3 (ix4 0 0 a d)) := by
  have start : Holds ((broadcast S1024x1 (Scalar.ofBits .f32 0xFF800000#32 : Ideal .f32) : FVec Ideal S1024x1 .f32) (ix2 r 0))
      ((broadcast S1024x256 (Scalar.ofBits .f32 0x00000000#32 : Ideal .f32) : FVec Ideal S1024x256 .f32) (ix2 r d)) 0 := by
    rw [ofBits_bot, show (Scalar.ofBits .f32 0x00000000#32 : Ideal .f32) = (0 : EReal) from Ideal.ofBits_zero_f32]
    exact holds_start
  have s1 := step_row _ (max1 q k0) _ (sum1 q k0 v0) (scores q k0) v0 rfl rfl r d 0 start S0 h0
  rw [zero_add] at s1
  have s2 := step_row _ (max2 q k0 k1) _ (sum2 q k0 k1 v0 v1) (scores q k1) v1 rfl rfl r d _ s1 S1 h1
  have s3 := step_row _ (max3 q k0 k1 k2) _ (sum3 q k0 k1 k2 v0 v1 v2) (scores q k2) v2 rfl rfl r d _ s2 S2 h2
  exact step_row _ (max4 q k0 k1 k2 k3) _ (sum4 q k0 k1 k2 k3 v0 v1 v2 v3) (scores q k3) v3 rfl rfl r d _ s3 S3 h3

/-- The output of a head at row `r` and lane `d`. The tiles hold consecutive keys and values, lane `128 + d` of every
    value is 1. -/
theorem headOut_value (q : Queries) (k0 k1 k2 k3 v0 v1 v2 v3 : Tile) (r : Fin 1024) (d : Fin 128)
    (S : Fin 2048 → ℝ) (U : Fin 2048 → EReal)
    (h0 : ∀ a, ∑ l : Fin 256, q (ix4 0 0 r l) * k0 (ix4 0 0 a l) = (S (key 0 a) : EReal))
    (h1 : ∀ a, ∑ l : Fin 256, q (ix4 0 0 r l) * k1 (ix4 0 0 a l) = (S (key 1 a) : EReal))
    (h2 : ∀ a, ∑ l : Fin 256, q (ix4 0 0 r l) * k2 (ix4 0 0 a l) = (S (key 2 a) : EReal))
    (h3 : ∀ a, ∑ l : Fin 256, q (ix4 0 0 r l) * k3 (ix4 0 0 a l) = (S (key 3 a) : EReal))
    (u0 : ∀ a, v0 (ix4 0 0 a ⟨d.val, by omega⟩) = U (key 0 a)) (u1 : ∀ a, v1 (ix4 0 0 a ⟨d.val, by omega⟩) = U (key 1 a))
    (u2 : ∀ a, v2 (ix4 0 0 a ⟨d.val, by omega⟩) = U (key 2 a)) (u3 : ∀ a, v3 (ix4 0 0 a ⟨d.val, by omega⟩) = U (key 3 a))
    (w0 : ∀ a, v0 (ix4 0 0 a ⟨128 + d.val, by omega⟩) = (1 : EReal)) (w1 : ∀ a, v1 (ix4 0 0 a ⟨128 + d.val, by omega⟩) = (1 : EReal))
    (w2 : ∀ a, v2 (ix4 0 0 a ⟨128 + d.val, by omega⟩) = (1 : EReal)) (w3 : ∀ a, v3 (ix4 0 0 a ⟨128 + d.val, by omega⟩) = (1 : EReal)) :
    headOut q k0 k1 k2 k3 v0 v1 v2 v3 (ix3 0 r d)
      = (((∑ k, two (S k))⁻¹ : ℝ) : EReal) * ∑ k, (two (S k) : EReal) * U k := by
  have row := fun d' => sum4_row q k0 k1 k2 k3 v0 v1 v2 v3 r (fun a => S (key 0 a)) (fun a => S (key 1 a)) (fun a => S (key 2 a))
    (fun a => S (key 3 a)) (fun a => (scores_apply q k0 r a).trans (h0 a)) (fun a => (scores_apply q k1 r a).trans (h1 a))
    (fun a => (scores_apply q k2 r a).trans (h2 a)) (fun a => (scores_apply q k3 r a).trans (h3 a)) d'
  have num := row ⟨d.val, by omega⟩
  have den := row ⟨128 + d.val, by omega⟩
  simp only [u0, u1, u2, u3] at num
  simp only [w0, w1, w2, w3, sum_ones] at den
  rw [← sum_keys (fun k => (two (S k) : EReal) * U k)] at num
  rw [← EReal.coe_add, ← EReal.coe_add, ← EReal.coe_add, ← sum_keys (fun k => two (S k))] at den
  rw [headOut_apply]
  have hpos : 0 < ∑ k, two (S k) := Finset.sum_pos (fun k _ => two_pos _) ⟨0, Finset.mem_univ _⟩
  obtain ⟨c, hc⟩ : ∃ c : ℝ, max4 q k0 k1 k2 k3 (ix2 r 0) = (c : EReal) := by
    rcases den with ⟨_, _, h⟩ | ⟨c, h, _⟩
    · exact absurd h (by exact_mod_cast hpos.ne')
    · exact ⟨c, h⟩
  exact num.quotient den hc rfl hpos

end Cert.AttnHead

end
-- ==== Proof.AttnHost.lean ====
/-
  The arrays that the host prepares for the attention's call, and a query's score against a key read from them: the
  plain score times the scale, over `log 2`.
-/
module

public import proofs.«01_k».proof.Proof.AttnRow
public import proofs.«01_k».proof.Proof.Gen.KernelIdeal.Frame
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.AttnHost

open Cert.KernelIdeal Cert.KernelIdeal.Gen Idealize.ShloMosaic Idealize.ShloMosaic.TcCoe Idealize.SL.Sem Cert.RowSums Cert.AttnRow

/-- The zero lanes that fill a query or a key up to 256 lanes. -/
def zeros : FVec Ideal S32x4x2048x64 .f32 := broadcastInDim S32x4x2048x64 ![] bcast_S_S32x4x2048x64 (constant S_ .f32 0x00000000#32)

/-- The factor of the queries: the scale over `log 2`. -/
def factor : FVec Ideal S_ .f32 :=
  mulf (constant S_ .f32 0x3D93CD3A#32) (Host.divf (constant S_ .f32 0x3F800000#32) (Host.log (constant S_ .f32 0x40000000#32)))

/-- The prepared queries. -/
def Q (qn : FVec Ideal S32x2048x4x128 .f32) (qr : FVec Ideal S32x2048x4x64 .f32) : FVec Ideal S32x4x2048x256 .bf16 :=
  truncf .bf16 (mulf (concatenate S32x4x2048x256 3
    [⟨S32x4x2048x128, transpose S32x4x2048x128 [0, 2, 1, 3] qn transposes_S32x2048x4x128_S32x4x2048x128_0_2_1_3⟩,
     ⟨S32x4x2048x128, concatenate S32x4x2048x128 3
       [⟨S32x4x2048x64, transpose S32x4x2048x64 [0, 2, 1, 3] qr transposes_S32x2048x4x64_S32x4x2048x64_0_2_1_3⟩, ⟨S32x4x2048x64, zeros⟩]
       concatenates_S32x4x2048x64_S32x4x2048x64_S32x4x2048x128_d3⟩] concatenates_S32x4x2048x128_S32x4x2048x128_S32x4x2048x256_d3 : FVec Ideal S32x4x2048x256 .f32)
    (broadcastInDim S32x4x2048x256 ![] bcast_S_S32x4x2048x256 factor)) bitsLt_bf16_f32

/-- The prepared keys. -/
def K (kn : FVec Ideal S32x2048x4x128 .f32) (kr : FVec Ideal S32x2048x64 .f32) : FVec Ideal S32x4x2048x256 .bf16 :=
  truncf .bf16 (concatenate S32x4x2048x256 3
    [⟨S32x4x2048x128, transpose S32x4x2048x128 [0, 2, 1, 3] kn transposes_S32x2048x4x128_S32x4x2048x128_0_2_1_3⟩,
     ⟨S32x4x2048x128, concatenate S32x4x2048x128 3
       [⟨S32x4x2048x64, broadcastInDim S32x4x2048x64 ![0, 1, 2, 3] bcast_S32x1x2048x64_S32x4x2048x64_0_1_2_3
          (broadcastInDim S32x1x2048x64 ![0, 2, 3] bcast_S32x2048x64_S32x1x2048x64_0_2_3 kr)⟩, ⟨S32x4x2048x64, zeros⟩]
       concatenates_S32x4x2048x64_S32x4x2048x64_S32x4x2048x128_d3⟩] concatenates_S32x4x2048x128_S32x4x2048x128_S32x4x2048x256_d3 : FVec Ideal S32x4x2048x256 .f32)
    bitsLt_bf16_f32

/-- The prepared values, 128 lanes of ones beside them. -/
def W (v : FVec Ideal S32x2048x4x128 .f32) : FVec Ideal S32x4x2048x256 .bf16 :=
  truncf .bf16 (concatenate S32x4x2048x256 3
    [⟨S32x4x2048x128, transpose S32x4x2048x128 [0, 2, 1, 3] v transposes_S32x2048x4x128_S32x4x2048x128_0_2_1_3⟩,
     ⟨S32x4x2048x128, broadcastInDim S32x4x2048x128 ![] bcast_S_S32x4x2048x128 (constant S_ .f32 0x3F800000#32)⟩]
    concatenates_S32x4x2048x128_S32x4x2048x128_S32x4x2048x256_d3 : FVec Ideal S32x4x2048x256 .f32) bitsLt_bf16_f32

section
variable (m : (ℓ : Loc nD τ sig) → Buf (Elt Ideal) ℓ) (c : Dev nD)

set_option maxHeartbeats 1600000 in
/-- What the host leaves for the call's three windows. -/
theorem V_q : V m c main_v18 = Q (m ((c : Thread nD τ).loc main_arg0)) (m ((c : Thread nD τ).loc main_arg1)) := by
  entry_read; rfl

set_option maxHeartbeats 1600000 in
theorem V_k : V m c main_v19 = K (m ((c : Thread nD τ).loc main_arg2)) (m ((c : Thread nD τ).loc main_arg3)) := by
  entry_read; rfl

set_option maxHeartbeats 1600000 in
theorem V_v : V m c main_v20 = W (m ((c : Thread nD τ).loc main_arg4)) := by
  entry_read; rfl
end

/-! ## The constants -/

/-- The scale, a real number. -/
def scale : ℝ := (Ideal.ofBits .f32 0x3D93CD3A#32).toReal

theorem ofBits_scale : Ideal.ofBits .f32 0x3D93CD3A#32 = (scale : EReal) := by
  unfold scale
  rw [show Ideal.ofBits .f32 0x3D93CD3A#32 = ((9686330 * (2 ^ 27 : ℝ)⁻¹ : ℝ) : EReal) by simp [Ideal.ofBits, Ideal.ieee],
    EReal.toReal_coe]

theorem ofBits_two : Ideal.ofBits .f32 0x40000000#32 = ((2 : ℝ) : EReal) := by
  simp [Ideal.ofBits, Ideal.ieee]
  rw [← EReal.coe_mul]
  norm_num

theorem factor_eq (i : S_.Idx) : factor i = ((scale * (1 / Real.log 2) : ℝ) : EReal) := by
  have h2 : (0 : ℝ) < Real.log 2 := Real.log_pos (by norm_num)
  have hl : Ideal.log ((2 : ℝ) : EReal) = (Real.log 2 : EReal) := by
    rw [Ideal.log_coe, if_neg (by norm_num)]
  have hne : (Real.log 2 : EReal) ≠ 0 := by exact_mod_cast h2.ne'
  show Ideal.ofBits .f32 0x3D93CD3A#32 * Ideal.div (Ideal.ofBits .f32 0x3F800000#32) (Ideal.log (Ideal.ofBits .f32 0x40000000#32)) = _
  rw [ofBits_two, hl, Ideal.div, if_neg hne, ofBits_scale, Ideal.ofBits_one_f32, one_mul, ← EReal.coe_inv, ← EReal.coe_mul, one_div]

/-! ## At an index -/

theorem W_value (v : FVec Ideal S32x2048x4x128 .f32) (b : Fin 32) (h : Fin 4) (k : Fin 2048) (d : Fin 128) :
    W v (ix4 b h k ⟨d.val, by omega⟩) = v (ix4 b k h d) := by
  pointwise [W]

theorem W_one (v : FVec Ideal S32x2048x4x128 .f32) (b : Fin 32) (h : Fin 4) (k : Fin 2048) (d : Fin 128) :
    W v (ix4 b h k ⟨128 + d.val, by omega⟩) = (1 : EReal) := by
  pointwise [W]

section
variable (qn : FVec Ideal S32x2048x4x128 .f32) (qr : FVec Ideal S32x2048x4x64 .f32) (kn : FVec Ideal S32x2048x4x128 .f32)
  (kr : FVec Ideal S32x2048x64 .f32) (b : Fin 32) (h : Fin 4) (i : Fin 2048)

theorem Q_nope (l : Fin 128) : Q qn qr (ix4 b h i ⟨l.val, by omega⟩) = qn (ix4 b i h l) * ((scale * (1 / Real.log 2) : ℝ) : EReal) := by
  pointwise [Q, zeros]
  rw [factor_eq]

theorem Q_rope (l : Fin 64) : Q qn qr (ix4 b h i ⟨128 + l.val, by omega⟩) = qr (ix4 b i h l) * ((scale * (1 / Real.log 2) : ℝ) : EReal) := by
  pointwise [Q, zeros]
  rw [factor_eq]

theorem Q_zero (l : Fin 64) : Q qn qr (ix4 b h i ⟨192 + l.val, by omega⟩) = 0 := by
  pointwise [Q, zeros]
  rw [dif_neg (by omega), dif_neg (by omega), zero_mul]

theorem K_nope (l : Fin 128) : K kn kr (ix4 b h i ⟨l.val, by omega⟩) = kn (ix4 b i h l) := by
  pointwise [K, zeros]

theorem K_rope (l : Fin 64) : K kn kr (ix4 b h i ⟨128 + l.val, by omega⟩) = kr (ix3 b i l) := by
  pointwise [K, zeros]
end

/-- A sum over 256 lanes, by its first 128, the next 64 and the last 64. -/
theorem sum_lanes (g : Fin 256 → EReal) :
    ∑ x, g x = ((∑ l : Fin 128, g ⟨l.val, by omega⟩) + ∑ l : Fin 64, g ⟨128 + l.val, by omega⟩) + ∑ l : Fin 64, g ⟨192 + l.val, by omega⟩ := by
  rw [show ∑ x, g x = ∑ x : Fin (128 + 64 + 64), g x from rfl, Fin.sum_univ_add (a := 128 + 64) (b := 64),
    Fin.sum_univ_add (a := 128) (b := 64)]
  rfl

/-- The score of a query against a key, from the prepared arrays. -/
theorem score_eq (qn : S32x2048x4x128.Idx → ℝ) (qr : S32x2048x4x64.Idx → ℝ) (kn : S32x2048x4x128.Idx → ℝ) (kr : S32x2048x64.Idx → ℝ)
    (b : Fin 32) (h : Fin 4) (i k : Fin 2048) :
    ∑ l : Fin 256, Q (fun x => (qn x : EReal)) (fun x => (qr x : EReal)) (ix4 b h i l)
        * K (fun x => (kn x : EReal)) (fun x => (kr x : EReal)) (ix4 b h k l)
      = (((((∑ l : Fin 128, qn (ix4 b i h l) * kn (ix4 b k h l)) + ∑ l : Fin 64, kr (ix3 b k l) * qr (ix4 b i h l)) * scale)
          * (1 / Real.log 2) : ℝ) : EReal) := by
  rw [sum_lanes]
  simp only [Q_nope, Q_rope, Q_zero, K_nope, K_rope, zero_mul, Finset.sum_const_zero, add_zero, ← EReal.coe_mul, ← coe_sum, ← EReal.coe_add]
  congr 1
  rw [mul_assoc, add_mul, Finset.sum_mul, Finset.sum_mul]
  congr 1 <;> exact Finset.sum_congr rfl fun _ _ => by ring

end Cert.AttnHost

end
-- ==== Proof.AttnRef.lean ====
/-
  What the plain attention computes, at one position, head and lane, where the queries and the keys are real numbers.
-/
module

public import proofs.«01_k».proof.Proof.AttnRow
public import proofs.«01_k».proof.Proof.Gen.ReferenceIdeal.Run
public import Idealize.ShloMosaic.Lib.Pipeline.ValueKit
public import Idealize.ShloMosaic.Lib.Pointwise
public import Idealize.ShloMosaic.Lib.Tactic

@[expose] public section

set_option maxRecDepth 16384

noncomputable section

namespace Cert.AttnRef

open Cert.ReferenceIdeal Cert.ReferenceIdeal.Gen Idealize.ShloMosaic Idealize.SL.Sem Cert.RowSums Cert.AttnRow

/-- The scores, scaled. -/
def logits (qn : FVec Ideal S32x2048x4x128 .f32) (qr : FVec Ideal S32x2048x4x64 .f32) (kn : FVec Ideal S32x2048x4x128 .f32)
    (kr : FVec Ideal S32x2048x64 .f32) : FVec Ideal S32x4x2048x2048 .f32 :=
  mulf (addf (Host.dotGeneral dot_S32x2048x4x128_S32x2048x4x128_S32x4x2048x2048_3_3_1_1_02_02 none qn kn)
      (transpose S32x4x2048x2048 [0, 3, 2, 1]
        (Host.dotGeneral dot_S32x2048x64_S32x2048x4x64_S32x2048x2048x4_2_3_1_12_0_0 none kr qr : FVec Ideal S32x2048x2048x4 .f32)
        transposes_S32x2048x2048x4_S32x4x2048x2048_0_3_2_1))
    (broadcastInDim S32x4x2048x2048 ![] bcast_S_S32x4x2048x2048 (constant S_ .f32 0x3D93CD3A#32))

/-- The largest score of each query. -/
def top (t : FVec Ideal S32x4x2048x2048 .f32) : FVec Ideal S32x4x2048 .f32 :=
  maximumf (broadcastInDim S32x4x2048 ![] bcast_S_S32x4x2048 (constant S_ .f32 0xFF800000#32))
    (Host.reduce FloatOps.maximumf t (constant S_ .f32 0xFF800000#32) reducesTo_S32x4x2048x2048_S32x4x2048_d3 h_S_)

/-- The exponentials of the scores less the largest. -/
def expo (t : FVec Ideal S32x4x2048x2048 .f32) : FVec Ideal S32x4x2048x2048 .f32 :=
  Host.exp (subf t (broadcastInDim S32x4x2048x2048 ![0, 1, 2, 3] bcast_S32x4x2048x1_S32x4x2048x2048_0_1_2_3
    (broadcastInDim S32x4x2048x1 ![0, 1, 2] bcast_S32x4x2048_S32x4x2048x1_0_1_2 (top t))))

/-- The softmax of the scores. -/
def soft (t : FVec Ideal S32x4x2048x2048 .f32) : FVec Ideal S32x4x2048x2048 .f32 :=
  Host.divf (expo t) (broadcastInDim S32x4x2048x2048 ![0, 1, 2, 3] bcast_S32x4x2048x1_S32x4x2048x2048_0_1_2_3
    (broadcastInDim S32x4x2048x1 ![0, 1, 2] bcast_S32x4x2048_S32x4x2048x1_0_1_2
      (Host.reduceAdd (expo t) (constant S_ .f32 0x00000000#32) reducesTo_S32x4x2048x2048_S32x4x2048_d3 h_S_)))

/-- The whole reference. -/
def REF (qn : FVec Ideal S32x2048x4x128 .f32) (qr : FVec Ideal S32x2048x4x64 .f32) (kn : FVec Ideal S32x2048x4x128 .f32)
    (kr : FVec Ideal S32x2048x64 .f32) (v : FVec Ideal S32x2048x4x128 .f32) : FVec Ideal S32x2048x512 .bf16 :=
  truncf .bf16 (shapeCast S32x2048x512 (transpose S32x2048x4x128 [0, 3, 1, 2]
    (Host.dotGeneral dot_S32x2048x4x128_S32x4x2048x2048_S32x4x128x2048_1_3_3_2_02_01 none v (soft (logits qn qr kn kr)) : FVec Ideal S32x4x128x2048 .f32)
    transposes_S32x4x128x2048_S32x2048x4x128_0_3_1_2) shapeCasts_S32x2048x4x128_S32x2048x512 : FVec Ideal S32x2048x512 .f32) bitsLt_bf16_f32

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = REF (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

/-- `-∞` as the program writes it. -/
theorem ofBits_bot : Ideal.ofBits .f32 0xFF800000#32 = ⊥ := by simp [Ideal.ofBits, Ideal.ieee]

theorem logits_apply (qn qr kn kr) (b : Fin 32) (h : Fin 4) (i k : Fin 2048) :
    logits qn qr kn kr (ix4 b h i k)
      = ((∑ l : Fin 128, qn (ix4 b i h l) * kn (ix4 b k h l)) + ∑ l : Fin 64, kr (ix3 b k l) * qr (ix4 b i h l))
        * Ideal.ofBits .f32 0x3D93CD3A#32 := by
  pointwise [logits]

/-- The largest entry along the last axis of a rank 4 array, at any extents. -/
theorem rowMax {n0 n1 n2 n3 : ℕ} {u : Shape} (h : (⟨4, ![n0, n1, n2, n3]⟩ : Shape).ReducesTo [3] ⟨3, ![n0, n1, n2]⟩)
    (t : FVec Ideal ⟨4, ![n0, n1, n2, n3]⟩ .f32) (init : u.Idx → EReal) (hu : 0 < u.numel) (a : Fin n0) (b : Fin n1) (c : Fin n2) :
    Host.reduce (FloatOps.maximumf (F := Ideal) (φ := .f32)) t init h hu (ix3 a b c)
      = (Finset.univ : Finset (Fin n3)).fold max (init (Shape.Idx.first hu)) fun k => t (ix4 a b c k) := by
  rw [Host.reduce_eq_fold, Shape.ReducesTo.fold_fiber_r4_a3]
  rfl

theorem top_apply (t) (b : Fin 32) (h : Fin 4) (i : Fin 2048) :
    top t (ix3 b h i) = max (⊥ : EReal) (Finset.univ.fold max ⊥ fun k : Fin 2048 => t (ix4 b h i k)) := by
  have e := rowMax reducesTo_S32x4x2048x2048_S32x4x2048_d3 t (constant S_ .f32 0xFF800000#32 : FVec Ideal S_ .f32) h_S_ b h i
  have e' : (constant S_ .f32 0xFF800000#32 : FVec Ideal S_ .f32) (Shape.Idx.first h_S_) = (⊥ : EReal) := ofBits_bot
  rw [e'] at e
  unfold top
  rw [maximumf_apply, e]
  pointwise
  rw [ofBits_bot]

theorem expo_apply (t) (b : Fin 32) (h : Fin 4) (i k : Fin 2048) :
    expo t (ix4 b h i k) = Ideal.exp (t (ix4 b h i k) - top t (ix3 b h i)) := by
  pointwise [expo]

theorem soft_apply (t) (b : Fin 32) (h : Fin 4) (i k : Fin 2048) :
    soft t (ix4 b h i k) = Ideal.div (expo t (ix4 b h i k)) (0 + ∑ k, expo t (ix4 b h i k)) := by
  pointwise [soft]

theorem REF_apply (qn qr kn kr v) (b : Fin 32) (i : Fin 2048) (c : Fin 512) :
    REF qn qr kn kr v (ix3 b i c) = ∑ k : Fin 2048, v (ix4 b k ⟨c.val / 128, by omega⟩ ⟨c.val % 128, by omega⟩)
      * soft (logits qn qr kn kr) (ix4 b ⟨c.val / 128, by omega⟩ i k) := by
  pointwise [REF]

end Cert.AttnRef

end
-- ==== Proof.AttnArray.lean ====
/-
  The attention's whole output array: at real queries and keys it is the plain attention's.
-/
module

public import proofs.«01_k».proof.Proof.AttnValue
public import proofs.«01_k».proof.Proof.AttnHost
public import proofs.«01_k».proof.Proof.AttnRef
public import proofs.«01_k».proof.Proof.Gen.KernelIdeal.Value

@[expose] public section

set_option maxRecDepth 16384

noncomputable section

namespace Cert.AttnArray

open Cert.KernelIdeal Cert.KernelIdeal.Gen Idealize.ShloMosaic Idealize.ShloMosaic.TcCoe Idealize.SL.Sem
open Idealize.ShloMosaic.Pipeline (Dat)
open Cert.RowSums Cert.AttnRow Cert.AttnHead Cert.AttnHost

section
variable (qn : S32x2048x4x128.Idx → ℝ) (qr : S32x2048x4x64.Idx → ℝ) (kn : S32x2048x4x128.Idx → ℝ) (kr : S32x2048x64.Idx → ℝ)
  (v : FVec Ideal S32x2048x4x128 .f32)

/-- Queries or keys as extended reals. -/
abbrev up {s : Shape} {φ : FTy} (f : s.Idx → ℝ) : FVec Ideal s φ := fun x => (f x : EReal)

/-- The score of query `i` against key `k`. -/
def score (b : Fin 32) (h : Fin 4) (i k : Fin 2048) : ℝ :=
  ((∑ l : Fin 128, qn (ix4 b i h l) * kn (ix4 b k h l)) + ∑ l : Fin 64, kr (ix3 b k l) * qr (ix4 b i h l)) * scale

/-- Lane `d` of the attention's output. -/
def attn (b : Fin 32) (h : Fin 4) (i : Fin 2048) (d : Fin 128) : EReal :=
  (((∑ k, Real.exp (score qn qr kn kr b h i k))⁻¹ : ℝ) : EReal) * ∑ k, (Real.exp (score qn qr kn kr b h i k) : EReal) * v (ix4 b k h d)

/-- The plain attention's scores. -/
theorem logits_value (b : Fin 32) (h : Fin 4) (i k : Fin 2048) :
    AttnRef.logits (up qn) (up qr) (up kn) (up kr) (ix4 b h i k) = (score qn qr kn kr b h i k : EReal) := by
  rw [AttnRef.logits_apply, ofBits_scale]
  simp only [up, ← EReal.coe_mul, ← coe_sum, ← EReal.coe_add]
  rfl

/-- The plain attention at one index. -/
theorem REF_value (b : Fin 32) (i : Fin 2048) (c : Fin 512) :
    AttnRef.REF (up qn) (up qr) (up kn) (up kr) v (ix3 b i c)
      = attn qn qr kn kr v b ⟨c.val / 128, by omega⟩ i ⟨c.val % 128, by omega⟩ := by
  rw [AttnRef.REF_apply]
  simp only [AttnRef.soft_apply, AttnRef.expo_apply, logits_value]
  exact softmax_sum (fun k => score qn qr kn kr b ⟨c.val / 128, by omega⟩ i k) _ _
    ((AttnRef.top_apply _ _ _ _).trans (by simp only [logits_value]))

/-- A head's output, when its windows hold the prepared arrays. -/
theorem head_eq (q : Queries) (k0 k1 k2 k3 v0 v1 v2 v3 : Tile) (r : Fin 1024) (d : Fin 128) (b : Fin 32) (h : Fin 4) (i : Fin 2048)
    (hq : ∀ l, q (ix4 0 0 r l) = Q (up qn) (up qr) (ix4 b h i l))
    (hk0 : ∀ a l, k0 (ix4 0 0 a l) = K (up kn) (up kr) (ix4 b h (key 0 a) l)) (hk1 : ∀ a l, k1 (ix4 0 0 a l) = K (up kn) (up kr) (ix4 b h (key 1 a) l))
    (hk2 : ∀ a l, k2 (ix4 0 0 a l) = K (up kn) (up kr) (ix4 b h (key 2 a) l)) (hk3 : ∀ a l, k3 (ix4 0 0 a l) = K (up kn) (up kr) (ix4 b h (key 3 a) l))
    (hv0 : ∀ a l, v0 (ix4 0 0 a l) = W v (ix4 b h (key 0 a) l)) (hv1 : ∀ a l, v1 (ix4 0 0 a l) = W v (ix4 b h (key 1 a) l))
    (hv2 : ∀ a l, v2 (ix4 0 0 a l) = W v (ix4 b h (key 2 a) l)) (hv3 : ∀ a l, v3 (ix4 0 0 a l) = W v (ix4 b h (key 3 a) l)) :
    headOut q k0 k1 k2 k3 v0 v1 v2 v3 (ix3 0 r d) = attn qn qr kn kr v b h i d := by
  have s := fun k => score_eq qn qr kn kr b h i k
  rw [headOut_value q k0 k1 k2 k3 v0 v1 v2 v3 r d (fun k => score qn qr kn kr b h i k * (1 / Real.log 2)) (fun k => v (ix4 b k h d))
    (fun a => by simp only [hq, hk0]; exact s _) (fun a => by simp only [hq, hk1]; exact s _)
    (fun a => by simp only [hq, hk2]; exact s _) (fun a => by simp only [hq, hk3]; exact s _)
    (fun a => (hv0 _ _).trans (W_value v b h _ d)) (fun a => (hv1 _ _).trans (W_value v b h _ d))
    (fun a => (hv2 _ _).trans (W_value v b h _ d)) (fun a => (hv3 _ _).trans (W_value v b h _ d))
    (fun a => (hv0 _ _).trans (W_one v b h _ d)) (fun a => (hv1 _ _).trans (W_one v b h _ d))
    (fun a => (hv2 _ _).trans (W_one v b h _ d)) (fun a => (hv3 _ _).trans (W_one v b h _ d))]
  simp only [two_div_log]
  rfl
end

/-- An index of a head's output, by its row and its lane. -/
theorem row_lane (x : S1x1024x128.Idx) : x = ix3 0 ⟨(x 1).val, (x 1).isLt⟩ ⟨(x 2).val, (x 2).isLt⟩ := by
  idx_vars x
  obtain rfl : x0 = 0 := Subsingleton.elim _ _
  rfl

/-- The windows' blocks at each grid point. -/
theorem idx : ∀ t : Fin cfg0.N, win0_0.index t = ![t.val / 2, 0, t.val % 2, 0] ∧ win0_1.index t = ![t.val / 2, 0, 0, 0]
    ∧ win0_2.index t = ![t.val / 2, 0, 0, 0] ∧ win0_3.index t = ![t.val / 2, t.val % 2, 0] :=
  (by decide +kernel : ∀ t : Fin grid0.N, _)

section
variable (m : (ℓ : Loc nD τ sig) → Buf (Elt Ideal) ℓ) (c : Dev nD)
  (qn : S32x2048x4x128.Idx → ℝ) (qr : S32x2048x4x64.Idx → ℝ) (kn : S32x2048x4x128.Idx → ℝ) (kr : S32x2048x64.Idx → ℝ)
  (v : FVec Ideal S32x2048x4x128 .f32)

set_option maxHeartbeats 4000000 in
/-- The array after the run. -/
theorem final (e0 : m ((c : Thread nD τ).loc main_arg0) = (up qn : FVec Ideal S32x2048x4x128 .f32))
    (e1 : m ((c : Thread nD τ).loc main_arg1) = (up qr : FVec Ideal S32x2048x4x64 .f32))
    (e2 : m ((c : Thread nD τ).loc main_arg2) = (up kn : FVec Ideal S32x2048x4x128 .f32))
    (e3 : m ((c : Thread nD τ).loc main_arg3) = (up kr : FVec Ideal S32x2048x64 .f32))
    (e4 : m ((c : Thread nD τ).loc main_arg4) = v) :
    (dats m 0 c).arrAt 3 (cfgs 0).N = AttnRef.REF (up qn) (up qr) (up kn) (up kr) v := by
  have Vq : V m c main_v18 = Q (up qn) (up qr) := by rw [V_q, e0, e1]
  have Vk : V m c main_v19 = K (up kn) (up kr) := by rw [V_k, e2, e3]
  have Vv : V m c main_v20 = W v := by rw [V_v, e4]
  have B0 : iblk m c 0 = fun t => ((cfg0.win 0).blk t).view.read (Elt Ideal) (Q (up qn) (up qr)) := by rw [← Vq]; rfl
  have B1 : iblk m c 1 = fun t => ((cfg0.win 1).blk t).view.read (Elt Ideal) (K (up kn) (up kr)) := by rw [← Vk]; rfl
  have B2 : iblk m c 2 = fun t => ((cfg0.win 2).blk t).view.read (Elt Ideal) (W v) := by rw [← Vv]; rfl
  refine (dats m 0 c).arrAt_eq_of_covers 3 _ (by decide +kernel) fun t _ y => ?_
  have ht : t.val < 64 := lt_of_lt_of_eq t.isLt N_0
  blk_simp
  rw [after0_3, out_eq]
  canon_tiles x h
  case piece0 =>
    refine Eq.trans (congrArg (headOut _ _ _ _ _ _ _ _ _) (row_lane x))
      (Eq.trans ?_ (b := AttnRef.REF _ _ _ _ _ (ix3 ⟨t.val / 2, by omega⟩ ⟨t.val % 2 * 1024 + (x 1).val, by omega⟩ ⟨384 + (x 2).val, by omega⟩))
        (by blk_ext [idx t]))
    rw [REF_value]
    refine (head_eq qn qr kn kr v _ _ _ _ _ _ _ _ _ _ _ ⟨t.val / 2, by omega⟩ 3 ⟨t.val % 2 * 1024 + (x 1).val, by omega⟩
      ?_ ?_ ?_ ?_ ?_ ?_ ?_ ?_ ?_).trans ?_
    · intro l; pointwise; rw [B0]; blk_ext [idx t]
    iterate 4 (intro a l; pointwise; rw [B1]; blk_ext [idx t, key])
    iterate 4 (intro a l; pointwise; rw [B2]; blk_ext [idx t, key])
    congr 1 <;> exact Fin.ext (by simp; omega)
  case piece1 =>
    refine Eq.trans (congrArg (headOut _ _ _ _ _ _ _ _ _) (row_lane x))
      (Eq.trans ?_ (b := AttnRef.REF _ _ _ _ _ (ix3 ⟨t.val / 2, by omega⟩ ⟨t.val % 2 * 1024 + (x 1).val, by omega⟩ ⟨256 + (x 2).val, by omega⟩))
        (by blk_ext [idx t]))
    rw [REF_value]
    refine (head_eq qn qr kn kr v _ _ _ _ _ _ _ _ _ _ _ ⟨t.val / 2, by omega⟩ 2 ⟨t.val % 2 * 1024 + (x 1).val, by omega⟩
      ?_ ?_ ?_ ?_ ?_ ?_ ?_ ?_ ?_).trans ?_
    · intro l; pointwise; rw [B0]; blk_ext [idx t]
    iterate 4 (intro a l; pointwise; rw [B1]; blk_ext [idx t, key])
    iterate 4 (intro a l; pointwise; rw [B2]; blk_ext [idx t, key])
    congr 1 <;> exact Fin.ext (by simp; omega)
  case piece2 =>
    refine Eq.trans (congrArg (headOut _ _ _ _ _ _ _ _ _) (row_lane x))
      (Eq.trans ?_ (b := AttnRef.REF _ _ _ _ _ (ix3 ⟨t.val / 2, by omega⟩ ⟨t.val % 2 * 1024 + (x 1).val, by omega⟩ ⟨128 + (x 2).val, by omega⟩))
        (by blk_ext [idx t]))
    rw [REF_value]
    refine (head_eq qn qr kn kr v _ _ _ _ _ _ _ _ _ _ _ ⟨t.val / 2, by omega⟩ 1 ⟨t.val % 2 * 1024 + (x 1).val, by omega⟩
      ?_ ?_ ?_ ?_ ?_ ?_ ?_ ?_ ?_).trans ?_
    · intro l; pointwise; rw [B0]; blk_ext [idx t]
    iterate 4 (intro a l; pointwise; rw [B1]; blk_ext [idx t, key])
    iterate 4 (intro a l; pointwise; rw [B2]; blk_ext [idx t, key])
    congr 1 <;> exact Fin.ext (by simp; omega)
  case piece3 =>
    refine Eq.trans (congrArg (headOut _ _ _ _ _ _ _ _ _) (row_lane x))
      (Eq.trans ?_ (b := AttnRef.REF _ _ _ _ _ (ix3 ⟨t.val / 2, by omega⟩ ⟨t.val % 2 * 1024 + (x 1).val, by omega⟩ ⟨(x 2).val, by omega⟩))
        (by blk_ext [idx t]))
    rw [REF_value]
    refine (head_eq qn qr kn kr v _ _ _ _ _ _ _ _ _ _ _ ⟨t.val / 2, by omega⟩ 0 ⟨t.val % 2 * 1024 + (x 1).val, by omega⟩
      ?_ ?_ ?_ ?_ ?_ ?_ ?_ ?_ ?_).trans ?_
    · intro l; pointwise; rw [B0]; blk_ext [idx t]
    iterate 4 (intro a l; pointwise; rw [B1]; blk_ext [idx t, key])
    iterate 4 (intro a l; pointwise; rw [B2]; blk_ext [idx t, key])
    congr 1 <;> exact Fin.ext (by simp; omega)
end

end Cert.AttnArray

end
-- ==== Proof.AttnPre.lean ====
/-
  What the precondition says: queries and keys are real numbers.
-/
module

public import proofs.«01_k».proof.Defs
public import proofs.«01_k».proof.Proof.Gen.Pre_finite_scores
public import proofs.«01_k».proof.Proof.Gen.KernelIdeal
public import Idealize.ShloMosaic.Lib.Pointwise

@[expose] public section

noncomputable section

namespace Cert.AttnPre

open Idealize.ShloMosaic Idealize.SL.Sem

/-- A comparison `|x| < ∞` that answers one everywhere says that the entries are real numbers. -/
theorem real_of_below {s z : Shape} (d : Fin z.rank → Fin s.rank) (h : z.BroadcastsInDim s d) (x : FVec Ideal s .f32)
    (e : cmpf .olt (Host.absf x) (broadcastInDim s d h (constant z .f32 0x7F800000#32 : FVec Ideal z .f32)) = fun _ => 1#1) :
    ∃ f : s.Idx → ℝ, x = fun i => (f i : EReal) := by
  refine ⟨fun i => (x i).toReal, funext fun i => ?_⟩
  have e1 : Ideal.cmp .olt (max (x i) (-(x i))) (Ideal.ofBits .f32 0x7F800000#32) = 1#1 := congrFun e i
  have e2 : max (x i) (-(x i)) < ⊤ := by
    have inf : Ideal.ofBits .f32 0x7F800000#32 = ⊤ := by simp [Ideal.ofBits, Ideal.ieee]
    rw [inf] at e1
    by_contra hn
    simp [Ideal.cmp, hn] at e1
  refine (EReal.coe_toReal (fun h => ?_) fun h => ?_).symm <;> simp [h] at e2

/-- The queries and the keys are real numbers where the precondition holds. -/
theorem real_args (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    (∃ f : Cert.KernelIdeal.S32x2048x4x128.Idx → ℝ, m ((c.tc : Thread Cert.KernelIdeal.nD Cert.KernelIdeal.τ).loc Cert.KernelIdeal.main_arg0) = fun i => (f i : EReal))
    ∧ (∃ f : Cert.KernelIdeal.S32x2048x4x64.Idx → ℝ, m ((c.tc : Thread Cert.KernelIdeal.nD Cert.KernelIdeal.τ).loc Cert.KernelIdeal.main_arg1) = fun i => (f i : EReal))
    ∧ (∃ f : Cert.KernelIdeal.S32x2048x4x128.Idx → ℝ, m ((c.tc : Thread Cert.KernelIdeal.nD Cert.KernelIdeal.τ).loc Cert.KernelIdeal.main_arg2) = fun i => (f i : EReal))
    ∧ (∃ f : Cert.KernelIdeal.S32x2048x64.Idx → ℝ, m ((c.tc : Thread Cert.KernelIdeal.nD Cert.KernelIdeal.τ).loc Cert.KernelIdeal.main_arg3) = fun i => (f i : EReal)) :=
  ⟨real_of_below _ _ _ (h c).1, real_of_below _ _ _ (h c).2.1, real_of_below _ _ _ (h c).2.2.1, real_of_below _ _ _ (h c).2.2.2⟩

end Cert.AttnPre

end
-- ==== Proof.AttnClaim.lean ====
/-
  The claims about the attention: the programs run and keep their arguments, and the kernel's output is the reference's.
-/
module

public import proofs.«01_k».proof.Proof.AttnArray
public import proofs.«01_k».proof.Proof.AttnPre
public import proofs.«01_k».proof.Proof.Gen.Kernel.Frame
public import proofs.«01_k».proof.Proof.Gen.ReferenceIdeal.Run
public import Idealize.ShloMosaic.Lib.Claim

@[expose] public section

noncomputable section

namespace Cert.AttnClaim

open Idealize.ShloMosaic Idealize.SL.Sem

theorem frame : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_scores := fun m ρ _ => Cert.KernelIdeal.Gen.frame m ρ

theorem frame_reference : Cert.quiescent_ReferenceIdeal := by
  intro m g _
  refine (θ_run Cert.ReferenceIdeal.defs _ _).mono (fun r h => ⟨fun c => (h c).2, ?_⟩) (Cert.AttnRef.run m g)
  exact sem_eq_zero_of_no_sems (by decide) r.2

theorem frame_reference_pre : Cert.quiescent_ReferenceIdeal_pre_finite_scores :=
  fun m g _ => frame_reference m g trivial

theorem algebraic : Cert.algebraic_KernelIdeal_ReferenceIdeal_pre_finite_scores := by
  pair_intro
  · run_from Cert.KernelIdeal.Value.run_blocks m g
  · run_from Cert.AttnRef.run m' g'
    obtain ⟨⟨qn, e0⟩, ⟨qr, e1⟩, ⟨kn, e2⟩, ⟨kr, e3⟩⟩ := Cert.AttnPre.real_args m hpre c
    rw [e0, e1, e2, e3]
    exact (Cert.AttnArray.final m c qn qr kn kr _ e0 e1 e2 e3 rfl).symm

end Cert.AttnClaim

end
-- ==== Proof.Rows.lean ====
/-
  What the layer does to one token's row of extended reals: the norm of a row, the activation written with a hyperbolic
  tangent and with an exponential, the feed-forward half-step. The two activations agree at a real number, and the rows
  they are applied to are real where the gain and the weights are: a row with an infinite entry is normed to zero.
-/
module

public import proofs.«01_k».proof.Proof.RowSums
public import Mathlib.Analysis.SpecialFunctions.Trigonometric.DerivHyp

@[expose] public section

noncomputable section

namespace Cert.Rows

open Idealize.ShloMosaic Cert.RowSums

/-- One half, as the programs write it. -/
def half : EReal := Ideal.ofBits .f32 0x3F000000#32

/-- The norm's `ε`, as the programs write it. -/
def eps : EReal := Ideal.ofBits .f32 0x358637BD#32

/-- The extents of the normed rows, as the programs write them. -/
def n1024 : EReal := Ideal.ofBits .f32 0x44800000#32
def n256 : EReal := Ideal.ofBits .f32 0x43800000#32
def n512 : EReal := Ideal.ofBits .f32 0x44000000#32
def n128 : EReal := Ideal.ofBits .f32 0x43000000#32

theorem half_eq : half = ((2⁻¹ : ℝ) : EReal) := by
  simp [half, Ideal.ofBits, Ideal.ieee]
  rw [← EReal.coe_mul]
  norm_num

theorem eps_eq : ∃ e : ℝ, 0 < e ∧ eps = (e : EReal) :=
  ⟨8796093 * (2 ^ 43 : ℝ)⁻¹, by positivity, by simp [eps, Ideal.ofBits, Ideal.ieee]⟩

theorem n1024_eq : n1024 = ((1024 : ℝ) : EReal) := by
  simp [n1024, Ideal.ofBits, Ideal.ieee]
  rw [← EReal.coe_mul]
  norm_num

/-- Entry `l` of the row `x`, normed by its root mean square over `n` lanes, times the gain. -/
def normed {k : ℕ} (n : EReal) (x g : Fin k → EReal) (l : Fin k) : EReal :=
  x l * Ideal.rsqrt (Ideal.div (∑ i, x i * x i) n + eps) * g l

/-- The norm of equal rows. -/
theorem normed_congr {k : ℕ} {x x' g g' : Fin k → EReal} (hx : ∀ l, x l = x' l) (hg : ∀ l, g l = g' l) (n : EReal) (l : Fin k) :
    normed n x g l = normed n x' g' l := by
  obtain rfl : x = x' := funext hx
  obtain rfl : g = g' := funext hg
  rfl

/-- The activation with a hyperbolic tangent. -/
def siluT (x : EReal) : EReal := half * x + half * x * Ideal.tanh (half * x)

/-- The activation with the logistic function. -/
def siluL (x : EReal) : EReal := x * Ideal.div 1 (1 + Ideal.exp (-x))

/-- `½ (1 + tanh (x / 2))` is the logistic function. -/
theorem tanh_half (x : ℝ) : 2⁻¹ * x + 2⁻¹ * x * Real.tanh (2⁻¹ * x) = x * (1 + Real.exp (-x))⁻¹ := by
  have e : Real.exp (-x) = Real.exp (-(2⁻¹ * x)) * Real.exp (-(2⁻¹ * x)) := by rw [← Real.exp_add]; ring_nf
  have p := Real.exp_pos (2⁻¹ * x)
  have q := Real.exp_pos (-(2⁻¹ * x))
  have pq : Real.exp (2⁻¹ * x) * Real.exp (-(2⁻¹ * x)) = 1 := by rw [← Real.exp_add]; simp
  rw [Real.tanh_eq_sinh_div_cosh, Real.sinh_eq, Real.cosh_eq, e]
  generalize Real.exp (2⁻¹ * x) = a at *
  generalize Real.exp (-(2⁻¹ * x)) = b at *
  have hab : a + b ≠ 0 := by positivity
  have hb : 1 + b * b ≠ 0 := by positivity
  have h2 : (a + b) / 2 ≠ 0 := by positivity
  field_simp
  linear_combination (2 * x * b) * pq

theorem silu_real (x : ℝ) : siluT (x : EReal) = siluL (x : EReal) := by
  have l : Ideal.div 1 (1 + Ideal.exp (-(x : EReal))) = (((1 + Real.exp (-x))⁻¹ : ℝ) : EReal) := Ideal.logistic_coe x
  rw [siluT, siluL, l, half_eq, ← EReal.coe_mul, Ideal.tanh_coe, ← EReal.coe_mul, ← EReal.coe_add, ← EReal.coe_mul, tanh_half]

/-- The normed row is real where the row and the gain are. -/
theorem normed_coe {k : ℕ} (x g : Fin k → ℝ) (l : Fin k) :
    ∃ r : ℝ, normed n1024 (fun i => (x i : EReal)) (fun i => (g i : EReal)) l = r := by
  obtain ⟨e, he, ee⟩ := eps_eq
  have hs : 0 ≤ ∑ i, x i * x i := Finset.sum_nonneg fun i _ => mul_self_nonneg _
  have hp : 0 < (∑ i, x i * x i) * (1024 : ℝ)⁻¹ + e := by positivity
  have h0 : ((1024 : ℝ) : EReal) ≠ 0 := by exact_mod_cast (by norm_num : (1024 : ℝ) ≠ 0)
  refine ⟨x l * (Real.sqrt ((∑ i, x i * x i) * (1024 : ℝ)⁻¹ + e))⁻¹ * g l, ?_⟩
  simp only [normed, n1024_eq, ee, ← EReal.coe_mul, ← coe_sum]
  rw [Ideal.div, if_neg h0, ← EReal.coe_inv, ← EReal.coe_mul, ← EReal.coe_add, Ideal.rsqrt_coe, if_neg hp.not_gt,
    if_neg hp.ne', ← EReal.coe_mul, ← EReal.coe_mul]

theorem sq_nonneg (a : EReal) : 0 ≤ a * a := by
  induction a with
  | bot => simp
  | top => simp
  | coe r => rw [← EReal.coe_mul]; exact_mod_cast mul_self_nonneg r

/-- A row with an infinite entry is normed to zero. -/
theorem normed_inf {k : ℕ} (x g : Fin k → EReal) (i : Fin k) (h : x i * x i = ⊤) (l : Fin k) : normed n1024 x g l = 0 := by
  obtain ⟨e, -, ee⟩ := eps_eq
  have hs : ∑ i, x i * x i = ⊤ :=
    top_le_iff.mp (h.ge.trans (Finset.single_le_sum (f := fun i => x i * x i) (fun i _ => sq_nonneg (x i)) (Finset.mem_univ i)))
  have h0 : ((1024 : ℝ) : EReal) ≠ 0 := by exact_mod_cast (by norm_num : (1024 : ℝ) ≠ 0)
  have hd : Ideal.div ⊤ ((1024 : ℝ) : EReal) = ⊤ := by
    rw [Ideal.div, if_neg h0, ← EReal.coe_inv, EReal.top_mul_coe_of_pos (by norm_num)]
  rw [normed, hs, n1024_eq, hd, ee, EReal.top_add_coe, Ideal.rsqrt_top, mul_zero, zero_mul]

/-- The normed row is real where the gain is, whatever the row. -/
theorem normed_real {k : ℕ} (x : Fin k → EReal) (g : Fin k → ℝ) (l : Fin k) :
    ∃ r : ℝ, normed n1024 x (fun i => (g i : EReal)) l = r := by
  by_cases h : ∃ i, x i * x i = ⊤
  · obtain ⟨i, hi⟩ := h
    exact ⟨0, by rw [normed_inf x _ i hi]; rfl⟩
  · have hx : ∀ i, x i = ((x i).toReal : EReal) := fun i =>
      (EReal.coe_toReal (fun e => h ⟨i, by simp [e]⟩) (fun e => h ⟨i, by simp [e]⟩)).symm
    obtain ⟨r, hr⟩ := normed_coe (fun i => (x i).toReal) g l
    exact ⟨r, (normed_congr hx (fun _ => rfl) _ _).trans hr⟩

section
variable (x g : Fin 1024 → EReal) (win : Fin 1024 → Fin 5632 → EReal) (wout : Fin 2816 → Fin 1024 → EReal)

/-- Entry `j` of the normed row's product with the first weights. -/
def hidden (j : Fin 5632) : EReal := ∑ l, normed n1024 x g l * win l j

/-- Entry `c` of the half-step with an activation `f`. -/
def step (f : EReal → EReal) (c : Fin 1024) : EReal :=
  x c + half * ∑ j : Fin 2816, f (hidden x g win ⟨j.val, by omega⟩) * hidden x g win ⟨2816 + j.val, by omega⟩ * wout j c
end

/-- The half-step of equal rows and weights. -/
theorem step_congr {x x' g g' : Fin 1024 → EReal} {win win' : Fin 1024 → Fin 5632 → EReal} {wout wout' : Fin 2816 → Fin 1024 → EReal}
    (hx : ∀ l, x l = x' l) (hg : ∀ l, g l = g' l) (hi : ∀ l j, win l j = win' l j) (ho : ∀ j c, wout j c = wout' j c)
    (f : EReal → EReal) (c : Fin 1024) : step x g win wout f c = step x' g' win' wout' f c := by
  obtain rfl : x = x' := funext hx
  obtain rfl : g = g' := funext hg
  obtain rfl : win = win' := funext fun l => funext (hi l)
  obtain rfl : wout = wout' := funext fun j => funext (ho j)
  rfl

theorem hidden_real (x : Fin 1024 → EReal) (g : Fin 1024 → ℝ) (win : Fin 1024 → Fin 5632 → ℝ) (j : Fin 5632) :
    ∃ r : ℝ, hidden x (fun l => (g l : EReal)) (fun l j => (win l j : EReal)) j = r := by
  choose n hn using normed_real x g
  exact ⟨∑ l, n l * win l j, by simp only [hidden, hn, ← EReal.coe_mul, ← coe_sum]⟩

/-- The half-step is the same with either activation where the gain and the first weights are real. -/
theorem step_eq (x : Fin 1024 → EReal) (g : Fin 1024 → ℝ) (win : Fin 1024 → Fin 5632 → ℝ) (wout : Fin 2816 → Fin 1024 → EReal) (c : Fin 1024) :
    step x (fun l => (g l : EReal)) (fun l j => (win l j : EReal)) wout siluT c
      = step x (fun l => (g l : EReal)) (fun l j => (win l j : EReal)) wout siluL c := by
  choose h hh using hidden_real x g win
  simp only [step, hh, silu_real]

end Cert.Rows

end
-- ==== Proof.FfnBlock.lean ====
/-
  What one block of the feed-forward's call computes, at one row and one column: the half-step of that row.
-/
module

public import proofs.«01_k».proof.Proof.Rows
public import proofs.«01_k».proof.Proof.Gen.FfnIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.FfnBlock

open Cert.FfnIdeal Cert.FfnIdeal.Gen Idealize.ShloMosaic Idealize.SL.Sem Cert.RowSums Cert.Rows

set_option maxHeartbeats 4000000 in
theorem pay_apply (x : FVec Ideal S512x1024 .f32) (g : FVec Ideal S1x1024 .f32) (win : FVec Ideal S1024x5632 .bf16)
    (wout : FVec Ideal S2816x1024 .bf16) (r : Fin 512) (c : Fin 1024) :
    k0_pay1 (F := Ideal) x g win wout (ix2 r c)
      = step (fun l => x (ix2 r l)) (fun l => g (ix2 0 l)) (fun l j => win (ix2 l j)) (fun j c => wout (ix2 j c)) siluT c := by
  pointwise [k0_pay1]
  rfl

end Cert.FfnBlock

end
-- ==== Proof.FfnRef.lean ====
/-
  What the plain feed-forward half-step computes, at one token and one column.
-/
module

public import proofs.«01_k».proof.Proof.Rows
public import proofs.«01_k».proof.Proof.Gen.FfnReferenceIdeal.Run
public import Idealize.ShloMosaic.Lib.Pipeline.ValueKit
public import Idealize.ShloMosaic.Lib.Pointwise
public import Idealize.ShloMosaic.Lib.Tactic

@[expose] public section

set_option maxRecDepth 16384

noncomputable section

namespace Cert.FfnRef

open Cert.FfnReferenceIdeal Cert.FfnReferenceIdeal.Gen Idealize.ShloMosaic Idealize.SL.Sem Cert.RowSums Cert.Rows

/-- The norm of each token's row, times the gain. -/
def norm (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf x x) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

/-- The normed rows' products with the first weights. -/
def gu (x : FVec Ideal S32x2048x1024 .f32) (g : FVec Ideal S1024 .f32) (win : FVec Ideal S1024x5632 .f32) : FVec Ideal S32x2048x5632 .f32 :=
  Host.dotGeneral dot_S32x2048x1024_S1024x5632_S32x2048x5632_2_0_01_1_n_n none (norm x g) win

/-- The activation. -/
def act (t : FVec Ideal S32x2048x2816 .f32) : FVec Ideal S32x2048x2816 .f32 :=
  mulf t (Host.divf (broadcastInDim S32x2048x2816 ![] bcast_S_S32x2048x2816 (constant S_ .f32 0x3F800000#32))
    (addf (broadcastInDim S32x2048x2816 ![] bcast_S_S32x2048x2816 (constant S_ .f32 0x3F800000#32)) (Host.exp (Host.negf t))))

/-- The half-step, the tokens by batch and position. -/
def half3 (x : FVec Ideal S32x2048x1024 .f32) (g : FVec Ideal S1024 .f32) (win : FVec Ideal S1024x5632 .f32) (wout : FVec Ideal S2816x1024 .f32) :
    FVec Ideal S32x2048x1024 .f32 :=
  addf x (mulf (broadcastInDim S32x2048x1024 ![] bcast_S_S32x2048x1024 (constant S_ .f32 0x3F000000#32))
    (Host.dotGeneral dot_S32x2048x2816_S2816x1024_S32x2048x1024_2_0_01_1_n_n none
      (mulf (act (extractStridedSlice S32x2048x2816 ![0, 0, 0] (gu x g win) slices_S32x2048x5632_S32x2048x2816_0_0_0))
        (extractStridedSlice S32x2048x2816 ![0, 0, 2816] (gu x g win) slices_S32x2048x5632_S32x2048x2816_0_0_2816)) wout))

/-- The whole reference. -/
def REF (x : FVec Ideal S32x2048x1024 .f32) (g : FVec Ideal S1024 .f32) (win : FVec Ideal S1024x5632 .f32) (wout : FVec Ideal S2816x1024 .f32) :
    FVec Ideal S65536x1024 .f32 :=
  shapeCast _ (half3 x g win wout) shapeCasts_S32x2048x1024_S65536x1024

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = REF (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.FfnReferenceIdeal.Value.run m ρ

variable (x : FVec Ideal S32x2048x1024 .f32) (g : FVec Ideal S1024 .f32) (win : FVec Ideal S1024x5632 .f32) (wout : FVec Ideal S2816x1024 .f32)

theorem norm_apply (b : Fin 32) (i : Fin 2048) (l : Fin 1024) :
    norm x g (ix3 b i l) = normed n1024 (fun l => x (ix3 b i l)) (fun l => g (ix1 l)) l := by
  pointwise [norm]
  rfl

theorem gu_apply (b : Fin 32) (i : Fin 2048) (j : Fin 5632) :
    gu x g win (ix3 b i j) = hidden (fun l => x (ix3 b i l)) (fun l => g (ix1 l)) (fun l j => win (ix2 l j)) j := by
  pointwise [gu]
  simp only [norm_apply]
  rfl

theorem half3_apply (b : Fin 32) (i : Fin 2048) (c : Fin 1024) :
    half3 x g win wout (ix3 b i c)
      = step (fun l => x (ix3 b i l)) (fun l => g (ix1 l)) (fun l j => win (ix2 l j)) (fun j c => wout (ix2 j c)) siluL c := by
  pointwise [half3, act]
  simp only [gu_apply, Ideal.ofBits_one_f32]
  rfl

theorem REF_apply (i : Fin 65536) (c : Fin 1024) :
    REF x g win wout (ix2 i c) = half3 x g win wout (ix3 ⟨i.val / 2048, by omega⟩ ⟨i.val % 2048, by omega⟩ c) := by
  pointwise [REF]

end Cert.FfnRef

end
-- ==== Proof.FfnArray.lean ====
/-
  The feed-forward call's whole output array: where the gain and the first weights are real it is the plain
  half-step's.
-/
module

public import proofs.«01_k».proof.Proof.FfnBlock
public import proofs.«01_k».proof.Proof.FfnRef
public import proofs.«01_k».proof.Proof.Gen.FfnIdeal.Value
public import Idealize.ShloMosaic.Lib.Claim

@[expose] public section

set_option maxRecDepth 16384

noncomputable section

namespace Cert.FfnArray

open Cert.FfnIdeal Cert.FfnIdeal.Gen Idealize.ShloMosaic Idealize.ShloMosaic.TcCoe Idealize.SL.Sem
open Idealize.ShloMosaic.Pipeline (Dat)
open Cert.RowSums Cert.Rows

/-- The windows' blocks at each grid point. -/
theorem idx : ∀ t : Fin cfg0.N, win0_0.index t = ![t.val, 0] ∧ win0_1.index t = ![0, 0] ∧ win0_2.index t = ![0, 0]
    ∧ win0_3.index t = ![0, 0] ∧ win0_5.index t = ![t.val, 0] :=
  (by decide +kernel : ∀ t : Fin grid0.N, _)

/-- An index of the output's block, by its row and its column. -/
theorem row_col (y : S512x1024.Idx) : y = ix2 ⟨(y 0).val, (y 0).isLt⟩ ⟨(y 1).val, (y 1).isLt⟩ := by
  idx_vars y
  rfl

section
variable (m : (ℓ : Loc nD τ sig) → Buf (Elt Ideal) ℓ) (c : Dev nD)
  (x : FVec Ideal S32x2048x1024 .f32) (g : FVec Ideal S1024 .f32) (win : FVec Ideal S1024x5632 .f32) (wout : FVec Ideal S2816x1024 .f32)

/-- The input's rows, one after another. -/
def X : FVec Ideal S65536x1024 .f32 := shapeCast _ x shapeCasts_S32x2048x1024_S65536x1024

/-- The gain as a row. -/
def G : FVec Ideal S1x1024 .f32 := shapeCast _ g shapeCasts_S1024_S1x1024

theorem V_x : V m c main_v0 = X (m ((c : Thread nD τ).loc main_arg0)) := by entry_read; rfl
theorem V_g : V m c main_v1 = G (m ((c : Thread nD τ).loc main_arg1)) := by entry_read; rfl
theorem V_win : V m c main_v2 = (truncf .bf16 (m ((c : Thread nD τ).loc main_arg2) : FVec Ideal S1024x5632 .f32) bitsLt_bf16_f32 : FVec Ideal S1024x5632 .bf16) := by
  entry_read; rfl
theorem V_wout : V m c main_v3 = (truncf .bf16 (m ((c : Thread nD τ).loc main_arg3) : FVec Ideal S2816x1024 .f32) bitsLt_bf16_f32 : FVec Ideal S2816x1024 .bf16) := by
  entry_read; rfl

theorem X_apply (i : Fin 65536) (l : Fin 1024) : X x (ix2 i l) = x (ix3 ⟨i.val / 2048, by omega⟩ ⟨i.val % 2048, by omega⟩ l) := by
  pointwise [X]

theorem G_apply (l : Fin 1024) : G g (ix2 0 l) = g (ix1 l) := by
  pointwise [G]

set_option maxHeartbeats 4000000 in
/-- The array after the run. -/
theorem final (rg : ∃ f : S1024.Idx → ℝ, g = fun i => (f i : EReal))
    (rw' : ∃ f : S1024x5632.Idx → ℝ, win = fun i => (f i : EReal))
    (e0 : m ((c : Thread nD τ).loc main_arg0) = x) (e1 : m ((c : Thread nD τ).loc main_arg1) = g)
    (e2 : m ((c : Thread nD τ).loc main_arg2) = win) (e3 : m ((c : Thread nD τ).loc main_arg3) = wout) :
    (dats m 0 c).arrAt 5 (cfgs 0).N = FfnRef.REF x g win wout := by
  have V0 : V m c main_v0 = X x := by rw [V_x, e0]
  have V1 : V m c main_v1 = G g := by rw [V_g, e1]
  have V2 : V m c main_v2 = (win : FVec Ideal S1024x5632 .bf16) := by rw [V_win, e2]; rfl
  have V3 : V m c main_v3 = (wout : FVec Ideal S2816x1024 .bf16) := by rw [V_wout, e3]; rfl
  have B0 : iblk m c 0 = fun t => ((cfg0.win 0).blk t).view.read (Elt Ideal) (X x) := by rw [← V0]; rfl
  have B1 : iblk m c 1 = fun t => ((cfg0.win 1).blk t).view.read (Elt Ideal) (G g) := by rw [← V1]; rfl
  have B2 : iblk m c 2 = fun t => ((cfg0.win 2).blk t).view.read (Elt Ideal) (win : FVec Ideal S1024x5632 .bf16) := by rw [← V2]; rfl
  have B3 : iblk m c 3 = fun t => ((cfg0.win 3).blk t).view.read (Elt Ideal) (wout : FVec Ideal S2816x1024 .bf16) := by rw [← V3]; rfl
  refine (dats m 0 c).arrAt_eq_of_covers 5 _ (by decide +kernel) fun t _ y => ?_
  have ht : t.val < 128 := lt_of_lt_of_eq t.isLt N_0
  blk_simp
  rw [after0_5]
  frame_out
  refine Eq.trans (congrArg (k0_pay1 (F := Ideal) _ _ _ _) (row_col y))
    (Eq.trans ?_ (b := FfnRef.REF x g win wout (ix2 ⟨t.val * 512 + (y 0).val, by idx_bounds y; omega⟩ ⟨(y 1).val, (y 1).isLt⟩)) (by blk_ext [idx t]))
  rw [FfnRef.REF_apply, FfnRef.half3_apply]
  refine (FfnBlock.pay_apply _ _ _ _ _ _).trans ?_
  have h0 : ∀ l : Fin 1024, iblk m c 0 t (ix2 ⟨(y 0).val, (y 0).isLt⟩ l)
      = X x (ix2 ⟨t.val * 512 + (y 0).val, by idx_bounds y; omega⟩ l) := by
    intro l; rw [B0]; blk_ext [idx t]
  have h1 : ∀ l : Fin 1024, iblk m c 1 t (ix2 0 l) = G g (ix2 0 l) := by
    intro l; rw [B1]; blk_ext [idx t]
  have h2 : ∀ (l : Fin 1024) (j : Fin 5632), iblk m c 2 t (ix2 l j) = win (ix2 l j) := by
    intro l j; rw [B2]; blk_ext [idx t]
  have h3 : ∀ (l : Fin 2816) (j : Fin 1024), iblk m c 3 t (ix2 l j) = wout (ix2 l j) := by
    intro l j; rw [B3]; blk_ext [idx t]
  obtain ⟨fg, rfl⟩ := rg
  obtain ⟨fw, rfl⟩ := rw'
  exact (step_congr (fun l => (h0 l).trans (X_apply _ _ l)) (fun l => (h1 l).trans (G_apply _ l)) h2 h3 siluT _).trans
    (step_eq (fun l => x (ix3 _ _ l)) (fun l => fg (ix1 l)) (fun l j => fw (ix2 l j)) _ _)
end

end Cert.FfnArray

end
-- ==== Proof.FfnPre.lean ====
/-
  What the feed-forward's precondition says: the gain and the first weights are real numbers.
-/
module

public import proofs.«01_k».proof.Proof.AttnPre
public import proofs.«01_k».proof.Proof.Gen.Pre_finite_hidden
public import proofs.«01_k».proof.Proof.Gen.FfnIdeal
public import proofs.«01_k».proof.Proof.Gen.LastIdeal

@[expose] public section

noncomputable section

namespace Cert.FfnPre

open Idealize.ShloMosaic Idealize.SL.Sem Cert.AttnPre

theorem real_args (m : (ℓ : Loc Cert.FfnIdeal.nD Cert.FfnIdeal.τ Cert.FfnIdeal.sig) → Buf (Elt Ideal) ℓ)
    (h : Cert.Pre_FfnIdeal_finite_hidden m) (c : Dev Cert.FfnIdeal.nD) :
    (∃ f : Cert.FfnIdeal.S1024.Idx → ℝ, m ((c.tc : Thread Cert.FfnIdeal.nD Cert.FfnIdeal.τ).loc Cert.FfnIdeal.main_arg1) = fun i => (f i : EReal))
    ∧ (∃ f : Cert.FfnIdeal.S1024x5632.Idx → ℝ, m ((c.tc : Thread Cert.FfnIdeal.nD Cert.FfnIdeal.τ).loc Cert.FfnIdeal.main_arg2) = fun i => (f i : EReal)) :=
  ⟨real_of_below _ _ _ (h c).1, real_of_below _ _ _ (h c).2⟩

theorem real_args_last (m : (ℓ : Loc Cert.LastIdeal.nD Cert.LastIdeal.τ Cert.LastIdeal.sig) → Buf (Elt Ideal) ℓ)
    (h : Cert.Pre_LastIdeal_finite_hidden m) (c : Dev Cert.LastIdeal.nD) :
    (∃ f : Cert.LastIdeal.S1024.Idx → ℝ, m ((c.tc : Thread Cert.LastIdeal.nD Cert.LastIdeal.τ).loc Cert.LastIdeal.main_arg1) = fun i => (f i : EReal))
    ∧ (∃ f : Cert.LastIdeal.S1024x5632.Idx → ℝ, m ((c.tc : Thread Cert.LastIdeal.nD Cert.LastIdeal.τ).loc Cert.LastIdeal.main_arg2) = fun i => (f i : EReal)) :=
  ⟨real_of_below _ _ _ (h c).1, real_of_below _ _ _ (h c).2⟩

end Cert.FfnPre

end
-- ==== Proof.FfnClaim.lean ====
/-
  The claims about the feed-forward half-step: the programs run and keep their arguments, and the kernel's output is the
  reference's.
-/
module

public import proofs.«01_k».proof.Proof.FfnArray
public import proofs.«01_k».proof.Proof.FfnPre
public import proofs.«01_k».proof.Proof.Gen.Ffn.Frame
public import Idealize.ShloMosaic.Lib.Claim

@[expose] public section

noncomputable section

namespace Cert.FfnClaim

open Idealize.ShloMosaic Idealize.SL.Sem

theorem frame : Cert.quiescent_Ffn := fun m ρ _ => Cert.Ffn.Gen.frame m ρ

theorem frame_ideal : Cert.quiescent_FfnIdeal := fun m ρ _ => Cert.FfnIdeal.Gen.frame m ρ

theorem frame_ideal_pre : Cert.quiescent_FfnIdeal_pre_finite_hidden := fun m ρ _ => Cert.FfnIdeal.Gen.frame m ρ

theorem frame_reference : Cert.quiescent_FfnReferenceIdeal := by
  intro m g _
  refine (θ_run Cert.FfnReferenceIdeal.defs _ _).mono (fun r h => ⟨fun c => (h c).2, ?_⟩) (Cert.FfnRef.run m g)
  exact sem_eq_zero_of_no_sems (by decide) r.2

theorem frame_reference_pre : Cert.quiescent_FfnReferenceIdeal_pre_finite_hidden :=
  fun m g _ => frame_reference m g trivial

theorem algebraic : Cert.algebraic_FfnIdeal_FfnReferenceIdeal_pre_finite_hidden := by
  pair_intro
  · run_from Cert.FfnIdeal.Value.run_blocks m g
  · run_from Cert.FfnRef.run m' g'
    obtain ⟨r0, r1⟩ := Cert.FfnPre.real_args m hpre c
    exact (Cert.FfnArray.final m c _ _ _ _ r0 r1 rfl rfl rfl rfl).symm

end Cert.FfnClaim

end
-- ==== Proof.LastBlock.lean ====
/-
  What one block of the last feed-forward's call computes, at one row and one column: the norm of the half-step's row.
-/
module

public import proofs.«01_k».proof.Proof.FfnBlock
public import proofs.«01_k».proof.Proof.Gen.LastIdeal.Frame

@[expose] public section

set_option maxRecDepth 16384

noncomputable section

namespace Cert.LastBlock

open Cert.LastIdeal Cert.LastIdeal.Gen Idealize.ShloMosaic Idealize.SL.Sem Cert.RowSums Cert.Rows

/-- The stored value, from the loaded blocks. -/
def body (x : FVec Ideal S512x1024 .f32) (g : FVec Ideal S1x1024 .f32) (win : FVec Ideal S1024x5632 .bf16)
    (wout : FVec Ideal S2816x1024 .bf16) (fin : FVec Ideal S1x1024 .f32) : FVec Ideal S512x1024 .f32 :=
  k0_pay1 (k0_pay2 x g win wout) (k0_pay3 fin) (k0_pay4 x g win wout) (Scalar.ofBits .f32 0x44800000#32)

/-- The norm of a block of rows. -/
theorem norm_apply (h : FVec Ideal S512x1024 .f32) (s : FVec Ideal S512x1 .f32) (fin : FVec Ideal S1x1024 .f32) (r : Fin 512) (c : Fin 1024)
    (hs : s (ix2 r 0) = ∑ l : Fin 1024, h (ix2 r l) * h (ix2 r l)) :
    k0_pay1 (F := Ideal) h fin s (Scalar.ofBits .f32 0x44800000#32) (ix2 r c)
      = normed n1024 (fun l => h (ix2 r l)) (fun l => fin (ix2 0 l)) c := by
  pointwise [k0_pay1]
  rw [hs]
  rfl

theorem body_apply (x : FVec Ideal S512x1024 .f32) (g : FVec Ideal S1x1024 .f32) (win : FVec Ideal S1024x5632 .bf16)
    (wout : FVec Ideal S2816x1024 .bf16) (fin : FVec Ideal S1x1024 .f32) (r : Fin 512) (c : Fin 1024) :
    body x g win wout fin (ix2 r c) = normed n1024
      (step (fun l => x (ix2 r l)) (fun l => g (ix2 0 l)) (fun l j => win (ix2 l j)) (fun j c => wout (ix2 j c)) siluT)
      (fun l => fin (ix2 0 l)) c := by
  have hp : ∀ l : Fin 1024, k0_pay2 (F := Ideal) x g win wout (ix2 r l)
      = step (fun l => x (ix2 r l)) (fun l => g (ix2 0 l)) (fun l j => win (ix2 l j)) (fun j c => wout (ix2 j c)) siluT l :=
    fun l => FfnBlock.pay_apply x g win wout r l
  have hf : ∀ l : Fin 1024, k0_pay3 (F := Ideal) fin (ix2 0 l) = fin (ix2 0 l) := fun l => by pointwise [k0_pay3]
  have hs : k0_pay4 (F := Ideal) x g win wout (ix2 r 0)
      = ∑ l : Fin 1024, k0_pay2 (F := Ideal) x g win wout (ix2 r l) * k0_pay2 (F := Ideal) x g win wout (ix2 r l) := by
    pointwise [k0_pay4]
  refine (norm_apply _ _ _ r c hs).trans ?_
  simp only [hp, hf]

end Cert.LastBlock

end
-- ==== Proof.LastRef.lean ====
/-
  What the plain last half-step with the trunk's norm computes, at one token and one column.
-/
module

public import proofs.«01_k».proof.Proof.FfnRef
public import proofs.«01_k».proof.Proof.Gen.LastReferenceIdeal.Run

@[expose] public section

set_option maxRecDepth 16384

noncomputable section

namespace Cert.LastRef

open Cert.LastReferenceIdeal Cert.LastReferenceIdeal.Gen Idealize.ShloMosaic Idealize.SL.Sem Cert.RowSums Cert.Rows

variable (x : FVec Ideal S32x2048x1024 .f32) (g : FVec Ideal S1024 .f32) (win : FVec Ideal S1024x5632 .f32) (wout : FVec Ideal S2816x1024 .f32)
  (fin : FVec Ideal S1024 .f32)

/-- The whole reference: the half-step, then the norm with the trunk's gain. -/
def REF : FVec Ideal S65536x1024 .f32 :=
  shapeCast _ (FfnRef.norm (FfnRef.half3 x g win wout) fin) shapeCasts_S32x2048x1024_S65536x1024

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = REF (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.LastReferenceIdeal.Value.run m ρ

theorem REF_apply (i : Fin 65536) (c : Fin 1024) :
    REF x g win wout fin (ix2 i c) = normed n1024
      (step (fun l => x (ix3 ⟨i.val / 2048, by omega⟩ ⟨i.val % 2048, by omega⟩ l)) (fun l => g (ix1 l)) (fun l j => win (ix2 l j))
        (fun j c => wout (ix2 j c)) siluL) (fun l => fin (ix1 l)) c := by
  refine Eq.trans (b := FfnRef.norm (FfnRef.half3 x g win wout) fin (ix3 ⟨i.val / 2048, by omega⟩ ⟨i.val % 2048, by omega⟩ c)) (by pointwise [REF]) ?_
  rw [FfnRef.norm_apply]
  simp only [FfnRef.half3_apply]

end Cert.LastRef

end
-- ==== Proof.LastArray.lean ====
/-
  The last feed-forward call's whole output array: where the gain and the first weights are real it is the
  plain half-step's, normed.
-/
module

public import proofs.«01_k».proof.Proof.LastBlock
public import proofs.«01_k».proof.Proof.LastRef
public import proofs.«01_k».proof.Proof.Gen.LastIdeal.Value
public import Idealize.ShloMosaic.Lib.Claim

@[expose] public section

set_option maxRecDepth 16384

noncomputable section

namespace Cert.LastArray

open Cert.LastIdeal Cert.LastIdeal.Gen Idealize.ShloMosaic Idealize.ShloMosaic.TcCoe Idealize.SL.Sem
open Idealize.ShloMosaic.Pipeline (Dat)
open Cert.RowSums Cert.Rows

/-- The windows' blocks at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- An index of the output's block, by its row and its column. -/
theorem row_col (y : S512x1024.Idx) : y = ix2 ⟨(y 0).val, (y 0).isLt⟩ ⟨(y 1).val, (y 1).isLt⟩ := by
  idx_vars y
  rfl

section
variable (m : (ℓ : Loc nD τ sig) → Buf (Elt Ideal) ℓ) (c : Dev nD)
  (x : FVec Ideal S32x2048x1024 .f32) (g : FVec Ideal S1024 .f32) (win : FVec Ideal S1024x5632 .f32) (wout : FVec Ideal S2816x1024 .f32)
  (fin : FVec Ideal S1024 .f32)

/-- The input's rows, one after another. -/
def X : FVec Ideal S65536x1024 .f32 := shapeCast _ x shapeCasts_S32x2048x1024_S65536x1024

/-- A gain as a row. -/
def G : FVec Ideal S1x1024 .f32 := shapeCast _ g shapeCasts_S1024_S1x1024

theorem V_x : V m c main_v0 = X (m ((c : Thread nD τ).loc main_arg0)) := by entry_read; rfl
theorem V_g : V m c main_v1 = G (m ((c : Thread nD τ).loc main_arg1)) := by entry_read; rfl
theorem V_win : V m c main_v2 = (truncf .bf16 (m ((c : Thread nD τ).loc main_arg2) : FVec Ideal S1024x5632 .f32) bitsLt_bf16_f32 : FVec Ideal S1024x5632 .bf16) := by
  entry_read; rfl
theorem V_wout : V m c main_v3 = (truncf .bf16 (m ((c : Thread nD τ).loc main_arg3) : FVec Ideal S2816x1024 .f32) bitsLt_bf16_f32 : FVec Ideal S2816x1024 .bf16) := by
  entry_read; rfl
theorem V_fin : V m c main_v4 = G (m ((c : Thread nD τ).loc main_arg4)) := by entry_read; rfl

theorem X_apply (i : Fin 65536) (l : Fin 1024) : X x (ix2 i l) = x (ix3 ⟨i.val / 2048, by omega⟩ ⟨i.val % 2048, by omega⟩ l) := by
  pointwise [X]

theorem G_apply (l : Fin 1024) : G g (ix2 0 l) = g (ix1 l) := by
  pointwise [G]

set_option maxHeartbeats 4000000 in
/-- The array after the run. -/
theorem final (rg : ∃ f : S1024.Idx → ℝ, g = fun i => (f i : EReal))
    (rw' : ∃ f : S1024x5632.Idx → ℝ, win = fun i => (f i : EReal))
    (e0 : m ((c : Thread nD τ).loc main_arg0) = x) (e1 : m ((c : Thread nD τ).loc main_arg1) = g)
    (e2 : m ((c : Thread nD τ).loc main_arg2) = win) (e3 : m ((c : Thread nD τ).loc main_arg3) = wout)
    (e4 : m ((c : Thread nD τ).loc main_arg4) = fin) :
    (dats m 0 c).arrAt 5 (cfgs 0).N = LastRef.REF x g win wout fin := by
  have V0 : V m c main_v0 = X x := by rw [V_x, e0]
  have V1 : V m c main_v1 = G g := by rw [V_g, e1]
  have V2 : V m c main_v2 = (win : FVec Ideal S1024x5632 .bf16) := by rw [V_win, e2]; rfl
  have V3 : V m c main_v3 = (wout : FVec Ideal S2816x1024 .bf16) := by rw [V_wout, e3]; rfl
  have V4 : V m c main_v4 = G fin := by rw [V_fin, e4]
  have B0 : iblk m c 0 = fun t => ((cfg0.win 0).blk t).view.read (Elt Ideal) (X x) := by rw [← V0]; rfl
  have B1 : iblk m c 1 = fun t => ((cfg0.win 1).blk t).view.read (Elt Ideal) (G g) := by rw [← V1]; rfl
  have B2 : iblk m c 2 = fun t => ((cfg0.win 2).blk t).view.read (Elt Ideal) (win : FVec Ideal S1024x5632 .bf16) := by rw [← V2]; rfl
  have B3 : iblk m c 3 = fun t => ((cfg0.win 3).blk t).view.read (Elt Ideal) (wout : FVec Ideal S2816x1024 .bf16) := by rw [← V3]; rfl
  have B4 : iblk m c 4 = fun t => ((cfg0.win 4).blk t).view.read (Elt Ideal) (G fin) := by rw [← V4]; rfl
  refine (dats m 0 c).arrAt_eq_of_covers 5 _ (by decide +kernel) fun t _ y => ?_
  have ht : t.val < 128 := lt_of_lt_of_eq t.isLt N_0
  blk_simp
  rw [after0_5]
  frame_out
  refine Eq.trans (congrArg (LastBlock.body _ _ _ _ _) (row_col y))
    (Eq.trans ?_ (b := LastRef.REF x g win wout fin (ix2 ⟨t.val * 512 + (y 0).val, by idx_bounds y; omega⟩ ⟨(y 1).val, (y 1).isLt⟩)) (by blk_ext [idx t]))
  rw [LastRef.REF_apply]
  refine (LastBlock.body_apply _ _ _ _ _ _ _).trans ?_
  have h0 : ∀ l : Fin 1024, iblk m c 0 t (ix2 ⟨(y 0).val, (y 0).isLt⟩ l)
      = X x (ix2 ⟨t.val * 512 + (y 0).val, by idx_bounds y; omega⟩ l) := by
    intro l; rw [B0]; blk_ext [idx t]
  have h1 : ∀ l : Fin 1024, iblk m c 1 t (ix2 0 l) = G g (ix2 0 l) := by
    intro l; rw [B1]; blk_ext [idx t]
  have h2 : ∀ (l : Fin 1024) (j : Fin 5632), iblk m c 2 t (ix2 l j) = win (ix2 l j) := by
    intro l j; rw [B2]; blk_ext [idx t]
  have h3 : ∀ (l : Fin 2816) (j : Fin 1024), iblk m c 3 t (ix2 l j) = wout (ix2 l j) := by
    intro l j; rw [B3]; blk_ext [idx t]
  have h4 : ∀ l : Fin 1024, iblk m c 4 t (ix2 0 l) = G fin (ix2 0 l) := by
    intro l; rw [B4]; blk_ext [idx t]
  obtain ⟨fg, rfl⟩ := rg
  obtain ⟨fw, rfl⟩ := rw'
  exact normed_congr (fun l => (step_congr (fun l => (h0 l).trans (X_apply _ _ l)) (fun l => (h1 l).trans (G_apply _ l)) h2 h3 siluT l).trans
    (step_eq (fun l => x (ix3 _ _ l)) (fun l => fg (ix1 l)) (fun l j => fw (ix2 l j)) _ l)) (fun l => (h4 l).trans (G_apply _ l)) _ _
end

end Cert.LastArray

end
-- ==== Proof.LastClaim.lean ====
/-
  The claims about the last half-step with the trunk's norm: the programs run and keep their arguments, and the kernel's output is the
  reference's.
-/
module

public import proofs.«01_k».proof.Proof.LastArray
public import proofs.«01_k».proof.Proof.FfnPre
public import proofs.«01_k».proof.Proof.Gen.Last.Frame
public import Idealize.ShloMosaic.Lib.Claim

@[expose] public section

noncomputable section

namespace Cert.LastClaim

open Idealize.ShloMosaic Idealize.SL.Sem

theorem frame : Cert.quiescent_Last := fun m ρ _ => Cert.Last.Gen.frame m ρ

theorem frame_ideal : Cert.quiescent_LastIdeal := fun m ρ _ => Cert.LastIdeal.Gen.frame m ρ

theorem frame_ideal_pre : Cert.quiescent_LastIdeal_pre_finite_hidden := fun m ρ _ => Cert.LastIdeal.Gen.frame m ρ

theorem frame_reference : Cert.quiescent_LastReferenceIdeal := by
  intro m g _
  refine (θ_run Cert.LastReferenceIdeal.defs _ _).mono (fun r h => ⟨fun c => (h c).2, ?_⟩) (Cert.LastRef.run m g)
  exact sem_eq_zero_of_no_sems (by decide) r.2

theorem frame_reference_pre : Cert.quiescent_LastReferenceIdeal_pre_finite_hidden :=
  fun m g _ => frame_reference m g trivial

theorem algebraic : Cert.algebraic_LastIdeal_LastReferenceIdeal_pre_finite_hidden := by
  pair_intro
  · run_from Cert.LastIdeal.Value.run_blocks m g
  · run_from Cert.LastRef.run m' g'
    obtain ⟨r0, r1⟩ := Cert.FfnPre.real_args_last m hpre c
    exact (Cert.LastArray.final m c _ _ _ _ _ r0 r1 rfl rfl rfl rfl rfl).symm

end Cert.LastClaim

end
-- ==== Proof.MergeRow.lean ====
/-
  What the mixer's merge does to one token: the gates, the three branches' projections, their sum's projection added to
  the residual. The activation of the gating columns is a parameter: its two forms agree where those columns are real.
-/
module

public import proofs.«01_k».proof.Proof.Rows

@[expose] public section

noncomputable section

namespace Cert.MergeRow

open Idealize.ShloMosaic Cert.RowSums Cert.Rows

/-- A token's rows and the layer's weights. -/
@[ext] structure Row where
  h : Fin 1024 → EReal
  of : Fin 512 → EReal
  ob : Fin 512 → EReal
  za : Fin 512 → EReal
  yf : Fin 512 → EReal
  yb : Fin 512 → EReal
  xb : Fin 512 → EReal
  zb : Fin 512 → EReal
  oc : Fin 512 → EReal
  mix : Fin 1024 → EReal
  ga : Fin 128 → EReal
  skip : Fin 512 → EReal
  gb : Fin 512 → EReal
  wa : Fin 512 → Fin 1024 → EReal
  wb : Fin 512 → Fin 1024 → EReal
  wc : Fin 512 → Fin 1024 → EReal
  wg : Fin 1024 → Fin 3072 → EReal
  bg : Fin 3072 → EReal
  wo : Fin 1024 → Fin 1024 → EReal

variable (f : EReal → EReal) (R : Row)

/-- The gates. -/
def gate (j : Fin 3072) : EReal := Ideal.logistic ((∑ l, normed n1024 R.h R.mix l * R.wg l j) + R.bg j)

/-- Lane `l` of head `k` of the first branch: both directions' sum normed over the head's lanes, times its gate. -/
def headA (k : Fin 4) (l : Fin 128) : EReal :=
  normed n128 (fun i => R.of ⟨128 * k.val + i.val, by omega⟩ + R.ob ⟨128 * k.val + i.val, by omega⟩) R.ga l * f (R.za ⟨128 * k.val + l.val, by omega⟩)

/-- The first branch's projection. -/
def outA (j : Fin 1024) : EReal := ∑ c : Fin 512, headA f R ⟨c.val / 128, by omega⟩ ⟨c.val % 128, by omega⟩ * R.wa c j

/-- The second branch before its norm: both directions' sum and the skip, times its gate. -/
def preB (c : Fin 512) : EReal := (R.yf c + R.yb c + R.xb c * R.skip c) * f (R.zb c)

/-- The second branch's projection. -/
def outB (j : Fin 1024) : EReal := ∑ c, normed n512 (preB f R) R.gb c * R.wb c j

/-- The third branch's projection. -/
def outC (j : Fin 1024) : EReal := ∑ c, R.oc c * R.wc c j

/-- The gated sum of the branches. -/
def merged (j : Fin 1024) : EReal :=
  gate R ⟨j.val, by omega⟩ * outA f R j + gate R ⟨1024 + j.val, by omega⟩ * outB f R j + gate R ⟨2048 + j.val, by omega⟩ * outC R j

/-- The merge's output. -/
def out (c : Fin 1024) : EReal := R.h c + ∑ j, merged f R j * R.wo j c

/-- Either activation gives the same where the gating columns are real. -/
theorem out_silu (ha : ∃ a : Fin 512 → ℝ, R.za = fun c => (a c : EReal)) (hb : ∃ b : Fin 512 → ℝ, R.zb = fun c => (b c : EReal)) (c : Fin 1024) :
    out siluT R c = out siluL R c := by
  obtain ⟨a, ha⟩ := ha
  obtain ⟨b, hb⟩ := hb
  have eB : preB siluT R = preB siluL R := funext fun c => by simp only [preB, hb, silu_real]
  have eA : headA siluT R = headA siluL R := funext fun k => funext fun l => by simp only [headA, ha, silu_real]
  simp only [out, merged, outA, outB, eA, eB]

end Cert.MergeRow

end
-- ==== Proof.MergeBlock.lean ====
/-
  What one block of the merge's call computes, at one row and one column: the merge of that row.
-/
module

public import proofs.«01_k».proof.Proof.MergeRow
public import proofs.«01_k».proof.Proof.Gen.MergeIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.MergeBlock

open Cert.MergeIdeal Cert.MergeIdeal.Gen Idealize.ShloMosaic Idealize.SL.Sem Cert.RowSums Cert.Rows Cert.MergeRow

variable (x0 : FVec Ideal S512x1024 .f32) (x1 x2 : FVec Ideal S512x512 .f32) (x3 : FVec Ideal S512x512 .bf16) (x4 x5 : FVec Ideal S512x512 .f32)
  (x6 x7 x8 : FVec Ideal S512x512 .bf16) (x9 : FVec Ideal S1x1024 .f32) (x10 : FVec Ideal S1x128 .f32) (x11 x12 : FVec Ideal S1x512 .f32)
  (x13 x14 x15 : FVec Ideal S512x1024 .bf16) (x16 : FVec Ideal S1024x3072 .bf16) (x17 : FVec Ideal S1x3072 .f32) (x18 : FVec Ideal S1024x1024 .bf16)

/-- Row `r` of the blocks. -/
def rowAt (r : Fin 512) : Row where
  h l := x0 (ix2 r l)
  of l := x1 (ix2 r l)
  ob l := x2 (ix2 r l)
  za l := x3 (ix2 r l)
  yf l := x4 (ix2 r l)
  yb l := x5 (ix2 r l)
  xb l := x6 (ix2 r l)
  zb l := x7 (ix2 r l)
  oc l := x8 (ix2 r l)
  mix l := x9 (ix2 0 l)
  ga l := x10 (ix2 0 l)
  skip l := x11 (ix2 0 l)
  gb l := x12 (ix2 0 l)
  wa l j := x13 (ix2 l j)
  wb l j := x14 (ix2 l j)
  wc l j := x15 (ix2 l j)
  wg l j := x16 (ix2 l j)
  bg j := x17 (ix2 0 j)
  wo l j := x18 (ix2 l j)

theorem gate_apply (r : Fin 512) (j : Fin 3072) : k0_pay3 (F := Ideal) x0 x9 x16 x17 (ix2 r j) = gate (rowAt x0 x1 x2 x3 x4 x5 x6 x7 x8 x9 x10 x11 x12 x13 x14 x15 x16 x17 x18 r) j := by
  pointwise [k0_pay3, k0_pay2]
  rfl

theorem head0 (r : Fin 512) (l : Fin 128) :
    k0_pay9 (F := Ideal) (k0_pay5 x3) (k0_pay6 x1 x2) (k0_pay7 x10) (k0_pay8 x1 x2) (ix2 r l) = headA siluT (rowAt x0 x1 x2 x3 x4 x5 x6 x7 x8 x9 x10 x11 x12 x13 x14 x15 x16 x17 x18 r) 0 l := by
  pointwise [k0_pay9, k0_pay5, k0_pay6, k0_pay7, k0_pay8, k0_pay4]
  have e : ∀ i : Fin 128, (⟨128 * (0 : Fin 4).val + i.val, by omega⟩ : Fin 512) = ⟨i.val, by omega⟩ := fun i => Fin.ext (by simp)
  simp only [headA, rowAt, e]
  rfl

theorem head1 (r : Fin 512) (l : Fin 128) :
    k0_pay10 (F := Ideal) (k0_pay4 x1 x2) (k0_pay5 x3) x10 (ix2 r l) = headA siluT (rowAt x0 x1 x2 x3 x4 x5 x6 x7 x8 x9 x10 x11 x12 x13 x14 x15 x16 x17 x18 r) 1 l := by
  pointwise [k0_pay10, k0_pay5, k0_pay4]
  rfl

/-- A head's lanes 256 on: its norm over the lanes, times its gate. -/
def part2 (o z : FVec Ideal S512x512 .f32) (g : FVec Ideal S1x128 .f32) : FVec Ideal S512x128 .f32 :=
  mulf (mulf (mulf (extractStridedSlice S512x128 ![0, 256] o slices_S512x512_o0_256_S512x128)
      (broadcastTo S512x128 (rsqrt (addf (divf (shapeCast S512x1 (multiReduction .add [1] S512
          (mulf (extractStridedSlice S512x128 ![0, 256] o slices_S512x512_o0_256_S512x128)
            (extractStridedSlice S512x128 ![0, 256] o slices_S512x512_o0_256_S512x128)) 0x00000000#32 reduces_S512x128_S512 (.inl rfl) rfl)
          shapeCasts_S512_S512x1) (broadcast S512x1 (Scalar.ofBits .f32 0x43000000#32)))
        (broadcast S512x1 (Scalar.ofBits .f32 0x358637BD#32)))) broadcasts_S512x1_S512x128))
      (broadcastTo S512x128 (shapeCast S1x128 g shapeCasts_S1x128_S1x128) broadcasts_S1x128_S512x128))
    (addf (mulf (broadcast S512x128 (Scalar.ofBits .f32 0x3F000000#32)) (extractStridedSlice S512x128 ![0, 256] z slices_S512x512_o0_256_S512x128))
      (mulf (mulf (broadcast S512x128 (Scalar.ofBits .f32 0x3F000000#32)) (extractStridedSlice S512x128 ![0, 256] z slices_S512x512_o0_256_S512x128))
        (tanh (mulf (broadcast S512x128 (Scalar.ofBits .f32 0x3F000000#32)) (extractStridedSlice S512x128 ![0, 256] z slices_S512x512_o0_256_S512x128)))))

theorem head2 (r : Fin 512) (l : Fin 128) :
    part2 (k0_pay4 x1 x2) (k0_pay5 x3) x10 (ix2 r l) = headA siluT (rowAt x0 x1 x2 x3 x4 x5 x6 x7 x8 x9 x10 x11 x12 x13 x14 x15 x16 x17 x18 r) 2 l := by
  pointwise [part2, k0_pay4, k0_pay5]
  rfl

/-- A head's lanes 384 on: its norm over the lanes, times its gate. -/
def part3 (o z : FVec Ideal S512x512 .f32) (g : FVec Ideal S1x128 .f32) : FVec Ideal S512x128 .f32 :=
  mulf (mulf (mulf (extractStridedSlice S512x128 ![0, 384] o slices_S512x512_o0_384_S512x128)
      (broadcastTo S512x128 (rsqrt (addf (divf (shapeCast S512x1 (multiReduction .add [1] S512
          (mulf (extractStridedSlice S512x128 ![0, 384] o slices_S512x512_o0_384_S512x128)
            (extractStridedSlice S512x128 ![0, 384] o slices_S512x512_o0_384_S512x128)) 0x00000000#32 reduces_S512x128_S512 (.inl rfl) rfl)
          shapeCasts_S512_S512x1) (broadcast S512x1 (Scalar.ofBits .f32 0x43000000#32)))
        (broadcast S512x1 (Scalar.ofBits .f32 0x358637BD#32)))) broadcasts_S512x1_S512x128))
      (broadcastTo S512x128 (shapeCast S1x128 g shapeCasts_S1x128_S1x128) broadcasts_S1x128_S512x128))
    (addf (mulf (broadcast S512x128 (Scalar.ofBits .f32 0x3F000000#32)) (extractStridedSlice S512x128 ![0, 384] z slices_S512x512_o0_384_S512x128))
      (mulf (mulf (broadcast S512x128 (Scalar.ofBits .f32 0x3F000000#32)) (extractStridedSlice S512x128 ![0, 384] z slices_S512x512_o0_384_S512x128))
        (tanh (mulf (broadcast S512x128 (Scalar.ofBits .f32 0x3F000000#32)) (extractStridedSlice S512x128 ![0, 384] z slices_S512x512_o0_384_S512x128)))))

theorem head3 (r : Fin 512) (l : Fin 128) :
    part3 (k0_pay4 x1 x2) (k0_pay5 x3) x10 (ix2 r l) = headA siluT (rowAt x0 x1 x2 x3 x4 x5 x6 x7 x8 x9 x10 x11 x12 x13 x14 x15 x16 x17 x18 r) 3 l := by
  pointwise [part3, k0_pay4, k0_pay5]
  rfl

/-- The four heads side by side. -/
def beside (a b c d : FVec Ideal S512x128 .f32) : FVec Ideal S512x512 .f32 :=
  concatenate S512x512 1 [⟨S512x128, a⟩, ⟨S512x128, b⟩, ⟨S512x128, c⟩, ⟨S512x128, d⟩] concatenates_S512x128_S512x128_S512x128_S512x128_S512x512_d1

theorem beside_apply (a b c d : FVec Ideal S512x128 .f32) (r x : Fin 512) (H : Fin 4 → Fin 128 → EReal)
    (ha : ∀ l, a (ix2 r l) = H 0 l) (hb : ∀ l, b (ix2 r l) = H 1 l) (hc : ∀ l, c (ix2 r l) = H 2 l) (hd : ∀ l, d (ix2 r l) = H 3 l) :
    beside a b c d (ix2 r x) = H ⟨x.val / 128, by omega⟩ ⟨x.val % 128, by omega⟩ := by
  have at_head : ∀ (k k' : Fin 4) (l l' : Fin 128), k.val = k'.val → l.val = l'.val → H k l = H k' l' :=
    fun k k' l l' hk hl => by rw [Fin.ext hk, Fin.ext hl]
  have hx := x.isLt
  pointwise [beside]
  by_cases h0 : x.val < 128
  · rw [dif_pos h0]
    exact (ha ⟨x.val, h0⟩).trans (at_head 0 _ _ _ (show 0 = x.val / 128 by omega) (show x.val = x.val % 128 by omega))
  rw [dif_neg h0]
  by_cases h1 : x.val - 128 < 128
  · rw [dif_pos h1]
    exact (hb ⟨x.val - 128, h1⟩).trans (at_head 1 _ _ _ (show 1 = x.val / 128 by omega) (show x.val - 128 = x.val % 128 by omega))
  rw [dif_neg h1]
  by_cases h2 : x.val - 128 - 128 < 128
  · rw [dif_pos h2]
    exact (hc ⟨x.val - 128 - 128, h2⟩).trans (at_head 2 _ _ _ (show 2 = x.val / 128 by omega) (show x.val - 128 - 128 = x.val % 128 by omega))
  rw [dif_neg h2]
  exact (hd ⟨x.val - 128 - 128 - 128, by omega⟩).trans
    (at_head 3 _ _ _ (show 3 = x.val / 128 by omega) (show x.val - 128 - 128 - 128 = x.val % 128 by omega))

theorem pay14_eq (a b : FVec Ideal S512x128 .f32) (o z : FVec Ideal S512x512 .f32) (w : FVec Ideal S512x1024 .bf16) :
    k0_pay14 (F := Ideal) o z a b (k0_pay11 o) (k0_pay12 x10) (k0_pay13 o) x10 w
      = matmul dot_S512x512_S512x1024_S512x1024_1_0_0_1_n_n none (truncf .bf16 (beside a b (part2 o z x10) (part3 o z x10)) bitsLt_bf16_f32 : FVec Ideal S512x512 .bf16)
          (shapeCast S512x1024 w shapeCasts_S512x1024_S512x1024) (constant S512x1024 .f32 0x00000000#32) := rfl

theorem outA_apply (r : Fin 512) (j : Fin 1024) :
    k0_pay14 (F := Ideal) (k0_pay4 x1 x2) (k0_pay5 x3) (k0_pay9 (F := Ideal) (k0_pay5 x3) (k0_pay6 x1 x2) (k0_pay7 x10) (k0_pay8 x1 x2))
      (k0_pay10 (F := Ideal) (k0_pay4 x1 x2) (k0_pay5 x3) x10) (k0_pay11 (k0_pay4 x1 x2)) (k0_pay12 x10) (k0_pay13 (k0_pay4 x1 x2)) x10 x13 (ix2 r j)
      = outA siluT (rowAt x0 x1 x2 x3 x4 x5 x6 x7 x8 x9 x10 x11 x12 x13 x14 x15 x16 x17 x18 r) j := by
  rw [pay14_eq]
  pointwise
  unfold outA
  refine Finset.sum_congr rfl fun x _ => congrArg (fun a : EReal => a * x13 (ix2 x j)) ?_
  exact beside_apply _ _ _ _ r x _ (head0 x0 x1 x2 x3 x4 x5 x6 x7 x8 x9 x10 x11 x12 x13 x14 x15 x16 x17 x18 r) (head1 x0 x1 x2 x3 x4 x5 x6 x7 x8 x9 x10 x11 x12 x13 x14 x15 x16 x17 x18 r) (head2 x0 x1 x2 x3 x4 x5 x6 x7 x8 x9 x10 x11 x12 x13 x14 x15 x16 x17 x18 r) (head3 x0 x1 x2 x3 x4 x5 x6 x7 x8 x9 x10 x11 x12 x13 x14 x15 x16 x17 x18 r)

theorem outB_apply (r : Fin 512) (j : Fin 1024) :
    k0_pay17 (F := Ideal) (k0_pay15 x4) (k0_pay16 x5) x6 x11 x7 x12 x14 (ix2 r j) = outB siluT (rowAt x0 x1 x2 x3 x4 x5 x6 x7 x8 x9 x10 x11 x12 x13 x14 x15 x16 x17 x18 r) j := by
  pointwise [k0_pay17, k0_pay15, k0_pay16]
  rfl

/-- The stored value, from the gates and the first two branches. -/
theorem store_apply (v24 : FVec Ideal S512x3072 .f32) (v125 v165 : FVec Ideal S512x1024 .f32) (r : Fin 512) (c : Fin 1024)
    (hg : ∀ j : Fin 3072, v24 (ix2 r j) = gate (rowAt x0 x1 x2 x3 x4 x5 x6 x7 x8 x9 x10 x11 x12 x13 x14 x15 x16 x17 x18 r) j) (hA : ∀ j : Fin 1024, v125 (ix2 r j) = outA siluT (rowAt x0 x1 x2 x3 x4 x5 x6 x7 x8 x9 x10 x11 x12 x13 x14 x15 x16 x17 x18 r) j)
    (hB : ∀ j : Fin 1024, v165 (ix2 r j) = outB siluT (rowAt x0 x1 x2 x3 x4 x5 x6 x7 x8 x9 x10 x11 x12 x13 x14 x15 x16 x17 x18 r) j) :
    k0_pay1 (F := Ideal) (k0_pay2 x0) v24 v125 v165 (k0_pay18 x8) (k0_pay19 x15) (constant S512x1024 .f32 0x00000000#32) x18 (ix2 r c)
      = MergeRow.out siluT (rowAt x0 x1 x2 x3 x4 x5 x6 x7 x8 x9 x10 x11 x12 x13 x14 x15 x16 x17 x18 r) c := by
  pointwise [k0_pay1, k0_pay2, k0_pay18, k0_pay19]
  simp only [hg, hA, hB]
  rfl

end Cert.MergeBlock

end
-- ==== Proof.MergeRef.lean ====
/-
  What the plain merge of the three branches computes, at one token and one column.
-/
module

public import proofs.«01_k».proof.Proof.MergeRow
public import proofs.«01_k».proof.Proof.FfnRef
public import proofs.«01_k».proof.Proof.Gen.MergeReferenceIdeal.Run

@[expose] public section

set_option maxRecDepth 16384

noncomputable section

namespace Cert.MergeRef

open Cert.MergeReferenceIdeal Cert.MergeReferenceIdeal.Gen Idealize.ShloMosaic Idealize.SL.Sem Cert.RowSums Cert.Rows Cert.MergeRow

/-- The gates: the logistic function of the normed residual's projection and its bias. -/
def gates (h : FVec Ideal S32x2048x1024 .f32) (mix : FVec Ideal S1024 .f32) (wg : FVec Ideal S1024x3072 .f32) (bg : FVec Ideal S3072 .f32) : FVec Ideal S32x2048x3072 .f32 :=
  Host.divf (broadcastInDim S32x2048x3072 ![] bcast_S_S32x2048x3072 (constant S_ .f32 0x3F800000#32))
    (addf (broadcastInDim S32x2048x3072 ![] bcast_S_S32x2048x3072 (constant S_ .f32 0x3F800000#32))
      (Host.exp (Host.negf (addf (Host.dotGeneral dot_S32x2048x1024_S1024x3072_S32x2048x3072_2_0_01_1_n_n none (FfnRef.norm h mix) wg)
        (broadcastInDim S32x2048x3072 ![0, 1, 2] bcast_S1x1x3072_S32x2048x3072_0_1_2 (broadcastInDim S1x1x3072 ![2] bcast_S3072_S1x1x3072_2 bg))))))

/-- The first branch's heads, normed and gated. -/
def heads (o_f : FVec Ideal S32x2048x4x128 .f32) (o_b : FVec Ideal S32x2048x4x128 .f32) (z_a : FVec Ideal S32x2048x512 .f32) (ga : FVec Ideal S128 .f32) : FVec Ideal S32x2048x4x128 .f32 :=
  mulf (mulf (mulf (addf o_f o_b) (broadcastInDim S32x2048x4x128 ![0, 1, 2, 3] bcast_S32x2048x4x1_S32x2048x4x128_0_1_2_3
      (Host.rsqrt (addf (Host.divf (broadcastInDim S32x2048x4x1 ![0, 1, 2] bcast_S32x2048x4_S32x2048x4x1_0_1_2
          (Host.reduceAdd (mulf (addf o_f o_b) (addf o_f o_b)) (constant S_ .f32 0x00000000#32) reducesTo_S32x2048x4x128_S32x2048x4_d3 h_S_))
        (broadcastInDim S32x2048x4x1 ![] bcast_S_S32x2048x4x1 (constant S_ .f32 0x43000000#32)))
        (broadcastInDim S32x2048x4x1 ![] bcast_S_S32x2048x4x1 (constant S_ .f32 0x358637BD#32))))))
    (broadcastInDim S32x2048x4x128 ![0, 1, 2, 3] bcast_S1x1x1x128_S32x2048x4x128_0_1_2_3 (broadcastInDim S1x1x1x128 ![3] bcast_S128_S1x1x1x128_3 ga)))
  (mulf (shapeCast _ z_a shapeCasts_S32x2048x512_S32x2048x4x128)
    (Host.divf (broadcastInDim S32x2048x4x128 ![] bcast_S_S32x2048x4x128 (constant S_ .f32 0x3F800000#32))
      (addf (broadcastInDim S32x2048x4x128 ![] bcast_S_S32x2048x4x128 (constant S_ .f32 0x3F800000#32))
        (Host.exp (Host.negf (shapeCast _ z_a shapeCasts_S32x2048x512_S32x2048x4x128))))))

/-- The first branch's projection. -/
def projA (o_f : FVec Ideal S32x2048x4x128 .f32) (o_b : FVec Ideal S32x2048x4x128 .f32) (z_a : FVec Ideal S32x2048x512 .f32) (ga : FVec Ideal S128 .f32) (wa : FVec Ideal S512x1024 .f32) : FVec Ideal S32x2048x1024 .f32 :=
  Host.dotGeneral dot_S32x2048x512_S512x1024_S32x2048x1024_2_0_01_1_n_n none
    (shapeCast _ (heads o_f o_b z_a ga) shapeCasts_S32x2048x4x128_S32x2048x512 : FVec Ideal S32x2048x512 .f32) wa

/-- The second branch, gated, before its norm. -/
def gated (y_f : FVec Ideal S32x2048x8x64 .f32) (y_b : FVec Ideal S32x2048x8x64 .f32) (xbc : FVec Ideal S32x2048x1024 .f32) (z_b : FVec Ideal S32x2048x512 .f32) (D : FVec Ideal S8 .f32) : FVec Ideal S32x2048x512 .f32 :=
  mulf (shapeCast _ (addf (addf y_f y_b) (mulf
      (shapeCast _ (extractStridedSlice S32x2048x512 ![0, 0, 0] xbc slices_S32x2048x1024_S32x2048x512_0_0_0) shapeCasts_S32x2048x512_S32x2048x8x64 : FVec Ideal S32x2048x8x64 .f32)
      (broadcastInDim S32x2048x8x64 ![0, 1, 2, 3] bcast_S1x1x8x1_S32x2048x8x64_0_1_2_3 (broadcastInDim S1x1x8x1 ![2, 3] bcast_S8x1_S1x1x8x1_2_3
        (broadcastInDim S8x1 ![0] bcast_S8_S8x1_0 D))))) shapeCasts_S32x2048x8x64_S32x2048x512)
    (mulf z_b (Host.divf (broadcastInDim S32x2048x512 ![] bcast_S_S32x2048x512 (constant S_ .f32 0x3F800000#32))
      (addf (broadcastInDim S32x2048x512 ![] bcast_S_S32x2048x512 (constant S_ .f32 0x3F800000#32)) (Host.exp (Host.negf z_b)))))

/-- The norm of each token's 512 lanes, times the gain. -/
def norm512 (y : FVec Ideal S32x2048x512 .f32) (g : FVec Ideal S512 .f32) : FVec Ideal S32x2048x512 .f32 :=
  mulf (mulf y (broadcastInDim S32x2048x512 ![0, 1, 2] bcast_S32x2048x1_S32x2048x512_0_1_2
      (Host.rsqrt (addf (Host.divf (broadcastInDim S32x2048x1 ![0, 1] bcast_S32x2048_S32x2048x1_0_1
          (Host.reduceAdd (mulf y y) (constant S_ .f32 0x00000000#32) reducesTo_S32x2048x512_S32x2048_d2 h_S_))
        (broadcastInDim S32x2048x1 ![] bcast_S_S32x2048x1 (constant S_ .f32 0x44000000#32)))
        (broadcastInDim S32x2048x1 ![] bcast_S_S32x2048x1 (constant S_ .f32 0x358637BD#32))))))
    (broadcastInDim S32x2048x512 ![0, 1, 2] bcast_S1x1x512_S32x2048x512_0_1_2 (broadcastInDim S1x1x512 ![2] bcast_S512_S1x1x512_2 g))

/-- A branch's projection from its 512 lanes. -/
def proj (y : FVec Ideal S32x2048x512 .f32) (w : FVec Ideal S512x1024 .f32) : FVec Ideal S32x2048x1024 .f32 :=
  Host.dotGeneral dot_S32x2048x512_S512x1024_S32x2048x1024_2_0_01_1_n_n none y w

/-- The merge from the gates and the branches' projections. -/
def merge3 (h : FVec Ideal S32x2048x1024 .f32) (g : FVec Ideal S32x2048x3072 .f32) (a b c : FVec Ideal S32x2048x1024 .f32)
    (wo : FVec Ideal S1024x1024 .f32) : FVec Ideal S32x2048x1024 .f32 :=
  addf h (Host.dotGeneral dot_S32x2048x1024_S1024x1024_S32x2048x1024_2_0_01_1_n_n none
    (addf (addf (mulf (extractStridedSlice S32x2048x1024 ![0, 0, 0] g slices_S32x2048x3072_S32x2048x1024_0_0_0) a)
        (mulf (extractStridedSlice S32x2048x1024 ![0, 0, 1024] g slices_S32x2048x3072_S32x2048x1024_0_0_1024) b))
      (mulf (extractStridedSlice S32x2048x1024 ![0, 0, 2048] g slices_S32x2048x3072_S32x2048x1024_0_0_2048) c)) wo)

variable (h : FVec Ideal S32x2048x1024 .f32) (o_f : FVec Ideal S32x2048x4x128 .f32) (o_b : FVec Ideal S32x2048x4x128 .f32) (z_a : FVec Ideal S32x2048x512 .f32) (y_f : FVec Ideal S32x2048x8x64 .f32) (y_b : FVec Ideal S32x2048x8x64 .f32) (xbc : FVec Ideal S32x2048x1024 .f32) (z_b : FVec Ideal S32x2048x512 .f32) (o_c : FVec Ideal S32x2048x512 .f32) (mix : FVec Ideal S1024 .f32) (ga : FVec Ideal S128 .f32) (D : FVec Ideal S8 .f32) (gb : FVec Ideal S512 .f32) (wa : FVec Ideal S512x1024 .f32) (wb : FVec Ideal S512x1024 .f32) (wc : FVec Ideal S512x1024 .f32) (wg : FVec Ideal S1024x3072 .f32) (bg : FVec Ideal S3072 .f32) (wo : FVec Ideal S1024x1024 .f32)

/-- The whole reference. -/
def REF : FVec Ideal S65536x1024 .f32 :=
  shapeCast _ (merge3 h (gates h mix wg bg) (projA o_f o_b z_a ga wa) (proj (norm512 (gated y_f y_b xbc z_b D) gb) wb) (proj o_c wc) wo)
    shapeCasts_S32x2048x1024_S65536x1024

set_option maxHeartbeats 1600000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  Cert.MergeReferenceIdeal.Value.run m ρ

/-- Token `(b, i)`'s rows. -/
def rowAt (b : Fin 32) (i : Fin 2048) : Row where
  h l := h (ix3 b i l)
  of l := o_f (ix4 b i ⟨l.val / 128, by omega⟩ ⟨l.val % 128, by omega⟩)
  ob l := o_b (ix4 b i ⟨l.val / 128, by omega⟩ ⟨l.val % 128, by omega⟩)
  za l := z_a (ix3 b i l)
  yf l := y_f (ix4 b i ⟨l.val / 64, by omega⟩ ⟨l.val % 64, by omega⟩)
  yb l := y_b (ix4 b i ⟨l.val / 64, by omega⟩ ⟨l.val % 64, by omega⟩)
  xb l := xbc (ix3 b i ⟨l.val, by omega⟩)
  zb l := z_b (ix3 b i l)
  oc l := o_c (ix3 b i l)
  mix l := mix (ix1 l)
  ga l := ga (ix1 l)
  skip l := D (ix1 ⟨l.val / 64, by omega⟩)
  gb l := gb (ix1 l)
  wa l j := wa (ix2 l j)
  wb l j := wb (ix2 l j)
  wc l j := wc (ix2 l j)
  wg l j := wg (ix2 l j)
  bg j := bg (ix1 j)
  wo l j := wo (ix2 l j)

theorem gates_apply (b : Fin 32) (i : Fin 2048) (j : Fin 3072) : gates h mix wg bg (ix3 b i j) = gate (rowAt h o_f o_b z_a y_f y_b xbc z_b o_c mix ga D gb wa wb wc wg bg wo b i) j := by
  pointwise [gates]
  simp only [FfnRef.norm_apply, Ideal.ofBits_one_f32]
  rfl

theorem heads_apply (b : Fin 32) (i : Fin 2048) (k : Fin 4) (l : Fin 128) :
    heads o_f o_b z_a ga (ix4 b i k l) = headA siluL (rowAt h o_f o_b z_a y_f y_b xbc z_b o_c mix ga D gb wa wb wc wg bg wo b i) k l := by
  have e : ∀ (l : Fin 128) (o : FVec Ideal S32x2048x4x128 .f32),
      o (ix4 b i ⟨(128 * k.val + l.val) / 128, by omega⟩ ⟨(128 * k.val + l.val) % 128, by omega⟩) = o (ix4 b i k l) := by
    intro l o
    rw [show (⟨(128 * k.val + l.val) / 128, by omega⟩ : Fin 4) = k from Fin.ext (show (128 * k.val + l.val) / 128 = k.val by omega),
      show (⟨(128 * k.val + l.val) % 128, by omega⟩ : Fin 128) = l from Fin.ext (show (128 * k.val + l.val) % 128 = l.val by omega)]
  simp only [headA, rowAt, e]
  simp only [Nat.mul_comm 128 k.val]
  pointwise [heads]
  rfl

theorem projA_apply (b : Fin 32) (i : Fin 2048) (j : Fin 1024) :
    projA o_f o_b z_a ga wa (ix3 b i j) = outA siluL (rowAt h o_f o_b z_a y_f y_b xbc z_b o_c mix ga D gb wa wb wc wg bg wo b i) j := by
  pointwise [projA]
  simp only [heads_apply h o_f o_b z_a y_f y_b xbc z_b o_c mix ga D gb wa wb wc wg bg wo]
  rfl

theorem gated_apply (b : Fin 32) (i : Fin 2048) (c : Fin 512) : gated y_f y_b xbc z_b D (ix3 b i c) = preB siluL (rowAt h o_f o_b z_a y_f y_b xbc z_b o_c mix ga D gb wa wb wc wg bg wo b i) c := by
  pointwise [gated]
  rfl

theorem norm512_apply (y : FVec Ideal S32x2048x512 .f32) (g : FVec Ideal S512 .f32) (b : Fin 32) (i : Fin 2048) (l : Fin 512) :
    norm512 y g (ix3 b i l) = normed n512 (fun l => y (ix3 b i l)) (fun l => g (ix1 l)) l := by
  pointwise [norm512]
  rfl

theorem proj_apply (y : FVec Ideal S32x2048x512 .f32) (w : FVec Ideal S512x1024 .f32) (b : Fin 32) (i : Fin 2048) (j : Fin 1024) :
    proj y w (ix3 b i j) = ∑ c : Fin 512, y (ix3 b i c) * w (ix2 c j) := by
  pointwise [proj]

theorem merge3_apply (g : FVec Ideal S32x2048x3072 .f32) (a1 b1 c1 : FVec Ideal S32x2048x1024 .f32) (b : Fin 32) (i : Fin 2048) (c : Fin 1024) :
    merge3 h g a1 b1 c1 wo (ix3 b i c) = h (ix3 b i c) + ∑ j : Fin 1024, (g (ix3 b i ⟨j.val, by omega⟩) * a1 (ix3 b i j)
      + g (ix3 b i ⟨1024 + j.val, by omega⟩) * b1 (ix3 b i j) + g (ix3 b i ⟨2048 + j.val, by omega⟩) * c1 (ix3 b i j)) * wo (ix2 j c) := by
  pointwise [merge3]

theorem REF_apply (i : Fin 65536) (c : Fin 1024) :
    REF h o_f o_b z_a y_f y_b xbc z_b o_c mix ga D gb wa wb wc wg bg wo (ix2 i c) = MergeRow.out siluL (rowAt h o_f o_b z_a y_f y_b xbc z_b o_c mix ga D gb wa wb wc wg bg wo ⟨i.val / 2048, by omega⟩ ⟨i.val % 2048, by omega⟩) c := by
  refine Eq.trans (b := merge3 h (gates h mix wg bg) (projA o_f o_b z_a ga wa) (proj (norm512 (gated y_f y_b xbc z_b D) gb) wb) (proj o_c wc) wo
    (ix3 ⟨i.val / 2048, by omega⟩ ⟨i.val % 2048, by omega⟩ c)) (by pointwise [REF]) ?_
  rw [merge3_apply]
  simp only [gates_apply h o_f o_b z_a y_f y_b xbc z_b o_c mix ga D gb wa wb wc wg bg wo, projA_apply h o_f o_b z_a y_f y_b xbc z_b o_c mix ga D gb wa wb wc wg bg wo, proj_apply, norm512_apply, gated_apply h o_f o_b z_a y_f y_b xbc z_b o_c mix ga D gb wa wb wc wg bg wo]
  rfl

end Cert.MergeRef

end
-- ==== Proof.MergeArray.lean ====
/-
  The merge call's whole output array: where the gating columns are real it is the plain merge's.
-/
module

public import proofs.«01_k».proof.Proof.MergeBlock
public import proofs.«01_k».proof.Proof.MergeRef
public import proofs.«01_k».proof.Proof.Gen.MergeIdeal.Value
public import Idealize.ShloMosaic.Lib.Claim

@[expose] public section

set_option maxRecDepth 16384

noncomputable section

namespace Cert.MergeArray

open Cert.MergeIdeal Cert.MergeIdeal.Gen Idealize.ShloMosaic Idealize.ShloMosaic.TcCoe Idealize.SL.Sem
open Idealize.ShloMosaic.Pipeline (Dat)
open Cert.RowSums Cert.Rows Cert.MergeRow

/-- The windows' blocks at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![t.val, 0] :=
  (by decide +kernel : ∀ t : Fin grid0.N, _)

/-- An index of the output's block, by its row and its column. -/
theorem row_col (y : S512x1024.Idx) : y = ix2 ⟨(y 0).val, (y 0).isLt⟩ ⟨(y 1).val, (y 1).isLt⟩ := by
  idx_vars y
  rfl

/-- Tokens' rows, one after another. -/
def X (x : FVec Ideal S32x2048x1024 .f32) : FVec Ideal S65536x1024 .f32 := shapeCast _ x shapeCasts_S32x2048x1024_S65536x1024
def Z (x : FVec Ideal S32x2048x512 .f32) : FVec Ideal S65536x512 .f32 := shapeCast _ x shapeCasts_S32x2048x512_S65536x512
def O (x : FVec Ideal S32x2048x4x128 .f32) : FVec Ideal S65536x512 .f32 := shapeCast _ x shapeCasts_S32x2048x4x128_S65536x512
def Y (x : FVec Ideal S32x2048x8x64 .f32) : FVec Ideal S65536x512 .f32 := shapeCast _ x shapeCasts_S32x2048x8x64_S65536x512

theorem X_apply (x : FVec Ideal S32x2048x1024 .f32) (i : Fin 65536) (l : Fin 1024) :
    X x (ix2 i l) = x (ix3 ⟨i.val / 2048, by omega⟩ ⟨i.val % 2048, by omega⟩ l) := by
  pointwise [X]

theorem Z_apply (x : FVec Ideal S32x2048x512 .f32) (i : Fin 65536) (l : Fin 512) :
    Z x (ix2 i l) = x (ix3 ⟨i.val / 2048, by omega⟩ ⟨i.val % 2048, by omega⟩ l) := by
  pointwise [Z]

theorem O_apply (x : FVec Ideal S32x2048x4x128 .f32) (i : Fin 65536) (l : Fin 512) :
    O x (ix2 i l) = x (ix4 ⟨i.val / 2048, by omega⟩ ⟨i.val % 2048, by omega⟩ ⟨l.val / 128, by omega⟩ ⟨l.val % 128, by omega⟩) := by
  pointwise [O]

theorem Y_apply (x : FVec Ideal S32x2048x8x64 .f32) (i : Fin 65536) (l : Fin 512) :
    Y x (ix2 i l) = x (ix4 ⟨i.val / 2048, by omega⟩ ⟨i.val % 2048, by omega⟩ ⟨l.val / 64, by omega⟩ ⟨l.val % 64, by omega⟩) := by
  pointwise [Y]

/-! Gains and biases as rows. -/

def G1024 (g : FVec Ideal S1024 .f32) : FVec Ideal S1x1024 .f32 := shapeCast _ g shapeCasts_S1024_S1x1024

theorem G1024_apply (g : FVec Ideal S1024 .f32) (l : Fin 1024) : G1024 g (ix2 0 l) = g (ix1 l) := by
  pointwise [G1024]

def G128 (g : FVec Ideal S128 .f32) : FVec Ideal S1x128 .f32 := shapeCast _ g shapeCasts_S128_S1x128

theorem G128_apply (g : FVec Ideal S128 .f32) (l : Fin 128) : G128 g (ix2 0 l) = g (ix1 l) := by
  pointwise [G128]

def G512 (g : FVec Ideal S512 .f32) : FVec Ideal S1x512 .f32 := shapeCast _ g shapeCasts_S512_S1x512

theorem G512_apply (g : FVec Ideal S512 .f32) (l : Fin 512) : G512 g (ix2 0 l) = g (ix1 l) := by
  pointwise [G512]

def G3072 (g : FVec Ideal S3072 .f32) : FVec Ideal S1x3072 .f32 := shapeCast _ g shapeCasts_S3072_S1x3072

theorem G3072_apply (g : FVec Ideal S3072 .f32) (l : Fin 3072) : G3072 g (ix2 0 l) = g (ix1 l) := by
  pointwise [G3072]

/-- The skip's weights, each repeated over its head's lanes. -/
def SK (D : FVec Ideal S8 .f32) : FVec Ideal S1x512 .f32 :=
  shapeCast _ (shapeCast _ (broadcastInDim S8x64 ![0] bcast_S8_S8x64_0 D : FVec Ideal S8x64 .f32) shapeCasts_S8x64_S512 : FVec Ideal S512 .f32) shapeCasts_S512_S1x512

theorem SK_apply (D : FVec Ideal S8 .f32) (l : Fin 512) : SK D (ix2 0 l) = D (ix1 ⟨l.val / 64, by omega⟩) := by
  pointwise [SK]

/-- What the body stores, from its blocks. -/
def body (x0 : FVec Ideal S512x1024 .f32) (x1 : FVec Ideal S512x512 .f32) (x2 : FVec Ideal S512x512 .f32) (x3 : FVec Ideal S512x512 .bf16) (x4 : FVec Ideal S512x512 .f32) (x5 : FVec Ideal S512x512 .f32) (x6 : FVec Ideal S512x512 .bf16) (x7 : FVec Ideal S512x512 .bf16) (x8 : FVec Ideal S512x512 .bf16) (x9 : FVec Ideal S1x1024 .f32) (x10 : FVec Ideal S1x128 .f32) (x11 : FVec Ideal S1x512 .f32) (x12 : FVec Ideal S1x512 .f32) (x13 : FVec Ideal S512x1024 .bf16) (x14 : FVec Ideal S512x1024 .bf16) (x15 : FVec Ideal S512x1024 .bf16) (x16 : FVec Ideal S1024x3072 .bf16) (x17 : FVec Ideal S1x3072 .f32) (x18 : FVec Ideal S1024x1024 .bf16) : FVec Ideal S512x1024 .f32 :=
  k0_pay1 (F := Ideal) (k0_pay2 x0) (k0_pay3 x0 x9 x16 x17)
    (k0_pay14 (k0_pay4 x1 x2) (k0_pay5 x3) (k0_pay9 (k0_pay5 x3) (k0_pay6 x1 x2) (k0_pay7 x10) (k0_pay8 x1 x2))
      (k0_pay10 (k0_pay4 x1 x2) (k0_pay5 x3) x10) (k0_pay11 (k0_pay4 x1 x2)) (k0_pay12 x10) (k0_pay13 (k0_pay4 x1 x2)) x10 x13)
    (k0_pay17 (k0_pay15 x4) (k0_pay16 x5) x6 x11 x7 x12 x14) (k0_pay18 x8) (k0_pay19 x15) (constant S512x1024 .f32 0x00000000#32) x18

theorem body_apply (x0 : FVec Ideal S512x1024 .f32) (x1 : FVec Ideal S512x512 .f32) (x2 : FVec Ideal S512x512 .f32) (x3 : FVec Ideal S512x512 .bf16) (x4 : FVec Ideal S512x512 .f32) (x5 : FVec Ideal S512x512 .f32) (x6 : FVec Ideal S512x512 .bf16) (x7 : FVec Ideal S512x512 .bf16) (x8 : FVec Ideal S512x512 .bf16) (x9 : FVec Ideal S1x1024 .f32) (x10 : FVec Ideal S1x128 .f32) (x11 : FVec Ideal S1x512 .f32) (x12 : FVec Ideal S1x512 .f32) (x13 : FVec Ideal S512x1024 .bf16) (x14 : FVec Ideal S512x1024 .bf16) (x15 : FVec Ideal S512x1024 .bf16) (x16 : FVec Ideal S1024x3072 .bf16) (x17 : FVec Ideal S1x3072 .f32) (x18 : FVec Ideal S1024x1024 .bf16) (r : Fin 512) (c : Fin 1024) :
    body x0 x1 x2 x3 x4 x5 x6 x7 x8 x9 x10 x11 x12 x13 x14 x15 x16 x17 x18 (ix2 r c) = MergeRow.out siluT (MergeBlock.rowAt x0 x1 x2 x3 x4 x5 x6 x7 x8 x9 x10 x11 x12 x13 x14 x15 x16 x17 x18 r) c :=
  MergeBlock.store_apply x0 x1 x2 x3 x4 x5 x6 x7 x8 x9 x10 x11 x12 x13 x14 x15 x16 x17 x18 _ _ _ r c (fun j => MergeBlock.gate_apply x0 x1 x2 x3 x4 x5 x6 x7 x8 x9 x10 x11 x12 x13 x14 x15 x16 x17 x18 r j) (fun j => MergeBlock.outA_apply x0 x1 x2 x3 x4 x5 x6 x7 x8 x9 x10 x11 x12 x13 x14 x15 x16 x17 x18 r j)
    (fun j => MergeBlock.outB_apply x0 x1 x2 x3 x4 x5 x6 x7 x8 x9 x10 x11 x12 x13 x14 x15 x16 x17 x18 r j)

/-- The body's one store, on any blocks. -/
theorem out_eq (x0 : FVec Ideal S512x1024 .f32) (x1 : FVec Ideal S512x512 .f32) (x2 : FVec Ideal S512x512 .f32) (x3 : FVec Ideal S512x512 .bf16) (x4 : FVec Ideal S512x512 .f32) (x5 : FVec Ideal S512x512 .f32) (x6 : FVec Ideal S512x512 .bf16) (x7 : FVec Ideal S512x512 .bf16) (x8 : FVec Ideal S512x512 .bf16) (x9 : FVec Ideal S1x1024 .f32) (x10 : FVec Ideal S1x128 .f32) (x11 : FVec Ideal S1x512 .f32) (x12 : FVec Ideal S1x512 .f32) (x13 : FVec Ideal S512x1024 .bf16) (x14 : FVec Ideal S512x1024 .bf16) (x15 : FVec Ideal S512x1024 .bf16) (x16 : FVec Ideal S1024x3072 .bf16) (x17 : FVec Ideal S1x3072 .f32) (x18 : FVec Ideal S1024x1024 .bf16) : out0_19 (F := Ideal) x0 x1 x2 x3 x4 x5 x6 x7 x8 x9 x10 x11 x12 x13 x14 x15 x16 x17 x18 = body x0 x1 x2 x3 x4 x5 x6 x7 x8 x9 x10 x11 x12 x13 x14 x15 x16 x17 x18 := by
  unfold_out out0_19
  frame_out
  unfold body
  rfl

section
variable (m : (ℓ : Loc nD τ sig) → Buf (Elt Ideal) ℓ) (c : Dev nD) (h : FVec Ideal S32x2048x1024 .f32) (o_f : FVec Ideal S32x2048x4x128 .f32) (o_b : FVec Ideal S32x2048x4x128 .f32) (z_a : FVec Ideal S32x2048x512 .f32) (y_f : FVec Ideal S32x2048x8x64 .f32) (y_b : FVec Ideal S32x2048x8x64 .f32) (xbc : FVec Ideal S32x2048x1024 .f32) (z_b : FVec Ideal S32x2048x512 .f32) (o_c : FVec Ideal S32x2048x512 .f32) (mix : FVec Ideal S1024 .f32) (ga : FVec Ideal S128 .f32) (D : FVec Ideal S8 .f32) (gb : FVec Ideal S512 .f32) (wa : FVec Ideal S512x1024 .f32) (wb : FVec Ideal S512x1024 .f32) (wc : FVec Ideal S512x1024 .f32) (wg : FVec Ideal S1024x3072 .f32) (bg : FVec Ideal S3072 .f32) (wo : FVec Ideal S1024x1024 .f32)

theorem V_0 : V m c main_v0 = (X (m ((c : Thread nD τ).loc main_arg0)) : FVec Ideal S65536x1024 .f32) := by entry_read; rfl
theorem V_1 : V m c main_v1 = (O (m ((c : Thread nD τ).loc main_arg1)) : FVec Ideal S65536x512 .f32) := by entry_read; rfl
theorem V_2 : V m c main_v2 = (O (m ((c : Thread nD τ).loc main_arg2)) : FVec Ideal S65536x512 .f32) := by entry_read; rfl
theorem V_3 : V m c main_v4 = (Z (m ((c : Thread nD τ).loc main_arg3)) : FVec Ideal S65536x512 .bf16) := by entry_read; rfl
theorem V_4 : V m c main_v5 = (Y (m ((c : Thread nD τ).loc main_arg4)) : FVec Ideal S65536x512 .f32) := by entry_read; rfl
theorem V_5 : V m c main_v6 = (Y (m ((c : Thread nD τ).loc main_arg5)) : FVec Ideal S65536x512 .f32) := by entry_read; rfl
theorem V_6 : V m c main_v8 = (X (m ((c : Thread nD τ).loc main_arg6)) : FVec Ideal S65536x1024 .bf16) := by entry_read; rfl
theorem V_7 : V m c main_v10 = (Z (m ((c : Thread nD τ).loc main_arg7)) : FVec Ideal S65536x512 .bf16) := by entry_read; rfl
theorem V_8 : V m c main_v12 = (Z (m ((c : Thread nD τ).loc main_arg8)) : FVec Ideal S65536x512 .bf16) := by entry_read; rfl
theorem V_9 : V m c main_v13 = (G1024 (m ((c : Thread nD τ).loc main_arg9)) : FVec Ideal S1x1024 .f32) := by entry_read; rfl
theorem V_10 : V m c main_v14 = (G128 (m ((c : Thread nD τ).loc main_arg10)) : FVec Ideal S1x128 .f32) := by entry_read; rfl
theorem V_11 : V m c main_v17 = (SK (m ((c : Thread nD τ).loc main_arg11)) : FVec Ideal S1x512 .f32) := by entry_read; rfl
theorem V_12 : V m c main_v18 = (G512 (m ((c : Thread nD τ).loc main_arg12)) : FVec Ideal S1x512 .f32) := by entry_read; rfl
theorem V_13 : V m c main_v19 = ( (m ((c : Thread nD τ).loc main_arg13)) : FVec Ideal S512x1024 .bf16) := by entry_read; rfl
theorem V_14 : V m c main_v20 = ( (m ((c : Thread nD τ).loc main_arg14)) : FVec Ideal S512x1024 .bf16) := by entry_read; rfl
theorem V_15 : V m c main_v21 = ( (m ((c : Thread nD τ).loc main_arg15)) : FVec Ideal S512x1024 .bf16) := by entry_read; rfl
theorem V_16 : V m c main_v22 = ( (m ((c : Thread nD τ).loc main_arg16)) : FVec Ideal S1024x3072 .bf16) := by entry_read; rfl
theorem V_17 : V m c main_v23 = (G3072 (m ((c : Thread nD τ).loc main_arg17)) : FVec Ideal S1x3072 .f32) := by entry_read; rfl
theorem V_18 : V m c main_v24 = ( (m ((c : Thread nD τ).loc main_arg18)) : FVec Ideal S1024x1024 .bf16) := by entry_read; rfl

set_option maxHeartbeats 8000000 in
/-- The array after the run. -/
theorem final (ra : ∃ f : S32x2048x512.Idx → ℝ, z_a = fun i => (f i : EReal)) (rb : ∃ f : S32x2048x512.Idx → ℝ, z_b = fun i => (f i : EReal))
    (e0 : m ((c : Thread nD τ).loc main_arg0) = h) (e1 : m ((c : Thread nD τ).loc main_arg1) = o_f) (e2 : m ((c : Thread nD τ).loc main_arg2) = o_b) (e3 : m ((c : Thread nD τ).loc main_arg3) = z_a) (e4 : m ((c : Thread nD τ).loc main_arg4) = y_f) (e5 : m ((c : Thread nD τ).loc main_arg5) = y_b) (e6 : m ((c : Thread nD τ).loc main_arg6) = xbc) (e7 : m ((c : Thread nD τ).loc main_arg7) = z_b) (e8 : m ((c : Thread nD τ).loc main_arg8) = o_c) (e9 : m ((c : Thread nD τ).loc main_arg9) = mix) (e10 : m ((c : Thread nD τ).loc main_arg10) = ga) (e11 : m ((c : Thread nD τ).loc main_arg11) = D) (e12 : m ((c : Thread nD τ).loc main_arg12) = gb) (e13 : m ((c : Thread nD τ).loc main_arg13) = wa) (e14 : m ((c : Thread nD τ).loc main_arg14) = wb) (e15 : m ((c : Thread nD τ).loc main_arg15) = wc) (e16 : m ((c : Thread nD τ).loc main_arg16) = wg) (e17 : m ((c : Thread nD τ).loc main_arg17) = bg) (e18 : m ((c : Thread nD τ).loc main_arg18) = wo) :
    (dats m 0 c).arrAt 19 (cfgs 0).N = MergeRef.REF h o_f o_b z_a y_f y_b xbc z_b o_c mix ga D gb wa wb wc wg bg wo := by
  have V0 : V m c main_v0 = (X h : FVec Ideal S65536x1024 .f32) := by rw [V_0, e0]
  have V1 : V m c main_v1 = (O o_f : FVec Ideal S65536x512 .f32) := by rw [V_1, e1]
  have V2 : V m c main_v2 = (O o_b : FVec Ideal S65536x512 .f32) := by rw [V_2, e2]
  have V3 : V m c main_v4 = (Z z_a : FVec Ideal S65536x512 .bf16) := by rw [V_3, e3]
  have V4 : V m c main_v5 = (Y y_f : FVec Ideal S65536x512 .f32) := by rw [V_4, e4]
  have V5 : V m c main_v6 = (Y y_b : FVec Ideal S65536x512 .f32) := by rw [V_5, e5]
  have V6 : V m c main_v8 = (X xbc : FVec Ideal S65536x1024 .bf16) := by rw [V_6, e6]
  have V7 : V m c main_v10 = (Z z_b : FVec Ideal S65536x512 .bf16) := by rw [V_7, e7]
  have V8 : V m c main_v12 = (Z o_c : FVec Ideal S65536x512 .bf16) := by rw [V_8, e8]
  have V9 : V m c main_v13 = (G1024 mix : FVec Ideal S1x1024 .f32) := by rw [V_9, e9]
  have V10 : V m c main_v14 = (G128 ga : FVec Ideal S1x128 .f32) := by rw [V_10, e10]
  have V11 : V m c main_v17 = (SK D : FVec Ideal S1x512 .f32) := by rw [V_11, e11]
  have V12 : V m c main_v18 = (G512 gb : FVec Ideal S1x512 .f32) := by rw [V_12, e12]
  have V13 : V m c main_v19 = ( wa : FVec Ideal S512x1024 .bf16) := by rw [V_13, e13]
  have V14 : V m c main_v20 = ( wb : FVec Ideal S512x1024 .bf16) := by rw [V_14, e14]
  have V15 : V m c main_v21 = ( wc : FVec Ideal S512x1024 .bf16) := by rw [V_15, e15]
  have V16 : V m c main_v22 = ( wg : FVec Ideal S1024x3072 .bf16) := by rw [V_16, e16]
  have V17 : V m c main_v23 = (G3072 bg : FVec Ideal S1x3072 .f32) := by rw [V_17, e17]
  have V18 : V m c main_v24 = ( wo : FVec Ideal S1024x1024 .bf16) := by rw [V_18, e18]
  have B0 : iblk m c 0 = fun t => ((cfg0.win 0).blk t).view.read (Elt Ideal) (X h : FVec Ideal S65536x1024 .f32) := by rw [← V0]; rfl
  have B1 : iblk m c 1 = fun t => ((cfg0.win 1).blk t).view.read (Elt Ideal) (O o_f : FVec Ideal S65536x512 .f32) := by rw [← V1]; rfl
  have B2 : iblk m c 2 = fun t => ((cfg0.win 2).blk t).view.read (Elt Ideal) (O o_b : FVec Ideal S65536x512 .f32) := by rw [← V2]; rfl
  have B3 : iblk m c 3 = fun t => ((cfg0.win 3).blk t).view.read (Elt Ideal) (Z z_a : FVec Ideal S65536x512 .bf16) := by rw [← V3]; rfl
  have B4 : iblk m c 4 = fun t => ((cfg0.win 4).blk t).view.read (Elt Ideal) (Y y_f : FVec Ideal S65536x512 .f32) := by rw [← V4]; rfl
  have B5 : iblk m c 5 = fun t => ((cfg0.win 5).blk t).view.read (Elt Ideal) (Y y_b : FVec Ideal S65536x512 .f32) := by rw [← V5]; rfl
  have B6 : iblk m c 6 = fun t => ((cfg0.win 6).blk t).view.read (Elt Ideal) (X xbc : FVec Ideal S65536x1024 .bf16) := by rw [← V6]; rfl
  have B7 : iblk m c 7 = fun t => ((cfg0.win 7).blk t).view.read (Elt Ideal) (Z z_b : FVec Ideal S65536x512 .bf16) := by rw [← V7]; rfl
  have B8 : iblk m c 8 = fun t => ((cfg0.win 8).blk t).view.read (Elt Ideal) (Z o_c : FVec Ideal S65536x512 .bf16) := by rw [← V8]; rfl
  have B9 : iblk m c 9 = fun t => ((cfg0.win 9).blk t).view.read (Elt Ideal) (G1024 mix : FVec Ideal S1x1024 .f32) := by rw [← V9]; rfl
  have B10 : iblk m c 10 = fun t => ((cfg0.win 10).blk t).view.read (Elt Ideal) (G128 ga : FVec Ideal S1x128 .f32) := by rw [← V10]; rfl
  have B11 : iblk m c 11 = fun t => ((cfg0.win 11).blk t).view.read (Elt Ideal) (SK D : FVec Ideal S1x512 .f32) := by rw [← V11]; rfl
  have B12 : iblk m c 12 = fun t => ((cfg0.win 12).blk t).view.read (Elt Ideal) (G512 gb : FVec Ideal S1x512 .f32) := by rw [← V12]; rfl
  have B13 : iblk m c 13 = fun t => ((cfg0.win 13).blk t).view.read (Elt Ideal) ( wa : FVec Ideal S512x1024 .bf16) := by rw [← V13]; rfl
  have B14 : iblk m c 14 = fun t => ((cfg0.win 14).blk t).view.read (Elt Ideal) ( wb : FVec Ideal S512x1024 .bf16) := by rw [← V14]; rfl
  have B15 : iblk m c 15 = fun t => ((cfg0.win 15).blk t).view.read (Elt Ideal) ( wc : FVec Ideal S512x1024 .bf16) := by rw [← V15]; rfl
  have B16 : iblk m c 16 = fun t => ((cfg0.win 16).blk t).view.read (Elt Ideal) ( wg : FVec Ideal S1024x3072 .bf16) := by rw [← V16]; rfl
  have B17 : iblk m c 17 = fun t => ((cfg0.win 17).blk t).view.read (Elt Ideal) (G3072 bg : FVec Ideal S1x3072 .f32) := by rw [← V17]; rfl
  have B18 : iblk m c 18 = fun t => ((cfg0.win 18).blk t).view.read (Elt Ideal) ( wo : FVec Ideal S1024x1024 .bf16) := by rw [← V18]; rfl
  refine (dats m 0 c).arrAt_eq_of_covers 19 _ (by decide +kernel) fun t _ y => ?_
  have ht : t.val < 128 := lt_of_lt_of_eq t.isLt N_0
  blk_simp
  rw [after0_19, out_eq]
  refine Eq.trans (congrArg (body _ _ _ _ _ _ _ _ _ _ _ _ _ _ _ _ _ _ _ ) (row_col y))
    (Eq.trans ?_ (b := MergeRef.REF h o_f o_b z_a y_f y_b xbc z_b o_c mix ga D gb wa wb wc wg bg wo (ix2 ⟨t.val * 512 + (y 0).val, by idx_bounds y; omega⟩ ⟨(y 1).val, (y 1).isLt⟩)) (by blk_ext [idx t]))
  rw [MergeRef.REF_apply]
  refine (body_apply _ _ _ _ _ _ _ _ _ _ _ _ _ _ _ _ _ _ _ _ _ ).trans ?_
  have h0 : ∀ l : Fin 1024, iblk m c 0 t (ix2 ⟨(y 0).val, (y 0).isLt⟩ l) = X h (ix2 ⟨t.val * 512 + (y 0).val, by idx_bounds y; omega⟩ l) := by
    intro l; rw [B0]; blk_ext [idx t]
  have h1 : ∀ l : Fin 512, iblk m c 1 t (ix2 ⟨(y 0).val, (y 0).isLt⟩ l) = O o_f (ix2 ⟨t.val * 512 + (y 0).val, by idx_bounds y; omega⟩ l) := by
    intro l; rw [B1]; blk_ext [idx t]
  have h2 : ∀ l : Fin 512, iblk m c 2 t (ix2 ⟨(y 0).val, (y 0).isLt⟩ l) = O o_b (ix2 ⟨t.val * 512 + (y 0).val, by idx_bounds y; omega⟩ l) := by
    intro l; rw [B2]; blk_ext [idx t]
  have h3 : ∀ l : Fin 512, iblk m c 3 t (ix2 ⟨(y 0).val, (y 0).isLt⟩ l) = Z z_a (ix2 ⟨t.val * 512 + (y 0).val, by idx_bounds y; omega⟩ l) := by
    intro l; rw [B3]; blk_ext [idx t]
  have h4 : ∀ l : Fin 512, iblk m c 4 t (ix2 ⟨(y 0).val, (y 0).isLt⟩ l) = Y y_f (ix2 ⟨t.val * 512 + (y 0).val, by idx_bounds y; omega⟩ l) := by
    intro l; rw [B4]; blk_ext [idx t]
  have h5 : ∀ l : Fin 512, iblk m c 5 t (ix2 ⟨(y 0).val, (y 0).isLt⟩ l) = Y y_b (ix2 ⟨t.val * 512 + (y 0).val, by idx_bounds y; omega⟩ l) := by
    intro l; rw [B5]; blk_ext [idx t]
  have h6 : ∀ l : Fin 512, iblk m c 6 t (ix2 ⟨(y 0).val, (y 0).isLt⟩ l) = X xbc (ix2 ⟨t.val * 512 + (y 0).val, by idx_bounds y; omega⟩ ⟨l.val, by omega⟩) := by
    intro l; rw [B6]; blk_ext [idx t]
  have h7 : ∀ l : Fin 512, iblk m c 7 t (ix2 ⟨(y 0).val, (y 0).isLt⟩ l) = Z z_b (ix2 ⟨t.val * 512 + (y 0).val, by idx_bounds y; omega⟩ l) := by
    intro l; rw [B7]; blk_ext [idx t]
  have h8 : ∀ l : Fin 512, iblk m c 8 t (ix2 ⟨(y 0).val, (y 0).isLt⟩ l) = Z o_c (ix2 ⟨t.val * 512 + (y 0).val, by idx_bounds y; omega⟩ l) := by
    intro l; rw [B8]; blk_ext [idx t]
  have h9 : ∀ l : Fin 1024, iblk m c 9 t (ix2 0 l) = G1024 mix (ix2 0 l) := by
    intro l; rw [B9]; blk_ext [idx t]
  have h10 : ∀ l : Fin 128, iblk m c 10 t (ix2 0 l) = G128 ga (ix2 0 l) := by
    intro l; rw [B10]; blk_ext [idx t]
  have h11 : ∀ l : Fin 512, iblk m c 11 t (ix2 0 l) = SK D (ix2 0 l) := by
    intro l; rw [B11]; blk_ext [idx t]
  have h12 : ∀ l : Fin 512, iblk m c 12 t (ix2 0 l) = G512 gb (ix2 0 l) := by
    intro l; rw [B12]; blk_ext [idx t]
  have h13 : ∀ (l : Fin 512) (j : Fin 1024), iblk m c 13 t (ix2 l j) = wa (ix2 l j) := by
    intro l j; rw [B13]; blk_ext [idx t]
  have h14 : ∀ (l : Fin 512) (j : Fin 1024), iblk m c 14 t (ix2 l j) = wb (ix2 l j) := by
    intro l j; rw [B14]; blk_ext [idx t]
  have h15 : ∀ (l : Fin 512) (j : Fin 1024), iblk m c 15 t (ix2 l j) = wc (ix2 l j) := by
    intro l j; rw [B15]; blk_ext [idx t]
  have h16 : ∀ (l : Fin 1024) (j : Fin 3072), iblk m c 16 t (ix2 l j) = wg (ix2 l j) := by
    intro l j; rw [B16]; blk_ext [idx t]
  have h17 : ∀ l : Fin 3072, iblk m c 17 t (ix2 0 l) = G3072 bg (ix2 0 l) := by
    intro l; rw [B17]; blk_ext [idx t]
  have h18 : ∀ (l : Fin 1024) (j : Fin 1024), iblk m c 18 t (ix2 l j) = wo (ix2 l j) := by
    intro l j; rw [B18]; blk_ext [idx t]
  obtain ⟨fa, rfl⟩ := ra
  obtain ⟨fb, rfl⟩ := rb
  exact (congrArg (fun R => MergeRow.out siluT R _) (Row.ext (funext fun l => (h0 l).trans (X_apply _ _ _)) (funext fun l => (h1 l).trans (O_apply _ _ _)) (funext fun l => (h2 l).trans (O_apply _ _ _)) (funext fun l => (h3 l).trans (Z_apply _ _ _)) (funext fun l => (h4 l).trans (Y_apply _ _ _)) (funext fun l => (h5 l).trans (Y_apply _ _ _)) (funext fun l => (h6 l).trans (X_apply _ _ _)) (funext fun l => (h7 l).trans (Z_apply _ _ _)) (funext fun l => (h8 l).trans (Z_apply _ _ _)) (funext fun l => (h9 l).trans (G1024_apply _ _)) (funext fun l => (h10 l).trans (G128_apply _ _)) (funext fun l => (h11 l).trans (SK_apply _ _)) (funext fun l => (h12 l).trans (G512_apply _ _)) (funext fun l => funext fun j => h13 l j) (funext fun l => funext fun j => h14 l j) (funext fun l => funext fun j => h15 l j) (funext fun l => funext fun j => h16 l j) (funext fun l => (h17 l).trans (G3072_apply _ _)) (funext fun l => funext fun j => h18 l j))).trans
    (out_silu _ ⟨fun l => fa (ix3 _ _ l), rfl⟩ ⟨fun l => fb (ix3 _ _ l), rfl⟩ _)
end

end Cert.MergeArray

end
-- ==== Proof.MergePre.lean ====
/-
  What the merge's precondition says: the gating columns are real numbers.
-/
module

public import proofs.«01_k».proof.Proof.AttnPre
public import proofs.«01_k».proof.Proof.Gen.Pre_finite_gates
public import proofs.«01_k».proof.Proof.Gen.MergeIdeal

@[expose] public section

noncomputable section

namespace Cert.MergePre

open Idealize.ShloMosaic Idealize.SL.Sem Cert.AttnPre Cert.MergeIdeal

theorem real_args (m : (ℓ : Loc nD τ sig) → Buf (Elt Ideal) ℓ) (h : Cert.Pre_MergeIdeal_finite_gates m) (c : Dev nD) :
    (∃ f : S32x2048x512.Idx → ℝ, m ((c.tc : Thread nD τ).loc main_arg3) = fun i => (f i : EReal))
    ∧ (∃ f : S32x2048x512.Idx → ℝ, m ((c.tc : Thread nD τ).loc main_arg7) = fun i => (f i : EReal)) :=
  ⟨real_of_below _ _ _ (h c).1, real_of_below _ _ _ (h c).2⟩

end Cert.MergePre

end
-- ==== Proof.MergeClaim.lean ====
/-
  The claims about the merge of the three branches: the programs run and keep their arguments, and the kernel's output is the
  reference's.
-/
module

public import proofs.«01_k».proof.Proof.MergeArray
public import proofs.«01_k».proof.Proof.MergePre
public import proofs.«01_k».proof.Proof.Gen.Merge.Frame
public import Idealize.ShloMosaic.Lib.Claim

@[expose] public section

noncomputable section

namespace Cert.MergeClaim

open Idealize.ShloMosaic Idealize.SL.Sem

theorem frame : Cert.quiescent_Merge := fun m ρ _ => Cert.Merge.Gen.frame m ρ

theorem frame_ideal : Cert.quiescent_MergeIdeal := fun m ρ _ => Cert.MergeIdeal.Gen.frame m ρ

theorem frame_ideal_pre : Cert.quiescent_MergeIdeal_pre_finite_gates := fun m ρ _ => Cert.MergeIdeal.Gen.frame m ρ

theorem frame_reference : Cert.quiescent_MergeReferenceIdeal := by
  intro m g _
  refine (θ_run Cert.MergeReferenceIdeal.defs _ _).mono (fun r h => ⟨fun c => (h c).2, ?_⟩) (Cert.MergeRef.run m g)
  exact sem_eq_zero_of_no_sems (by decide) r.2

theorem frame_reference_pre : Cert.quiescent_MergeReferenceIdeal_pre_finite_gates :=
  fun m g _ => frame_reference m g trivial

theorem algebraic : Cert.algebraic_MergeIdeal_MergeReferenceIdeal_pre_finite_gates := by
  pair_intro
  · run_from Cert.MergeIdeal.Value.run_blocks m g
  · run_from Cert.MergeRef.run m' g'
    obtain ⟨r0, r1⟩ := Cert.MergePre.real_args m hpre c
    exact (Cert.MergeArray.final m c _ _ _ _ _ _ _ _ _ _ _ _ _ _ _ _ _ _ _ r0 r1 rfl rfl rfl rfl rfl rfl rfl rfl rfl rfl rfl rfl rfl rfl rfl rfl rfl rfl rfl).symm

end Cert.MergeClaim

end
-- ==== Proof.TailRun.lean ====
/-
  The joined program's run: its two calls one after the other, the result left by the second one, the arguments kept.
-/
module

public import proofs.«01_k».proof.Proof.Gen.TailIdeal.Frame

@[expose] public section

set_option maxRecDepth 16384

noncomputable section

namespace Cert.TailRun

open Cert.TailIdeal Cert.TailIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The launch, with the result's array named: what the second call leaves, from the contents it is entered with. -/
theorem run : θ_run defs (onTc (τ := τ) (main (F := F))) ⟨m, fun _ => 0, ρ⟩ (fun r => ∀ c : Dev nD,
      r.2.mem ((c.tc : Thread nD τ).loc main_v30) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v30 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c),
       (h c _ (mem_uc main_arg21 (by decide))).trans (W4_main_arg21 m ρ c),
       (h c _ (mem_uc main_arg22 (by decide))).trans (W4_main_arg22 m ρ c)⟩)

end Cert.TailRun

end
-- ==== Proof.TailMerge.lean ====
/-
  The joined program's first call: where the gating columns are real, the array it leaves is the plain merge's.
-/
module

public import proofs.«01_k».proof.Proof.MergeArray
public import proofs.«01_k».proof.Proof.Gen.TailIdeal.Frame
public import Idealize.ShloMosaic.Lib.Claim

@[expose] public section

set_option maxRecDepth 16384

noncomputable section

namespace Cert.TailMerge

open Cert.TailIdeal Cert.TailIdeal.Gen Idealize.ShloMosaic Idealize.ShloMosaic.TcCoe Idealize.SL.Sem
open Idealize.ShloMosaic.Pipeline (Dat)
open Cert.RowSums Cert.Rows Cert.MergeRow
open Cert.MergeArray (X Z O Y G1024 G128 G512 G3072 SK X_apply Z_apply O_apply Y_apply G1024_apply G128_apply G512_apply G3072_apply SK_apply
  body body_apply row_col)

/-- The windows' blocks at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![t.val, 0] :=
  (by decide +kernel : ∀ t : Fin grid0.N, _)

/-- The body's one store, on any blocks. -/
theorem out_eq (x0 : FVec Ideal S512x1024 .f32) (x1 : FVec Ideal S512x512 .f32) (x2 : FVec Ideal S512x512 .f32) (x3 : FVec Ideal S512x512 .bf16) (x4 : FVec Ideal S512x512 .f32) (x5 : FVec Ideal S512x512 .f32) (x6 : FVec Ideal S512x512 .bf16) (x7 : FVec Ideal S512x512 .bf16) (x8 : FVec Ideal S512x512 .bf16) (x9 : FVec Ideal S1x1024 .f32) (x10 : FVec Ideal S1x128 .f32) (x11 : FVec Ideal S1x512 .f32) (x12 : FVec Ideal S1x512 .f32) (x13 : FVec Ideal S512x1024 .bf16) (x14 : FVec Ideal S512x1024 .bf16) (x15 : FVec Ideal S512x1024 .bf16) (x16 : FVec Ideal S1024x3072 .bf16) (x17 : FVec Ideal S1x3072 .f32) (x18 : FVec Ideal S1024x1024 .bf16) : out0_19 (F := Ideal) x0 x1 x2 x3 x4 x5 x6 x7 x8 x9 x10 x11 x12 x13 x14 x15 x16 x17 x18 = body x0 x1 x2 x3 x4 x5 x6 x7 x8 x9 x10 x11 x12 x13 x14 x15 x16 x17 x18 := by
  unfold_out out0_19
  frame_out
  unfold body
  rfl

section
variable (m : (ℓ : Loc nD τ sig) → Buf (Elt Ideal) ℓ) (ρ : Dev nD → PrngReg) (c : Dev nD) (h : FVec Ideal S32x2048x1024 .f32) (o_f : FVec Ideal S32x2048x4x128 .f32) (o_b : FVec Ideal S32x2048x4x128 .f32) (z_a : FVec Ideal S32x2048x512 .f32) (y_f : FVec Ideal S32x2048x8x64 .f32) (y_b : FVec Ideal S32x2048x8x64 .f32) (xbc : FVec Ideal S32x2048x1024 .f32) (z_b : FVec Ideal S32x2048x512 .f32) (o_c : FVec Ideal S32x2048x512 .f32) (mix : FVec Ideal S1024 .f32) (ga : FVec Ideal S128 .f32) (D : FVec Ideal S8 .f32) (gb : FVec Ideal S512 .f32) (wa : FVec Ideal S512x1024 .f32) (wb : FVec Ideal S512x1024 .f32) (wc : FVec Ideal S512x1024 .f32) (wg : FVec Ideal S1024x3072 .f32) (bg : FVec Ideal S3072 .f32) (wo : FVec Ideal S1024x1024 .f32)

theorem V_0 : V1 m ρ c main_v0 = (X (m ((c : Thread nD τ).loc main_arg0)) : FVec Ideal S65536x1024 .f32) := by
  show StableHlo.after hostOps0 (W0 m ρ c) (Proc.devRef .tc main_v0) = _
  entry_read
  rfl
theorem V_1 : V1 m ρ c main_v1 = (O (m ((c : Thread nD τ).loc main_arg1)) : FVec Ideal S65536x512 .f32) := by
  show StableHlo.after hostOps0 (W0 m ρ c) (Proc.devRef .tc main_v1) = _
  entry_read
  rfl
theorem V_2 : V1 m ρ c main_v2 = (O (m ((c : Thread nD τ).loc main_arg2)) : FVec Ideal S65536x512 .f32) := by
  show StableHlo.after hostOps0 (W0 m ρ c) (Proc.devRef .tc main_v2) = _
  entry_read
  rfl
theorem V_3 : V1 m ρ c main_v4 = (Z (m ((c : Thread nD τ).loc main_arg3)) : FVec Ideal S65536x512 .bf16) := by
  show StableHlo.after hostOps0 (W0 m ρ c) (Proc.devRef .tc main_v4) = _
  entry_read
  rfl
theorem V_4 : V1 m ρ c main_v5 = (Y (m ((c : Thread nD τ).loc main_arg4)) : FVec Ideal S65536x512 .f32) := by
  show StableHlo.after hostOps0 (W0 m ρ c) (Proc.devRef .tc main_v5) = _
  entry_read
  rfl
theorem V_5 : V1 m ρ c main_v6 = (Y (m ((c : Thread nD τ).loc main_arg5)) : FVec Ideal S65536x512 .f32) := by
  show StableHlo.after hostOps0 (W0 m ρ c) (Proc.devRef .tc main_v6) = _
  entry_read
  rfl
theorem V_6 : V1 m ρ c main_v8 = (X (m ((c : Thread nD τ).loc main_arg6)) : FVec Ideal S65536x1024 .bf16) := by
  show StableHlo.after hostOps0 (W0 m ρ c) (Proc.devRef .tc main_v8) = _
  entry_read
  rfl
theorem V_7 : V1 m ρ c main_v10 = (Z (m ((c : Thread nD τ).loc main_arg7)) : FVec Ideal S65536x512 .bf16) := by
  show StableHlo.after hostOps0 (W0 m ρ c) (Proc.devRef .tc main_v10) = _
  entry_read
  rfl
theorem V_8 : V1 m ρ c main_v12 = (Z (m ((c : Thread nD τ).loc main_arg8)) : FVec Ideal S65536x512 .bf16) := by
  show StableHlo.after hostOps0 (W0 m ρ c) (Proc.devRef .tc main_v12) = _
  entry_read
  rfl
theorem V_9 : V1 m ρ c main_v13 = (G1024 (m ((c : Thread nD τ).loc main_arg9)) : FVec Ideal S1x1024 .f32) := by
  show StableHlo.after hostOps0 (W0 m ρ c) (Proc.devRef .tc main_v13) = _
  entry_read
  rfl
theorem V_10 : V1 m ρ c main_v14 = (G128 (m ((c : Thread nD τ).loc main_arg10)) : FVec Ideal S1x128 .f32) := by
  show StableHlo.after hostOps0 (W0 m ρ c) (Proc.devRef .tc main_v14) = _
  entry_read
  rfl
theorem V_11 : V1 m ρ c main_v17 = (SK (m ((c : Thread nD τ).loc main_arg11)) : FVec Ideal S1x512 .f32) := by
  show StableHlo.after hostOps0 (W0 m ρ c) (Proc.devRef .tc main_v17) = _
  entry_read
  rfl
theorem V_12 : V1 m ρ c main_v18 = (G512 (m ((c : Thread nD τ).loc main_arg12)) : FVec Ideal S1x512 .f32) := by
  show StableHlo.after hostOps0 (W0 m ρ c) (Proc.devRef .tc main_v18) = _
  entry_read
  rfl
theorem V_13 : V1 m ρ c main_v19 = ( (m ((c : Thread nD τ).loc main_arg13)) : FVec Ideal S512x1024 .bf16) := by
  show StableHlo.after hostOps0 (W0 m ρ c) (Proc.devRef .tc main_v19) = _
  entry_read
  rfl
theorem V_14 : V1 m ρ c main_v20 = ( (m ((c : Thread nD τ).loc main_arg14)) : FVec Ideal S512x1024 .bf16) := by
  show StableHlo.after hostOps0 (W0 m ρ c) (Proc.devRef .tc main_v20) = _
  entry_read
  rfl
theorem V_15 : V1 m ρ c main_v21 = ( (m ((c : Thread nD τ).loc main_arg15)) : FVec Ideal S512x1024 .bf16) := by
  show StableHlo.after hostOps0 (W0 m ρ c) (Proc.devRef .tc main_v21) = _
  entry_read
  rfl
theorem V_16 : V1 m ρ c main_v22 = ( (m ((c : Thread nD τ).loc main_arg16)) : FVec Ideal S1024x3072 .bf16) := by
  show StableHlo.after hostOps0 (W0 m ρ c) (Proc.devRef .tc main_v22) = _
  entry_read
  rfl
theorem V_17 : V1 m ρ c main_v23 = (G3072 (m ((c : Thread nD τ).loc main_arg17)) : FVec Ideal S1x3072 .f32) := by
  show StableHlo.after hostOps0 (W0 m ρ c) (Proc.devRef .tc main_v23) = _
  entry_read
  rfl
theorem V_18 : V1 m ρ c main_v24 = ( (m ((c : Thread nD τ).loc main_arg18)) : FVec Ideal S1024x1024 .bf16) := by
  show StableHlo.after hostOps0 (W0 m ρ c) (Proc.devRef .tc main_v24) = _
  entry_read
  rfl

set_option maxHeartbeats 8000000 in
/-- The array after the first call. -/
theorem final (ra : ∃ f : S32x2048x512.Idx → ℝ, z_a = fun i => (f i : EReal)) (rb : ∃ f : S32x2048x512.Idx → ℝ, z_b = fun i => (f i : EReal))
    (e0 : m ((c : Thread nD τ).loc main_arg0) = h) (e1 : m ((c : Thread nD τ).loc main_arg1) = o_f) (e2 : m ((c : Thread nD τ).loc main_arg2) = o_b) (e3 : m ((c : Thread nD τ).loc main_arg3) = z_a) (e4 : m ((c : Thread nD τ).loc main_arg4) = y_f) (e5 : m ((c : Thread nD τ).loc main_arg5) = y_b) (e6 : m ((c : Thread nD τ).loc main_arg6) = xbc) (e7 : m ((c : Thread nD τ).loc main_arg7) = z_b) (e8 : m ((c : Thread nD τ).loc main_arg8) = o_c) (e9 : m ((c : Thread nD τ).loc main_arg9) = mix) (e10 : m ((c : Thread nD τ).loc main_arg10) = ga) (e11 : m ((c : Thread nD τ).loc main_arg11) = D) (e12 : m ((c : Thread nD τ).loc main_arg12) = gb) (e13 : m ((c : Thread nD τ).loc main_arg13) = wa) (e14 : m ((c : Thread nD τ).loc main_arg14) = wb) (e15 : m ((c : Thread nD τ).loc main_arg15) = wc) (e16 : m ((c : Thread nD τ).loc main_arg16) = wg) (e17 : m ((c : Thread nD τ).loc main_arg17) = bg) (e18 : m ((c : Thread nD τ).loc main_arg18) = wo) :
    (dat0 (V1 m ρ) c).arrAt 19 cfg0.N = MergeRef.REF h o_f o_b z_a y_f y_b xbc z_b o_c mix ga D gb wa wb wc wg bg wo := by
  have E0 : V1 m ρ c main_v0 = (X h : FVec Ideal S65536x1024 .f32) := by rw [V_0 m ρ c, e0]
  have E1 : V1 m ρ c main_v1 = (O o_f : FVec Ideal S65536x512 .f32) := by rw [V_1 m ρ c, e1]
  have E2 : V1 m ρ c main_v2 = (O o_b : FVec Ideal S65536x512 .f32) := by rw [V_2 m ρ c, e2]
  have E3 : V1 m ρ c main_v4 = (Z z_a : FVec Ideal S65536x512 .bf16) := by rw [V_3 m ρ c, e3]
  have E4 : V1 m ρ c main_v5 = (Y y_f : FVec Ideal S65536x512 .f32) := by rw [V_4 m ρ c, e4]
  have E5 : V1 m ρ c main_v6 = (Y y_b : FVec Ideal S65536x512 .f32) := by rw [V_5 m ρ c, e5]
  have E6 : V1 m ρ c main_v8 = (X xbc : FVec Ideal S65536x1024 .bf16) := by rw [V_6 m ρ c, e6]
  have E7 : V1 m ρ c main_v10 = (Z z_b : FVec Ideal S65536x512 .bf16) := by rw [V_7 m ρ c, e7]
  have E8 : V1 m ρ c main_v12 = (Z o_c : FVec Ideal S65536x512 .bf16) := by rw [V_8 m ρ c, e8]
  have E9 : V1 m ρ c main_v13 = (G1024 mix : FVec Ideal S1x1024 .f32) := by rw [V_9 m ρ c, e9]
  have E10 : V1 m ρ c main_v14 = (G128 ga : FVec Ideal S1x128 .f32) := by rw [V_10 m ρ c, e10]
  have E11 : V1 m ρ c main_v17 = (SK D : FVec Ideal S1x512 .f32) := by rw [V_11 m ρ c, e11]
  have E12 : V1 m ρ c main_v18 = (G512 gb : FVec Ideal S1x512 .f32) := by rw [V_12 m ρ c, e12]
  have E13 : V1 m ρ c main_v19 = ( wa : FVec Ideal S512x1024 .bf16) := by rw [V_13 m ρ c, e13]
  have E14 : V1 m ρ c main_v20 = ( wb : FVec Ideal S512x1024 .bf16) := by rw [V_14 m ρ c, e14]
  have E15 : V1 m ρ c main_v21 = ( wc : FVec Ideal S512x1024 .bf16) := by rw [V_15 m ρ c, e15]
  have E16 : V1 m ρ c main_v22 = ( wg : FVec Ideal S1024x3072 .bf16) := by rw [V_16 m ρ c, e16]
  have E17 : V1 m ρ c main_v23 = (G3072 bg : FVec Ideal S1x3072 .f32) := by rw [V_17 m ρ c, e17]
  have E18 : V1 m ρ c main_v24 = ( wo : FVec Ideal S1024x1024 .bf16) := by rw [V_18 m ρ c, e18]
  have B0 : iblk0 (V1 m ρ) c 0 = fun t => ((cfg0.win 0).blk t).view.read (Elt Ideal) (X h : FVec Ideal S65536x1024 .f32) := by rw [← E0]; rfl
  have B1 : iblk0 (V1 m ρ) c 1 = fun t => ((cfg0.win 1).blk t).view.read (Elt Ideal) (O o_f : FVec Ideal S65536x512 .f32) := by rw [← E1]; rfl
  have B2 : iblk0 (V1 m ρ) c 2 = fun t => ((cfg0.win 2).blk t).view.read (Elt Ideal) (O o_b : FVec Ideal S65536x512 .f32) := by rw [← E2]; rfl
  have B3 : iblk0 (V1 m ρ) c 3 = fun t => ((cfg0.win 3).blk t).view.read (Elt Ideal) (Z z_a : FVec Ideal S65536x512 .bf16) := by rw [← E3]; rfl
  have B4 : iblk0 (V1 m ρ) c 4 = fun t => ((cfg0.win 4).blk t).view.read (Elt Ideal) (Y y_f : FVec Ideal S65536x512 .f32) := by rw [← E4]; rfl
  have B5 : iblk0 (V1 m ρ) c 5 = fun t => ((cfg0.win 5).blk t).view.read (Elt Ideal) (Y y_b : FVec Ideal S65536x512 .f32) := by rw [← E5]; rfl
  have B6 : iblk0 (V1 m ρ) c 6 = fun t => ((cfg0.win 6).blk t).view.read (Elt Ideal) (X xbc : FVec Ideal S65536x1024 .bf16) := by rw [← E6]; rfl
  have B7 : iblk0 (V1 m ρ) c 7 = fun t => ((cfg0.win 7).blk t).view.read (Elt Ideal) (Z z_b : FVec Ideal S65536x512 .bf16) := by rw [← E7]; rfl
  have B8 : iblk0 (V1 m ρ) c 8 = fun t => ((cfg0.win 8).blk t).view.read (Elt Ideal) (Z o_c : FVec Ideal S65536x512 .bf16) := by rw [← E8]; rfl
  have B9 : iblk0 (V1 m ρ) c 9 = fun t => ((cfg0.win 9).blk t).view.read (Elt Ideal) (G1024 mix : FVec Ideal S1x1024 .f32) := by rw [← E9]; rfl
  have B10 : iblk0 (V1 m ρ) c 10 = fun t => ((cfg0.win 10).blk t).view.read (Elt Ideal) (G128 ga : FVec Ideal S1x128 .f32) := by rw [← E10]; rfl
  have B11 : iblk0 (V1 m ρ) c 11 = fun t => ((cfg0.win 11).blk t).view.read (Elt Ideal) (SK D : FVec Ideal S1x512 .f32) := by rw [← E11]; rfl
  have B12 : iblk0 (V1 m ρ) c 12 = fun t => ((cfg0.win 12).blk t).view.read (Elt Ideal) (G512 gb : FVec Ideal S1x512 .f32) := by rw [← E12]; rfl
  have B13 : iblk0 (V1 m ρ) c 13 = fun t => ((cfg0.win 13).blk t).view.read (Elt Ideal) ( wa : FVec Ideal S512x1024 .bf16) := by rw [← E13]; rfl
  have B14 : iblk0 (V1 m ρ) c 14 = fun t => ((cfg0.win 14).blk t).view.read (Elt Ideal) ( wb : FVec Ideal S512x1024 .bf16) := by rw [← E14]; rfl
  have B15 : iblk0 (V1 m ρ) c 15 = fun t => ((cfg0.win 15).blk t).view.read (Elt Ideal) ( wc : FVec Ideal S512x1024 .bf16) := by rw [← E15]; rfl
  have B16 : iblk0 (V1 m ρ) c 16 = fun t => ((cfg0.win 16).blk t).view.read (Elt Ideal) ( wg : FVec Ideal S1024x3072 .bf16) := by rw [← E16]; rfl
  have B17 : iblk0 (V1 m ρ) c 17 = fun t => ((cfg0.win 17).blk t).view.read (Elt Ideal) (G3072 bg : FVec Ideal S1x3072 .f32) := by rw [← E17]; rfl
  have B18 : iblk0 (V1 m ρ) c 18 = fun t => ((cfg0.win 18).blk t).view.read (Elt Ideal) ( wo : FVec Ideal S1024x1024 .bf16) := by rw [← E18]; rfl
  refine (dat0 (V1 m ρ) c).arrAt_eq_of_covers 19 _ (by decide +kernel) fun t _ y => ?_
  have ht : t.val < 128 := lt_of_lt_of_eq t.isLt N_0
  blk_simp
  rw [after0_19, out_eq]
  refine Eq.trans (congrArg (body _ _ _ _ _ _ _ _ _ _ _ _ _ _ _ _ _ _ _ ) (row_col y))
    (Eq.trans ?_ (b := MergeRef.REF h o_f o_b z_a y_f y_b xbc z_b o_c mix ga D gb wa wb wc wg bg wo (ix2 ⟨t.val * 512 + (y 0).val, by idx_bounds y; omega⟩ ⟨(y 1).val, (y 1).isLt⟩)) (by blk_ext [idx t]))
  rw [MergeRef.REF_apply]
  refine (body_apply _ _ _ _ _ _ _ _ _ _ _ _ _ _ _ _ _ _ _ _ _ ).trans ?_
  have h0 : ∀ l : Fin 1024, iblk0 (V1 m ρ) c 0 t (ix2 ⟨(y 0).val, (y 0).isLt⟩ l) = X h (ix2 ⟨t.val * 512 + (y 0).val, by idx_bounds y; omega⟩ l) := by
    intro l; rw [B0]; blk_ext [idx t]
  have h1 : ∀ l : Fin 512, iblk0 (V1 m ρ) c 1 t (ix2 ⟨(y 0).val, (y 0).isLt⟩ l) = O o_f (ix2 ⟨t.val * 512 + (y 0).val, by idx_bounds y; omega⟩ l) := by
    intro l; rw [B1]; blk_ext [idx t]
  have h2 : ∀ l : Fin 512, iblk0 (V1 m ρ) c 2 t (ix2 ⟨(y 0).val, (y 0).isLt⟩ l) = O o_b (ix2 ⟨t.val * 512 + (y 0).val, by idx_bounds y; omega⟩ l) := by
    intro l; rw [B2]; blk_ext [idx t]
  have h3 : ∀ l : Fin 512, iblk0 (V1 m ρ) c 3 t (ix2 ⟨(y 0).val, (y 0).isLt⟩ l) = Z z_a (ix2 ⟨t.val * 512 + (y 0).val, by idx_bounds y; omega⟩ l) := by
    intro l; rw [B3]; blk_ext [idx t]
  have h4 : ∀ l : Fin 512, iblk0 (V1 m ρ) c 4 t (ix2 ⟨(y 0).val, (y 0).isLt⟩ l) = Y y_f (ix2 ⟨t.val * 512 + (y 0).val, by idx_bounds y; omega⟩ l) := by
    intro l; rw [B4]; blk_ext [idx t]
  have h5 : ∀ l : Fin 512, iblk0 (V1 m ρ) c 5 t (ix2 ⟨(y 0).val, (y 0).isLt⟩ l) = Y y_b (ix2 ⟨t.val * 512 + (y 0).val, by idx_bounds y; omega⟩ l) := by
    intro l; rw [B5]; blk_ext [idx t]
  have h6 : ∀ l : Fin 512, iblk0 (V1 m ρ) c 6 t (ix2 ⟨(y 0).val, (y 0).isLt⟩ l) = X xbc (ix2 ⟨t.val * 512 + (y 0).val, by idx_bounds y; omega⟩ ⟨l.val, by omega⟩) := by
    intro l; rw [B6]; blk_ext [idx t]
  have h7 : ∀ l : Fin 512, iblk0 (V1 m ρ) c 7 t (ix2 ⟨(y 0).val, (y 0).isLt⟩ l) = Z z_b (ix2 ⟨t.val * 512 + (y 0).val, by idx_bounds y; omega⟩ l) := by
    intro l; rw [B7]; blk_ext [idx t]
  have h8 : ∀ l : Fin 512, iblk0 (V1 m ρ) c 8 t (ix2 ⟨(y 0).val, (y 0).isLt⟩ l) = Z o_c (ix2 ⟨t.val * 512 + (y 0).val, by idx_bounds y; omega⟩ l) := by
    intro l; rw [B8]; blk_ext [idx t]
  have h9 : ∀ l : Fin 1024, iblk0 (V1 m ρ) c 9 t (ix2 0 l) = G1024 mix (ix2 0 l) := by
    intro l; rw [B9]; blk_ext [idx t]
  have h10 : ∀ l : Fin 128, iblk0 (V1 m ρ) c 10 t (ix2 0 l) = G128 ga (ix2 0 l) := by
    intro l; rw [B10]; blk_ext [idx t]
  have h11 : ∀ l : Fin 512, iblk0 (V1 m ρ) c 11 t (ix2 0 l) = SK D (ix2 0 l) := by
    intro l; rw [B11]; blk_ext [idx t]
  have h12 : ∀ l : Fin 512, iblk0 (V1 m ρ) c 12 t (ix2 0 l) = G512 gb (ix2 0 l) := by
    intro l; rw [B12]; blk_ext [idx t]
  have h13 : ∀ (l : Fin 512) (j : Fin 1024), iblk0 (V1 m ρ) c 13 t (ix2 l j) = wa (ix2 l j) := by
    intro l j; rw [B13]; blk_ext [idx t]
  have h14 : ∀ (l : Fin 512) (j : Fin 1024), iblk0 (V1 m ρ) c 14 t (ix2 l j) = wb (ix2 l j) := by
    intro l j; rw [B14]; blk_ext [idx t]
  have h15 : ∀ (l : Fin 512) (j : Fin 1024), iblk0 (V1 m ρ) c 15 t (ix2 l j) = wc (ix2 l j) := by
    intro l j; rw [B15]; blk_ext [idx t]
  have h16 : ∀ (l : Fin 1024) (j : Fin 3072), iblk0 (V1 m ρ) c 16 t (ix2 l j) = wg (ix2 l j) := by
    intro l j; rw [B16]; blk_ext [idx t]
  have h17 : ∀ l : Fin 3072, iblk0 (V1 m ρ) c 17 t (ix2 0 l) = G3072 bg (ix2 0 l) := by
    intro l; rw [B17]; blk_ext [idx t]
  have h18 : ∀ (l : Fin 1024) (j : Fin 1024), iblk0 (V1 m ρ) c 18 t (ix2 l j) = wo (ix2 l j) := by
    intro l j; rw [B18]; blk_ext [idx t]
  obtain ⟨fa, rfl⟩ := ra
  obtain ⟨fb, rfl⟩ := rb
  exact (congrArg (fun R => MergeRow.out siluT R _) (Row.ext (funext fun l => (h0 l).trans (X_apply _ _ _)) (funext fun l => (h1 l).trans (O_apply _ _ _)) (funext fun l => (h2 l).trans (O_apply _ _ _)) (funext fun l => (h3 l).trans (Z_apply _ _ _)) (funext fun l => (h4 l).trans (Y_apply _ _ _)) (funext fun l => (h5 l).trans (Y_apply _ _ _)) (funext fun l => (h6 l).trans (X_apply _ _ _)) (funext fun l => (h7 l).trans (Z_apply _ _ _)) (funext fun l => (h8 l).trans (Z_apply _ _ _)) (funext fun l => (h9 l).trans (G1024_apply _ _)) (funext fun l => (h10 l).trans (G128_apply _ _)) (funext fun l => (h11 l).trans (SK_apply _ _)) (funext fun l => (h12 l).trans (G512_apply _ _)) (funext fun l => funext fun j => h13 l j) (funext fun l => funext fun j => h14 l j) (funext fun l => funext fun j => h15 l j) (funext fun l => funext fun j => h16 l j) (funext fun l => (h17 l).trans (G3072_apply _ _)) (funext fun l => funext fun j => h18 l j))).trans
    (out_silu _ ⟨fun l => fa (ix3 _ _ l), rfl⟩ ⟨fun l => fb (ix3 _ _ l), rfl⟩ _)
end

end Cert.TailMerge

end
-- ==== Proof.TailRef.lean ====
/-
  What the plain merge followed by the plain last half-step computes: the half-step on rows that lie one after another, at one
  token and one column, applied to the plain merge's result.
-/
module

public import proofs.«01_k».proof.Proof.MergeRef
public import proofs.«01_k».proof.Proof.Gen.TailReferenceIdeal.Run

@[expose] public section

set_option maxRecDepth 16384

noncomputable section

namespace Cert.TailRef

open Cert.TailReferenceIdeal Cert.TailReferenceIdeal.Gen Idealize.ShloMosaic Idealize.SL.Sem Cert.RowSums Cert.Rows

/-- The norm of each token's row, times the gain. -/
def norm (x : FVec Ideal S65536x1024 .f32) (g : FVec Ideal S1024 .f32) : FVec Ideal S65536x1024 .f32 :=
  mulf (mulf x (broadcastInDim S65536x1024 ![0, 1] bcast_S65536x1_S65536x1024_0_1
      (Host.rsqrt (addf (Host.divf (broadcastInDim S65536x1 ![0] bcast_S65536_S65536x1_0
          (Host.reduceAdd (mulf x x) (constant S_ .f32 0x00000000#32) reducesTo_S65536x1024_S65536_d1 h_S_))
        (broadcastInDim S65536x1 ![] bcast_S_S65536x1 (constant S_ .f32 0x44800000#32)))
        (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The normed rows' products with the first weights. -/
def gu (x : FVec Ideal S65536x1024 .f32) (g : FVec Ideal S1024 .f32) (win : FVec Ideal S1024x5632 .f32) : FVec Ideal S65536x5632 .f32 :=
  Host.dotGeneral dot_S65536x1024_S1024x5632_S65536x5632_1_0_0_1_n_n none (norm x g) win

/-- The activation. -/
def act (t : FVec Ideal S65536x2816 .f32) : FVec Ideal S65536x2816 .f32 :=
  mulf t (Host.divf (broadcastInDim S65536x2816 ![] bcast_S_S65536x2816 (constant S_ .f32 0x3F800000#32))
    (addf (broadcastInDim S65536x2816 ![] bcast_S_S65536x2816 (constant S_ .f32 0x3F800000#32)) (Host.exp (Host.negf t))))

/-- The half-step. -/
def half2 (x : FVec Ideal S65536x1024 .f32) (g : FVec Ideal S1024 .f32) (win : FVec Ideal S1024x5632 .f32) (wout : FVec Ideal S2816x1024 .f32) :
    FVec Ideal S65536x1024 .f32 :=
  addf x (mulf (broadcastInDim S65536x1024 ![] bcast_S_S65536x1024 (constant S_ .f32 0x3F000000#32))
    (Host.dotGeneral dot_S65536x2816_S2816x1024_S65536x1024_1_0_0_1_n_n none
      (mulf (act (extractStridedSlice S65536x2816 ![0, 0] (gu x g win) slices_S65536x5632_S65536x2816_0_0))
        (extractStridedSlice S65536x2816 ![0, 2816] (gu x g win) slices_S65536x5632_S65536x2816_0_2816)) wout))

/-- The half-step and the norm with the trunk's gain. -/
def LAST (x : FVec Ideal S65536x1024 .f32) (g : FVec Ideal S1024 .f32) (win : FVec Ideal S1024x5632 .f32) (wout : FVec Ideal S2816x1024 .f32)
    (fin : FVec Ideal S1024 .f32) : FVec Ideal S65536x1024 .f32 :=
  norm (half2 x g win wout) fin

set_option maxHeartbeats 3200000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113) = LAST (MergeRef.REF (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14)) (m ((c.tc : Thread nD τ).loc main_arg15))
            (m ((c.tc : Thread nD τ).loc main_arg16)) (m ((c.tc : Thread nD τ).loc main_arg17)) (m ((c.tc : Thread nD τ).loc main_arg18)))
          (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  Cert.TailReferenceIdeal.Value.run m ρ

variable (x : FVec Ideal S65536x1024 .f32) (g : FVec Ideal S1024 .f32) (win : FVec Ideal S1024x5632 .f32) (wout : FVec Ideal S2816x1024 .f32)
  (fin : FVec Ideal S1024 .f32)

theorem norm_apply (i : Fin 65536) (l : Fin 1024) :
    norm x g (ix2 i l) = normed n1024 (fun l => x (ix2 i l)) (fun l => g (ix1 l)) l := by
  pointwise [norm]
  rfl

theorem gu_apply (i : Fin 65536) (j : Fin 5632) :
    gu x g win (ix2 i j) = hidden (fun l => x (ix2 i l)) (fun l => g (ix1 l)) (fun l j => win (ix2 l j)) j := by
  pointwise [gu]
  simp only [norm_apply]
  rfl

theorem half2_apply (i : Fin 65536) (c : Fin 1024) :
    half2 x g win wout (ix2 i c)
      = step (fun l => x (ix2 i l)) (fun l => g (ix1 l)) (fun l j => win (ix2 l j)) (fun j c => wout (ix2 j c)) siluL c := by
  pointwise [half2, act]
  simp only [gu_apply, Ideal.ofBits_one_f32]
  rfl

theorem LAST_apply (i : Fin 65536) (c : Fin 1024) :
    LAST x g win wout fin (ix2 i c) = normed n1024
      (step (fun l => x (ix2 i l)) (fun l => g (ix1 l)) (fun l j => win (ix2 l j)) (fun j c => wout (ix2 j c)) siluL) (fun l => fin (ix1 l)) c := by
  refine (norm_apply (half2 x g win wout) fin i c).trans ?_
  simp only [half2_apply]

end Cert.TailRef

end
-- ==== Proof.TailLast.lean ====
/-
  The joined program's second call: the array it leaves is the plain half-step of the rows it is entered with, normed, where the
  gain and the first weights are real.
-/
module

public import proofs.«01_k».proof.Proof.LastArray
public import proofs.«01_k».proof.Proof.TailRef
public import proofs.«01_k».proof.Proof.Gen.TailIdeal.Frame
public import Idealize.ShloMosaic.Lib.Claim

@[expose] public section

set_option maxRecDepth 16384

noncomputable section

namespace Cert.TailLast

open Cert.TailIdeal Cert.TailIdeal.Gen Idealize.ShloMosaic Idealize.ShloMosaic.TcCoe Idealize.SL.Sem
open Idealize.ShloMosaic.Pipeline (Dat)
open Cert.RowSums Cert.Rows
open Cert.LastArray (G G_apply row_col)

/-- The windows' blocks at each grid point. -/
theorem idx : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![t.val, 0] :=
  (by decide +kernel : ∀ t : Fin grid1.N, _)

/-- The body's one store, on any blocks. -/
theorem out_eq (x : FVec Ideal S512x1024 .f32) (g : FVec Ideal S1x1024 .f32) (win : FVec Ideal S1024x5632 .bf16)
    (wout : FVec Ideal S2816x1024 .bf16) (fin : FVec Ideal S1x1024 .f32) :
    out1_5 (F := Ideal) x g win wout fin = LastBlock.body x g win wout fin := by
  frame_out
  unfold LastBlock.body
  rfl

section
variable (m : (ℓ : Loc nD τ sig) → Buf (Elt Ideal) ℓ) (ρ : Dev nD → PrngReg) (c : Dev nD)
  (x : FVec Ideal S65536x1024 .f32) (g : FVec Ideal S1024 .f32) (win : FVec Ideal S1024x5632 .f32) (wout : FVec Ideal S2816x1024 .f32)
  (fin : FVec Ideal S1024 .f32)

theorem V_x : V3 m ρ c main_v25 = (dat0 (V1 m ρ) c).arrAt 19 cfg0.N :=
  (W3_of m ρ c main_v25 (by decide)).trans (W2_arr m ρ c 19)

theorem V_g : V3 m ρ c main_v26 = G (m ((c : Thread nD τ).loc main_arg19)) := by
  show StableHlo.after hostOps1 (W2 m ρ c) (Proc.devRef .tc main_v26) = _
  entry_read
  rw [W2_args m ρ c main_arg19 (by decide)]
  rfl

theorem V_win : V3 m ρ c main_v27 = (m ((c : Thread nD τ).loc main_arg20) : FVec Ideal S1024x5632 .bf16) := by
  show StableHlo.after hostOps1 (W2 m ρ c) (Proc.devRef .tc main_v27) = _
  entry_read
  rw [W2_args m ρ c main_arg20 (by decide)]
  rfl

theorem V_wout : V3 m ρ c main_v28 = (m ((c : Thread nD τ).loc main_arg21) : FVec Ideal S2816x1024 .bf16) := by
  show StableHlo.after hostOps1 (W2 m ρ c) (Proc.devRef .tc main_v28) = _
  entry_read
  rw [W2_args m ρ c main_arg21 (by decide)]
  rfl

theorem V_fin : V3 m ρ c main_v29 = G (m ((c : Thread nD τ).loc main_arg22)) := by
  show StableHlo.after hostOps1 (W2 m ρ c) (Proc.devRef .tc main_v29) = _
  entry_read
  rw [W2_args m ρ c main_arg22 (by decide)]
  rfl

set_option maxHeartbeats 4000000 in
/-- The array after the second call. -/
theorem final (rg : ∃ f : S1024.Idx → ℝ, g = fun i => (f i : EReal))
    (rw' : ∃ f : S1024x5632.Idx → ℝ, win = fun i => (f i : EReal))
    (e0 : (dat0 (V1 m ρ) c).arrAt 19 cfg0.N = x) (e1 : m ((c : Thread nD τ).loc main_arg19) = g)
    (e2 : m ((c : Thread nD τ).loc main_arg20) = win) (e3 : m ((c : Thread nD τ).loc main_arg21) = wout)
    (e4 : m ((c : Thread nD τ).loc main_arg22) = fin) :
    (dat1 (V3 m ρ) c).arrAt 5 cfg1.N = TailRef.LAST x g win wout fin := by
  have E0 : V3 m ρ c main_v25 = x := by rw [V_x m ρ c, e0]
  have E1 : V3 m ρ c main_v26 = G g := by rw [V_g m ρ c, e1]
  have E2 : V3 m ρ c main_v27 = (win : FVec Ideal S1024x5632 .bf16) := by rw [V_win m ρ c, e2]
  have E3 : V3 m ρ c main_v28 = (wout : FVec Ideal S2816x1024 .bf16) := by rw [V_wout m ρ c, e3]
  have E4 : V3 m ρ c main_v29 = G fin := by rw [V_fin m ρ c, e4]
  have B0 : iblk1 (V3 m ρ) c 0 = fun t => ((cfg1.win 0).blk t).view.read (Elt Ideal) x := by rw [← E0]; rfl
  have B1 : iblk1 (V3 m ρ) c 1 = fun t => ((cfg1.win 1).blk t).view.read (Elt Ideal) (G g) := by rw [← E1]; rfl
  have B2 : iblk1 (V3 m ρ) c 2 = fun t => ((cfg1.win 2).blk t).view.read (Elt Ideal) (win : FVec Ideal S1024x5632 .bf16) := by rw [← E2]; rfl
  have B3 : iblk1 (V3 m ρ) c 3 = fun t => ((cfg1.win 3).blk t).view.read (Elt Ideal) (wout : FVec Ideal S2816x1024 .bf16) := by rw [← E3]; rfl
  have B4 : iblk1 (V3 m ρ) c 4 = fun t => ((cfg1.win 4).blk t).view.read (Elt Ideal) (G fin) := by rw [← E4]; rfl
  refine (dat1 (V3 m ρ) c).arrAt_eq_of_covers 5 _ (by decide +kernel) fun t _ y => ?_
  have ht : t.val < 128 := lt_of_lt_of_eq t.isLt N_1
  blk_simp
  rw [after1_5, out_eq]
  refine Eq.trans (congrArg (LastBlock.body _ _ _ _ _) (row_col y))
    (Eq.trans ?_ (b := TailRef.LAST x g win wout fin (ix2 ⟨t.val * 512 + (y 0).val, by idx_bounds y; omega⟩ ⟨(y 1).val, (y 1).isLt⟩)) (by blk_ext [idx t]))
  rw [TailRef.LAST_apply]
  refine (LastBlock.body_apply _ _ _ _ _ _ _).trans ?_
  have h0 : ∀ l : Fin 1024, iblk1 (V3 m ρ) c 0 t (ix2 ⟨(y 0).val, (y 0).isLt⟩ l)
      = x (ix2 ⟨t.val * 512 + (y 0).val, by idx_bounds y; omega⟩ l) := by
    intro l; rw [B0]; blk_ext [idx t]
  have h1 : ∀ l : Fin 1024, iblk1 (V3 m ρ) c 1 t (ix2 0 l) = G g (ix2 0 l) := by
    intro l; rw [B1]; blk_ext [idx t]
  have h2 : ∀ (l : Fin 1024) (j : Fin 5632), iblk1 (V3 m ρ) c 2 t (ix2 l j) = win (ix2 l j) := by
    intro l j; rw [B2]; blk_ext [idx t]
  have h3 : ∀ (l : Fin 2816) (j : Fin 1024), iblk1 (V3 m ρ) c 3 t (ix2 l j) = wout (ix2 l j) := by
    intro l j; rw [B3]; blk_ext [idx t]
  have h4 : ∀ l : Fin 1024, iblk1 (V3 m ρ) c 4 t (ix2 0 l) = G fin (ix2 0 l) := by
    intro l; rw [B4]; blk_ext [idx t]
  obtain ⟨fg, rfl⟩ := rg
  obtain ⟨fw, rfl⟩ := rw'
  exact normed_congr (fun l => (step_congr (fun l => h0 l) (fun l => (h1 l).trans (G_apply _ l)) h2 h3 siluT l).trans
    (step_eq (fun l => x (ix2 _ l)) (fun l => fg (ix1 l)) (fun l j => fw (ix2 l j)) _ l)) (fun l => (h4 l).trans (G_apply _ l)) _ _
end

end Cert.TailLast

end
-- ==== Proof.TailPre.lean ====
/-
  What the joined program's precondition says: the gating columns, the last half-step's gain and its first weights are real numbers.
-/
module

public import proofs.«01_k».proof.Proof.AttnPre
public import proofs.«01_k».proof.Proof.Gen.Pre_finite_tail
public import proofs.«01_k».proof.Proof.Gen.TailIdeal

@[expose] public section

noncomputable section

namespace Cert.TailPre

open Idealize.ShloMosaic Idealize.SL.Sem Cert.AttnPre Cert.TailIdeal

theorem real_args (m : (ℓ : Loc nD τ sig) → Buf (Elt Ideal) ℓ) (h : Cert.Pre_TailIdeal_finite_tail m) (c : Dev nD) :
    (∃ f : S32x2048x512.Idx → ℝ, m ((c.tc : Thread nD τ).loc main_arg3) = fun i => (f i : EReal))
    ∧ (∃ f : S32x2048x512.Idx → ℝ, m ((c.tc : Thread nD τ).loc main_arg7) = fun i => (f i : EReal))
    ∧ (∃ f : S1024.Idx → ℝ, m ((c.tc : Thread nD τ).loc main_arg19) = fun i => (f i : EReal))
    ∧ (∃ f : S1024x5632.Idx → ℝ, m ((c.tc : Thread nD τ).loc main_arg20) = fun i => (f i : EReal)) :=
  ⟨real_of_below _ _ _ (h c).1, real_of_below _ _ _ (h c).2.1, real_of_below _ _ _ (h c).2.2.1, real_of_below _ _ _ (h c).2.2.2⟩

end Cert.TailPre

end
-- ==== Proof.TailClaim.lean ====
/-
  The claims about the merge followed by the last half-step, two calls in one program: the programs run and keep their arguments, and
  the kernel's output is the reference's.
-/
module

public import proofs.«01_k».proof.Proof.TailRun
public import proofs.«01_k».proof.Proof.TailMerge
public import proofs.«01_k».proof.Proof.TailLast
public import proofs.«01_k».proof.Proof.TailPre
public import proofs.«01_k».proof.Proof.Gen.Tail.Frame
public import Idealize.ShloMosaic.Lib.Claim

@[expose] public section

noncomputable section

namespace Cert.TailClaim

open Idealize.ShloMosaic Idealize.SL.Sem

theorem frame : Cert.quiescent_Tail := fun m ρ _ => Cert.Tail.Gen.frame m ρ

theorem frame_ideal : Cert.quiescent_TailIdeal := fun m ρ _ => Cert.TailIdeal.Gen.frame m ρ

theorem frame_ideal_pre : Cert.quiescent_TailIdeal_pre_finite_tail := fun m ρ _ => Cert.TailIdeal.Gen.frame m ρ

theorem frame_reference : Cert.quiescent_TailReferenceIdeal := by
  intro m g _
  refine (θ_run Cert.TailReferenceIdeal.defs _ _).mono (fun r h => ⟨fun c => (h c).2, ?_⟩) (Cert.TailRef.run m g)
  exact sem_eq_zero_of_no_sems (by decide) r.2

theorem frame_reference_pre : Cert.quiescent_TailReferenceIdeal_pre_finite_tail :=
  fun m g _ => frame_reference m g trivial

theorem algebraic : Cert.algebraic_TailIdeal_TailReferenceIdeal_pre_finite_tail := by
  pair_intro
  · run_from Cert.TailRun.run m g
  · run_from Cert.TailRef.run m' g'
    obtain ⟨r0, r1, r2, r3⟩ := Cert.TailPre.real_args m hpre c
    exact (Cert.TailLast.final m g c _ _ _ _ _ r2 r3
      (Cert.TailMerge.final m g c _ _ _ _ _ _ _ _ _ _ _ _ _ _ _ _ _ _ _ r0 r1 rfl rfl rfl rfl rfl rfl rfl rfl rfl rfl rfl rfl rfl rfl rfl rfl rfl rfl rfl)
      rfl rfl rfl rfl).symm

end Cert.TailClaim

end
-- ==== Proof.MixRef.lean ====
/-
  What the plain input projection gives of the two gating columns and of the attention's values, at one token and one column.
-/
module

public import proofs.«01_k».proof.Proof.FfnRef
public import proofs.«01_k».proof.Proof.Gen.MixReferenceIdeal.Run

@[expose] public section

set_option maxRecDepth 16384

noncomputable section

namespace Cert.MixRef

open Cert.MixReferenceIdeal Cert.MixReferenceIdeal.Gen Idealize.ShloMosaic Idealize.SL.Sem Cert.RowSums Cert.Rows

/-- Entry `j` of the normed row's product with weights. -/
def proj {k : ℕ} (x g : Fin 1024 → EReal) (w : Fin 1024 → Fin k → EReal) (j : Fin k) : EReal := ∑ l, normed n1024 x g l * w l j

/-- The product of equal rows with columns that are equal. -/
theorem proj_congr {k k' : ℕ} {x x' g g' : Fin 1024 → EReal} {w : Fin 1024 → Fin k → EReal} {w' : Fin 1024 → Fin k' → EReal} {j : Fin k} {j' : Fin k'}
    (hx : ∀ l, x l = x' l) (hg : ∀ l, g l = g' l) (hw : ∀ l, w l j = w' l j') : proj x g w j = proj x' g' w' j' := by
  obtain rfl : x = x' := funext hx
  obtain rfl : g = g' := funext hg
  simp only [proj, hw]

/-- Entry `j` of the product of a normed latent row with weights. -/
def lift (x g : Fin 256 → EReal) (w : Fin 256 → Fin 1024 → EReal) (j : Fin 1024) : EReal := ∑ l, normed n256 x g l * w l j

theorem lift_congr {x x' g g' : Fin 256 → EReal} {w w' : Fin 256 → Fin 1024 → EReal} {j j' : Fin 1024}
    (hx : ∀ l, x l = x' l) (hg : ∀ l, g l = g' l) (hw : ∀ l j, w l j = w' l j) (hj : j = j') : lift x g w j = lift x' g' w' j' := by
  obtain rfl : x = x' := funext hx
  obtain rfl : g = g' := funext hg
  obtain rfl : w = w' := funext fun l => funext (hw l)
  rw [hj]

variable (h : FVec Ideal S32x2048x1024 .f32) (g : FVec Ideal S1024 .f32) (w : FVec Ideal S1024x4192 .f32)

/-- All the columns of the combined input projection. -/
def cols : FVec Ideal S32x2048x4192 .f32 :=
  Host.dotGeneral dot_S32x2048x1024_S1024x4192_S32x2048x4192_2_0_01_1_n_n none (FfnRef.norm h g) w

/-- The first branch's gating columns. -/
def ZA : FVec Ideal S32x2048x512 .bf16 :=
  truncf .bf16 (extractStridedSlice S32x2048x512 ![0, 0, 1536] (extractStridedSlice S32x2048x2064 ![0, 0, 0] (cols h g w)
    slices_S32x2048x4192_S32x2048x2064_0_0_0) slices_S32x2048x2064_S32x2048x512_0_0_1536) bitsLt_bf16_f32

/-- The second branch's gating columns. -/
def ZB : FVec Ideal S32x2048x512 .bf16 :=
  truncf .bf16 (extractStridedSlice S32x2048x512 ![0, 0, 0] (extractStridedSlice S32x2048x2128 ![0, 0, 2064] (cols h g w)
    slices_S32x2048x4192_S32x2048x2128_0_0_2064) slices_S32x2048x2128_S32x2048x512_0_0_0) bitsLt_bf16_f32

/-- The latent columns of the keys and values. -/
def latent : FVec Ideal S32x2048x256 .f32 :=
  extractStridedSlice S32x2048x256 ![0, 0, 256] (extractStridedSlice S32x2048x576 ![0, 0, 3616] (cols h g w)
    slices_S32x2048x4192_S32x2048x576_0_0_3616) slices_S32x2048x576_S32x2048x256_0_0_256

/-- The norm of each token's latent row, times the gain. -/
def latentNorm (x : FVec Ideal S32x2048x256 .f32) (gk : FVec Ideal S256 .f32) : FVec Ideal S32x2048x256 .f32 :=
  mulf (mulf x (broadcastInDim S32x2048x256 ![0, 1, 2] bcast_S32x2048x1_S32x2048x256_0_1_2
      (Host.rsqrt (addf (Host.divf (broadcastInDim S32x2048x1 ![0, 1] bcast_S32x2048_S32x2048x1_0_1
          (Host.reduceAdd (mulf x x) (constant S_ .f32 0x00000000#32) reducesTo_S32x2048x256_S32x2048_d2 h_S_))
        (broadcastInDim S32x2048x1 ![] bcast_S_S32x2048x1 (constant S_ .f32 0x43800000#32)))
        (broadcastInDim S32x2048x1 ![] bcast_S_S32x2048x1 (constant S_ .f32 0x358637BD#32))))))
    (broadcastInDim S32x2048x256 ![0, 1, 2] bcast_S1x1x256_S32x2048x256_0_1_2 (broadcastInDim S1x1x256 ![2] bcast_S256_S1x1x256_2 gk))

/-- The keys' first parts and the values. -/
def kv (x : FVec Ideal S32x2048x256 .f32) (gk : FVec Ideal S256 .f32) (wk : FVec Ideal S256x1024 .f32) : FVec Ideal S32x2048x1024 .f32 :=
  Host.dotGeneral dot_S32x2048x256_S256x1024_S32x2048x1024_2_0_01_1_n_n none (latentNorm x gk) wk

/-- The values by head, 128 lanes of ones beside them. -/
def packed (y : FVec Ideal S32x2048x1024 .f32) : FVec Ideal S32x4x2048x256 .bf16 :=
  truncf .bf16 (concatenate S32x4x2048x256 3 [⟨S32x4x2048x128, transpose S32x4x2048x128 [0, 2, 1, 3]
      (extractStridedSlice S32x2048x4x128 ![0, 0, 0, 128] (shapeCast _ y shapeCasts_S32x2048x1024_S32x2048x4x256)
        slices_S32x2048x4x256_S32x2048x4x128_0_0_0_128) transposes_S32x2048x4x128_S32x4x2048x128_0_2_1_3⟩,
    ⟨S32x4x2048x128, broadcastInDim S32x4x2048x128 ![] bcast_S_S32x4x2048x128 (constant S_ .f32 0x3F800000#32)⟩]
    concatenates_S32x4x2048x128_S32x4x2048x128_S32x4x2048x256_d3 : FVec Ideal S32x4x2048x256 .f32) bitsLt_bf16_f32

/-- The values that the attention takes. -/
def ZV (gk : FVec Ideal S256 .f32) (wk : FVec Ideal S256x1024 .f32) : FVec Ideal S32x4x2048x256 .bf16 := packed (kv (latent h g w) gk wk)

set_option maxHeartbeats 1000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = ZA (m ((c.tc : Thread nD τ).loc main_arg0)) (m ((c.tc : Thread nD τ).loc main_arg1))
          (m ((c.tc : Thread nD τ).loc main_arg2))
      ∧ r.2.mem ((c.tc : Thread nD τ).loc main_v38) = ZB (m ((c.tc : Thread nD τ).loc main_arg0)) (m ((c.tc : Thread nD τ).loc main_arg1))
          (m ((c.tc : Thread nD τ).loc main_arg2))
      ∧ r.2.mem ((c.tc : Thread nD τ).loc main_v41) = ZV (m ((c.tc : Thread nD τ).loc main_arg0)) (m ((c.tc : Thread nD τ).loc main_arg1))
          (m ((c.tc : Thread nD τ).loc main_arg2)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  Cert.MixReferenceIdeal.Value.run m ρ

theorem cols_apply (b : Fin 32) (i : Fin 2048) (j : Fin 4192) :
    cols h g w (ix3 b i j) = proj (fun l => h (ix3 b i l)) (fun l => g (ix1 l)) (fun l j => w (ix2 l j)) j := by
  pointwise [cols]
  simp only [FfnRef.norm_apply]
  rfl

theorem ZA_apply (b : Fin 32) (i : Fin 2048) (j : Fin 512) :
    ZA h g w (ix3 b i j) = proj (fun l => h (ix3 b i l)) (fun l => g (ix1 l)) (fun l j => w (ix2 l j)) ⟨1536 + j.val, by omega⟩ := by
  refine Eq.trans (b := cols h g w (ix3 b i ⟨1536 + j.val, by omega⟩)) (by pointwise [ZA]) (cols_apply h g w b i _)

theorem ZB_apply (b : Fin 32) (i : Fin 2048) (j : Fin 512) :
    ZB h g w (ix3 b i j) = proj (fun l => h (ix3 b i l)) (fun l => g (ix1 l)) (fun l j => w (ix2 l j)) ⟨2064 + j.val, by omega⟩ := by
  refine Eq.trans (b := cols h g w (ix3 b i ⟨2064 + j.val, by omega⟩)) (by pointwise [ZB]) (cols_apply h g w b i _)

theorem latent_apply (b : Fin 32) (i : Fin 2048) (j : Fin 256) :
    latent h g w (ix3 b i j) = proj (fun l => h (ix3 b i l)) (fun l => g (ix1 l)) (fun l j => w (ix2 l j)) ⟨3872 + j.val, by omega⟩ := by
  refine Eq.trans (b := cols h g w (ix3 b i ⟨3872 + j.val, by omega⟩)) ?_ (cols_apply h g w b i _)
  unfold latent
  generalize cols h g w = y
  pointwise
  refine congrArg (fun k : Fin 4192 => y (ix3 b i k)) (Fin.ext ?_)
  show 3616 + (256 + j.val) = 3872 + j.val
  omega

section
variable (x : FVec Ideal S32x2048x256 .f32) (gk : FVec Ideal S256 .f32) (wk : FVec Ideal S256x1024 .f32)

theorem latentNorm_apply (b : Fin 32) (i : Fin 2048) (l : Fin 256) :
    latentNorm x gk (ix3 b i l) = normed n256 (fun l => x (ix3 b i l)) (fun l => gk (ix1 l)) l := by
  pointwise [latentNorm]
  rfl

theorem kv_apply (b : Fin 32) (i : Fin 2048) (j : Fin 1024) :
    kv x gk wk (ix3 b i j) = lift (fun l => x (ix3 b i l)) (fun l => gk (ix1 l)) (fun l j => wk (ix2 l j)) j := by
  pointwise [kv]
  simp only [latentNorm_apply]
  rfl

theorem packed_value (y : FVec Ideal S32x2048x1024 .f32) (b : Fin 32) (a : Fin 4) (i : Fin 2048) (d : Fin 128) :
    packed y (ix4 b a i ⟨d.val, by omega⟩) = y (ix3 b i ⟨a.val * 256 + (128 + d.val), by omega⟩) := by
  pointwise [packed]

theorem packed_one (y : FVec Ideal S32x2048x1024 .f32) (b : Fin 32) (a : Fin 4) (i : Fin 2048) (d : Fin 128) :
    packed y (ix4 b a i ⟨128 + d.val, by omega⟩) = (1 : EReal) := by
  pointwise [packed]
end

theorem ZV_value (gk : FVec Ideal S256 .f32) (wk : FVec Ideal S256x1024 .f32) (b : Fin 32) (a : Fin 4) (i : Fin 2048) (d : Fin 128) :
    ZV h g w gk wk (ix4 b a i ⟨d.val, by omega⟩)
      = lift (fun l => proj (fun l => h (ix3 b i l)) (fun l => g (ix1 l)) (fun l j => w (ix2 l j)) ⟨3872 + l.val, by omega⟩)
          (fun l => gk (ix1 l)) (fun l j => wk (ix2 l j)) ⟨a.val * 256 + (128 + d.val), by omega⟩ := by
  rw [ZV, packed_value, kv_apply]
  exact lift_congr (latent_apply h g w b i) (fun _ => rfl) (fun _ _ => rfl) rfl

theorem ZV_one (gk : FVec Ideal S256 .f32) (wk : FVec Ideal S256x1024 .f32) (b : Fin 32) (a : Fin 4) (i : Fin 2048) (d : Fin 128) :
    ZV h g w gk wk (ix4 b a i ⟨128 + d.val, by omega⟩) = (1 : EReal) :=
  packed_one _ b a i d

end Cert.MixRef

end
-- ==== Proof.MixWindows.lean ====
/-
  The input call up to its grid: what each window holds at a grid point, and what the body leaves in each output's buffer.
-/
module

public import proofs.«01_k».proof.Proof.Gen.MixIdeal.Launch
public import proofs.«01_k».proof.Proof.Gen.MixIdeal.Skeleton
public import proofs.«01_k».proof.Proof.Gen.MixIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2040000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post, over any float values. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 2).trans (((dats 0 c).arrAt_in 2 rfl _).trans ((hA c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses -/

abbrev r0_0 : Rect S1x8x1024 := Rect.unit (s := S1x8x1024) ![0, 0, 0] S1x8x1024.size inb_S1x8x1024_S1x8x1024_0_0_0
abbrev r0_1 : Rect S1x512x1024 := Rect.unit (s := S1x512x1024) ![0, 0, 0] S1x512x1024.size inb_S1x512x1024_S1x512x1024_0_0_0
abbrev r0_2 : Rect S1x1024 := Rect.unit (s := S1x1024) ![0, 0] S1x1024.size inb_S1x1024_S1x1024_0_0
abbrev r0_3 : Rect S1024x2560 := Rect.unit (s := S1024x2560) ![0, 0] S1024x512.size inb_S1024x2560_S1024x512_0_0
abbrev r0_4 : Rect S8x1536 := Rect.unit (s := S8x1536) ![0, 0] S1x512.size inb_S8x1536_S1x512_0_0
abbrev r0_5 : Rect S8x1536 := Rect.unit (s := S8x1536) ![1, 0] S1x512.size inb_S8x1536_S1x512_1_0
abbrev r0_6 : Rect S8x1536 := Rect.unit (s := S8x1536) ![2, 0] S1x512.size inb_S8x1536_S1x512_2_0
abbrev r0_7 : Rect S8x1536 := Rect.unit (s := S8x1536) ![3, 0] S1x512.size inb_S8x1536_S1x512_3_0
abbrev r0_8 : Rect S8x1536 := Rect.unit (s := S8x1536) ![4, 0] S1x512.size inb_S8x1536_S1x512_4_0
abbrev r0_9 : Rect S1x512x512 := Rect.unit (s := S1x512x512) ![0, 0, 0] S1x512x128.size inb_S1x512x512_S1x512x128_0_0_0
abbrev r0_10 : Rect S1x512x512 := Rect.unit (s := S1x512x512) ![0, 0, 128] S1x512x128.size inb_S1x512x512_S1x512x128_0_0_128
abbrev r0_11 : Rect S1x512x512 := Rect.unit (s := S1x512x512) ![0, 0, 256] S1x512x128.size inb_S1x512x512_S1x512x128_0_0_256
abbrev r0_12 : Rect S1x512x512 := Rect.unit (s := S1x512x512) ![0, 0, 384] S1x512x128.size inb_S1x512x512_S1x512x128_0_0_384
abbrev r0_13 : Rect S1024x2560 := Rect.unit (s := S1024x2560) ![0, 512] S1024x512.size inb_S1024x2560_S1024x512_0_512
abbrev r0_14 : Rect S8x1536 := Rect.unit (s := S8x1536) ![0, 512] S1x512.size inb_S8x1536_S1x512_0_512
abbrev r0_15 : Rect S8x1536 := Rect.unit (s := S8x1536) ![1, 512] S1x512.size inb_S8x1536_S1x512_1_512
abbrev r0_16 : Rect S8x1536 := Rect.unit (s := S8x1536) ![2, 512] S1x512.size inb_S8x1536_S1x512_2_512
abbrev r0_17 : Rect S8x1536 := Rect.unit (s := S8x1536) ![3, 512] S1x512.size inb_S8x1536_S1x512_3_512
abbrev r0_18 : Rect S8x1536 := Rect.unit (s := S8x1536) ![4, 512] S1x512.size inb_S8x1536_S1x512_4_512
abbrev r0_19 : Rect S1024x2560 := Rect.unit (s := S1024x2560) ![0, 1024] S1024x512.size inb_S1024x2560_S1024x512_0_1024
abbrev r0_20 : Rect S8x1536 := Rect.unit (s := S8x1536) ![0, 1024] S1x512.size inb_S8x1536_S1x512_0_1024
abbrev r0_21 : Rect S8x1536 := Rect.unit (s := S8x1536) ![1, 1024] S1x512.size inb_S8x1536_S1x512_1_1024
abbrev r0_22 : Rect S8x1536 := Rect.unit (s := S8x1536) ![2, 1024] S1x512.size inb_S8x1536_S1x512_2_1024
abbrev r0_23 : Rect S8x1536 := Rect.unit (s := S8x1536) ![3, 1024] S1x512.size inb_S8x1536_S1x512_3_1024
abbrev r0_24 : Rect S8x1536 := Rect.unit (s := S8x1536) ![4, 1024] S1x512.size inb_S8x1536_S1x512_4_1024
abbrev r0_25 : Rect S1x512x512 := Rect.unit (s := S1x512x512) ![0, 0, 0] S1x512x512.size inb_S1x512x512_S1x512x512_0_0_0
abbrev r0_26 : Rect S1024x256 := Rect.unit (s := S1024x256) ![0, 0] S1024x256.size inb_S1024x256_S1024x256_0_0
abbrev r0_27 : Rect S1x128 := Rect.unit (s := S1x128) ![0, 0] S1x128.size inb_S1x128_S1x128_0_0
abbrev r0_28 : Rect S1x512x128 := Rect.unit (s := S1x512x128) ![0, 0, 0] S1x512x128.size inb_S1x512x128_S1x512x128_0_0_0
abbrev r0_29 : Rect S1024x2560 := Rect.unit (s := S1024x2560) ![0, 1536] S1024x512.size inb_S1024x2560_S1024x512_0_1536
abbrev r0_30 : Rect S8x1024 := Rect.unit (s := S8x1024) ![0, 0] S1x512.size inb_S8x1024_S1x512_0_0
abbrev r0_31 : Rect S8x1024 := Rect.unit (s := S8x1024) ![1, 0] S1x512.size inb_S8x1024_S1x512_1_0
abbrev r0_32 : Rect S8x1024 := Rect.unit (s := S8x1024) ![2, 0] S1x512.size inb_S8x1024_S1x512_2_0
abbrev r0_33 : Rect S8x1024 := Rect.unit (s := S8x1024) ![3, 0] S1x512.size inb_S8x1024_S1x512_3_0
abbrev r0_34 : Rect S8x1024 := Rect.unit (s := S8x1024) ![4, 0] S1x512.size inb_S8x1024_S1x512_4_0
abbrev r0_35 : Rect S1x1024 := Rect.unit (s := S1x1024) ![0, 0] S1x512.size inb_S1x1024_S1x512_0_0
abbrev r0_36 : Rect S1x512x1024 := Rect.unit (s := S1x512x1024) ![0, 0, 0] S1x512x512.size inb_S1x512x1024_S1x512x512_0_0_0
abbrev r0_37 : Rect S1024x2560 := Rect.unit (s := S1024x2560) ![0, 2048] S1024x512.size inb_S1024x2560_S1024x512_0_2048
abbrev r0_38 : Rect S8x1024 := Rect.unit (s := S8x1024) ![0, 512] S1x512.size inb_S8x1024_S1x512_0_512
abbrev r0_39 : Rect S8x1024 := Rect.unit (s := S8x1024) ![1, 512] S1x512.size inb_S8x1024_S1x512_1_512
abbrev r0_40 : Rect S8x1024 := Rect.unit (s := S8x1024) ![2, 512] S1x512.size inb_S8x1024_S1x512_2_512
abbrev r0_41 : Rect S8x1024 := Rect.unit (s := S8x1024) ![3, 512] S1x512.size inb_S8x1024_S1x512_3_512
abbrev r0_42 : Rect S8x1024 := Rect.unit (s := S8x1024) ![4, 512] S1x512.size inb_S8x1024_S1x512_4_512
abbrev r0_43 : Rect S1x1024 := Rect.unit (s := S1x1024) ![0, 512] S1x512.size inb_S1x1024_S1x512_0_512
abbrev r0_44 : Rect S1x512x1024 := Rect.unit (s := S1x512x1024) ![0, 0, 512] S1x512x512.size inb_S1x512x1024_S1x512x512_0_0_512
abbrev r0_45 : Rect S1024x1536 := Rect.unit (s := S1024x1536) ![0, 0] S1024x1536.size inb_S1024x1536_S1024x1536_0_0
abbrev r0_46 : Rect S512x128 := Rect.unit (s := S512x128) ![0, 0] S512x128.size inb_S512x128_S512x128_0_0
abbrev r0_47 : Rect S1x256 := Rect.unit (s := S1x256) ![0, 0] S1x256.size inb_S1x256_S1x256_0_0
abbrev r0_48 : Rect S256x1024 := Rect.unit (s := S256x1024) ![0, 0] S256x1024.size inb_S256x1024_S256x1024_0_0
abbrev r0_49 : Rect S1x4x512x256 := Rect.unit (s := S1x4x512x256) ![0, 0, 0, 0] S1x1x512x128.size inb_S1x4x512x256_S1x1x512x128_0_0_0_0
abbrev r0_50 : Rect S1x4x512x256 := Rect.unit (s := S1x4x512x256) ![0, 0, 0, 128] S1x1x512x128.size inb_S1x4x512x256_S1x1x512x128_0_0_0_128
abbrev r0_51 : Rect S1x4x512x256 := Rect.unit (s := S1x4x512x256) ![0, 1, 0, 0] S1x1x512x128.size inb_S1x4x512x256_S1x1x512x128_0_1_0_0
abbrev r0_52 : Rect S1x4x512x256 := Rect.unit (s := S1x4x512x256) ![0, 1, 0, 128] S1x1x512x128.size inb_S1x4x512x256_S1x1x512x128_0_1_0_128
abbrev r0_53 : Rect S1x4x512x256 := Rect.unit (s := S1x4x512x256) ![0, 2, 0, 0] S1x1x512x128.size inb_S1x4x512x256_S1x1x512x128_0_2_0_0
abbrev r0_54 : Rect S1x4x512x256 := Rect.unit (s := S1x4x512x256) ![0, 2, 0, 128] S1x1x512x128.size inb_S1x4x512x256_S1x1x512x128_0_2_0_128
abbrev r0_55 : Rect S1x4x512x256 := Rect.unit (s := S1x4x512x256) ![0, 3, 0, 0] S1x1x512x128.size inb_S1x4x512x256_S1x1x512x128_0_3_0_0
abbrev r0_56 : Rect S1x4x512x256 := Rect.unit (s := S1x4x512x256) ![0, 3, 0, 128] S1x1x512x128.size inb_S1x4x512x256_S1x1x512x128_0_3_0_128

/-! ## What the body leaves in each output window's buffer -/

/-! ### Values of the body that the stores' payloads, spelt out, would write more than once

    Each is a vector the body binds (often a part call's result), stated over the input windows' blocks and
    numbered on from the skeleton's payload functions (`k0_pay115` …, after `k0_pay114`), so that
    `out0_W` and the values after it name it instead of spelling it out ; the comment after each is the printed function's
    name for the value (a count appended where that name is bound again). -/

def k0_pay115 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S64x8x512 32 :=
  iota .tc S64x8x512 32 [1] iota_S64x8x512_d1_w32 -- `v36`
def k0_pay116 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S528x1024 .bf16 :=
  k0_pay2 (View.ld x1 r0_0) (View.ld x0 r0_1) (View.ld x2 r0_0) (View.ld x4 r0_2) -- `v23`
def k0_pay117 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S66x8x512 .f32 :=
  k0_pay3 i (View.ld x1 r0_0) (View.ld x0 r0_1) (View.ld x2 r0_0) (View.ld x4 r0_2) (View.ld x5 r0_3) -- `v35`
def k0_pay118 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S64x8x512 .f32 :=
  k0_pay4 (k0_pay117 i x0 x1 x2 x3 x4 x5 x6 x7 x8 x9 x10 x11 x12 x13 x14 x15 x16 x17 x18) (k0_pay115 i x0 x1 x2 x3 x4 x5 x6 x7 x8 x9 x10 x11 x12 x13 x14 x15 x16 x17 x18) (View.ld x8 r0_4) (View.ld x8 r0_5) (View.ld x8 r0_6) (View.ld x8 r0_7) -- `v78`
def k0_pay119 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S66x8x512 .f32 :=
  k0_pay5 (k0_pay117 i x0 x1 x2 x3 x4 x5 x6 x7 x8 x9 x10 x11 x12 x13 x14 x15 x16 x17 x18) -- `v79`
def k0_pay120 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S64x8x512 32 :=
  k0_pay6 -- `v80`
def k0_pay121 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x512 .f32 :=
  k0_pay7 (k0_pay115 i x0 x1 x2 x3 x4 x5 x6 x7 x8 x9 x10 x11 x12 x13 x14 x15 x16 x17 x18) (k0_pay118 i x0 x1 x2 x3 x4 x5 x6 x7 x8 x9 x10 x11 x12 x13 x14 x15 x16 x17 x18) (k0_pay119 i x0 x1 x2 x3 x4 x5 x6 x7 x8 x9 x10 x11 x12 x13 x14 x15 x16 x17 x18) (k0_pay120 i x0 x1 x2 x3 x4 x5 x6 x7 x8 x9 x10 x11 x12 x13 x14 x15 x16 x17 x18) (View.ld x8 r0_8) -- `v96`
def k0_pay122 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S8x512 .f32 :=
  k0_pay14 (Scalar.cmpi .eq (BitVec.ofNat 32 (i 1).val) 0#32) (k0_pay116 i x0 x1 x2 x3 x4 x5 x6 x7 x8 x9 x10 x11 x12 x13 x14 x15 x16 x17 x18) (View.ld x5 r0_13) -- `v162`
def k0_pay123 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x512 .f32 :=
  k0_pay15 (k0_pay116 i x0 x1 x2 x3 x4 x5 x6 x7 x8 x9 x10 x11 x12 x13 x14 x15 x16 x17 x18) (View.ld x5 r0_13) -- `v163`
def k0_pay124 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S8x512 .f32 :=
  k0_pay16 (k0_pay116 i x0 x1 x2 x3 x4 x5 x6 x7 x8 x9 x10 x11 x12 x13 x14 x15 x16 x17 x18) (View.ld x5 r0_13) -- `v164`
def k0_pay125 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S64x8x512 32 :=
  iota .tc S64x8x512 32 [1] iota_S64x8x512_d1_w32 -- `v169`
def k0_pay126 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S66x8x512 .f32 :=
  k0_pay17 (Scalar.cmpi .eq (BitVec.ofNat 32 (i 1).val) 3#32) (k0_pay122 i x0 x1 x2 x3 x4 x5 x6 x7 x8 x9 x10 x11 x12 x13 x14 x15 x16 x17 x18) (k0_pay123 i x0 x1 x2 x3 x4 x5 x6 x7 x8 x9 x10 x11 x12 x13 x14 x15 x16 x17 x18) (k0_pay124 i x0 x1 x2 x3 x4 x5 x6 x7 x8 x9 x10 x11 x12 x13 x14 x15 x16 x17 x18) (Scalar.ofBits .f32 0x00000000#32) -- `v168`
def k0_pay127 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S64x8x512 .f32 :=
  k0_pay18 (Scalar.cmpi .eq (BitVec.ofNat 32 (i 1).val) 3#32) (k0_pay122 i x0 x1 x2 x3 x4 x5 x6 x7 x8 x9 x10 x11 x12 x13 x14 x15 x16 x17 x18) (k0_pay123 i x0 x1 x2 x3 x4 x5 x6 x7 x8 x9 x10 x11 x12 x13 x14 x15 x16 x17 x18) (k0_pay124 i x0 x1 x2 x3 x4 x5 x6 x7 x8 x9 x10 x11 x12 x13 x14 x15 x16 x17 x18) (Scalar.ofBits .f32 0x00000000#32) (View.ld x8 r0_14) (View.ld x8 r0_15) (View.ld x8 r0_16) -- `v199`
def k0_pay128 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S64x8x512 .f32 :=
  k0_pay19 (Scalar.cmpi .eq (BitVec.ofNat 32 (i 1).val) 3#32) (k0_pay122 i x0 x1 x2 x3 x4 x5 x6 x7 x8 x9 x10 x11 x12 x13 x14 x15 x16 x17 x18) (k0_pay123 i x0 x1 x2 x3 x4 x5 x6 x7 x8 x9 x10 x11 x12 x13 x14 x15 x16 x17 x18) (k0_pay124 i x0 x1 x2 x3 x4 x5 x6 x7 x8 x9 x10 x11 x12 x13 x14 x15 x16 x17 x18) (Scalar.ofBits .f32 0x00000000#32) (View.ld x8 r0_17) -- `v210`
def k0_pay129 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x512 .f32 :=
  k0_pay20 (k0_pay126 i x0 x1 x2 x3 x4 x5 x6 x7 x8 x9 x10 x11 x12 x13 x14 x15 x16 x17 x18) (k0_pay125 i x0 x1 x2 x3 x4 x5 x6 x7 x8 x9 x10 x11 x12 x13 x14 x15 x16 x17 x18) (k0_pay127 i x0 x1 x2 x3 x4 x5 x6 x7 x8 x9 x10 x11 x12 x13 x14 x15 x16 x17 x18) (k0_pay128 i x0 x1 x2 x3 x4 x5 x6 x7 x8 x9 x10 x11 x12 x13 x14 x15 x16 x17 x18) (View.ld x8 r0_18) -- `v229`
def k0_pay130 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S528x512 .f32 :=
  k0_pay26 (k0_pay116 i x0 x1 x2 x3 x4 x5 x6 x7 x8 x9 x10 x11 x12 x13 x14 x15 x16 x17 x18) (View.ld x5 r0_19) -- `v292`
def k0_pay131 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S8x512 .f32 :=
  k0_pay27 (k0_pay116 i x0 x1 x2 x3 x4 x5 x6 x7 x8 x9 x10 x11 x12 x13 x14 x15 x16 x17 x18) (View.ld x5 r0_19) -- `v293`
def k0_pay132 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x128 .f32 :=
  k0_pay33 (k0_pay116 i x0 x1 x2 x3 x4 x5 x6 x7 x8 x9 x10 x11 x12 x13 x14 x15 x16 x17 x18) (View.ld x7 r0_26) -- `v371`
def k0_pay133 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S512x128 1 :=
  k0_pay34 -- `v374`
def k0_pay134 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S512x128 1 :=
  k0_pay35 -- `v379`
def k0_pay135 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S1x128 .f32 :=
  k0_pay36 (View.ld x10 r0_27) -- `v381`
def k0_pay136 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x128 .f32 :=
  k0_pay37 (k0_pay132 i x0 x1 x2 x3 x4 x5 x6 x7 x8 x9 x10 x11 x12 x13 x14 x15 x16 x17 x18) (k0_pay135 i x0 x1 x2 x3 x4 x5 x6 x7 x8 x9 x10 x11 x12 x13 x14 x15 x16 x17 x18) (View.ld x14 r0_27) -- `v395`
def k0_pay137 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x128 .f32 :=
  k0_pay38 (k0_pay132 i x0 x1 x2 x3 x4 x5 x6 x7 x8 x9 x10 x11 x12 x13 x14 x15 x16 x17 x18) (k0_pay133 i x0 x1 x2 x3 x4 x5 x6 x7 x8 x9 x10 x11 x12 x13 x14 x15 x16 x17 x18) (k0_pay134 i x0 x1 x2 x3 x4 x5 x6 x7 x8 x9 x10 x11 x12 x13 x14 x15 x16 x17 x18) (k0_pay135 i x0 x1 x2 x3 x4 x5 x6 x7 x8 x9 x10 x11 x12 x13 x14 x15 x16 x17 x18) (View.ld x14 r0_27) (View.ld x9 r0_27) (View.ld x13 r0_27) -- `v408`
def k0_pay138 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S512x128 1 :=
  k0_pay39 (iota .tc S512x128 32 [1] iota_S512x128_d1_w32) -- `v416`
def k0_pay139 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S512x128 32 :=
  k0_pay40 -- `v419`
def k0_pay140 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x128 .f32 :=
  k0_pay42 (k0_pay137 i x0 x1 x2 x3 x4 x5 x6 x7 x8 x9 x10 x11 x12 x13 x14 x15 x16 x17 x18) (k0_pay139 i x0 x1 x2 x3 x4 x5 x6 x7 x8 x9 x10 x11 x12 x13 x14 x15 x16 x17 x18) -- `v455`
def k0_pay141 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x128 .f32 :=
  k0_pay43 (k0_pay137 i x0 x1 x2 x3 x4 x5 x6 x7 x8 x9 x10 x11 x12 x13 x14 x15 x16 x17 x18) (k0_pay139 i x0 x1 x2 x3 x4 x5 x6 x7 x8 x9 x10 x11 x12 x13 x14 x15 x16 x17 x18) (k0_pay41 (k0_pay132 i x0 x1 x2 x3 x4 x5 x6 x7 x8 x9 x10 x11 x12 x13 x14 x15 x16 x17 x18) (k0_pay133 i x0 x1 x2 x3 x4 x5 x6 x7 x8 x9 x10 x11 x12 x13 x14 x15 x16 x17 x18) (k0_pay134 i x0 x1 x2 x3 x4 x5 x6 x7 x8 x9 x10 x11 x12 x13 x14 x15 x16 x17 x18) (k0_pay135 i x0 x1 x2 x3 x4 x5 x6 x7 x8 x9 x10 x11 x12 x13 x14 x15 x16 x17 x18) (View.ld x14 r0_27) (View.ld x9 r0_27) (View.ld x13 r0_27)) -- `v461`
def k0_pay142 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S512x128 1 :=
  k0_pay44 (k0_pay139 i x0 x1 x2 x3 x4 x5 x6 x7 x8 x9 x10 x11 x12 x13 x14 x15 x16 x17 x18) -- `v463`
def k0_pay143 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x128 .f32 :=
  k0_pay45 (k0_pay137 i x0 x1 x2 x3 x4 x5 x6 x7 x8 x9 x10 x11 x12 x13 x14 x15 x16 x17 x18) (k0_pay139 i x0 x1 x2 x3 x4 x5 x6 x7 x8 x9 x10 x11 x12 x13 x14 x15 x16 x17 x18) -- `v464`
def k0_pay144 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x128 .f32 :=
  k0_pay46 (k0_pay138 i x0 x1 x2 x3 x4 x5 x6 x7 x8 x9 x10 x11 x12 x13 x14 x15 x16 x17 x18) (k0_pay139 i x0 x1 x2 x3 x4 x5 x6 x7 x8 x9 x10 x11 x12 x13 x14 x15 x16 x17 x18) (k0_pay140 i x0 x1 x2 x3 x4 x5 x6 x7 x8 x9 x10 x11 x12 x13 x14 x15 x16 x17 x18) (k0_pay141 i x0 x1 x2 x3 x4 x5 x6 x7 x8 x9 x10 x11 x12 x13 x14 x15 x16 x17 x18) (k0_pay142 i x0 x1 x2 x3 x4 x5 x6 x7 x8 x9 x10 x11 x12 x13 x14 x15 x16 x17 x18) (k0_pay143 i x0 x1 x2 x3 x4 x5 x6 x7 x8 x9 x10 x11 x12 x13 x14 x15 x16 x17 x18) -- `v492`
def k0_pay145 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S64x8x512 32 :=
  iota .tc S64x8x512 32 [1] iota_S64x8x512_d1_w32 -- `v515`
def k0_pay146 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S66x8x512 .f32 :=
  k0_pay49 (Scalar.cmpi .eq (BitVec.ofNat 32 (i 1).val) 0#32) (Scalar.cmpi .eq (BitVec.ofNat 32 (i 1).val) 3#32) (k0_pay116 i x0 x1 x2 x3 x4 x5 x6 x7 x8 x9 x10 x11 x12 x13 x14 x15 x16 x17 x18) (View.ld x5 r0_29) -- `v514`
def k0_pay147 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S64x8x512 .f32 :=
  k0_pay50 (Scalar.cmpi .eq (BitVec.ofNat 32 (i 1).val) 0#32) (Scalar.cmpi .eq (BitVec.ofNat 32 (i 1).val) 3#32) (k0_pay116 i x0 x1 x2 x3 x4 x5 x6 x7 x8 x9 x10 x11 x12 x13 x14 x15 x16 x17 x18) (View.ld x5 r0_29) (View.ld x11 r0_30) (View.ld x11 r0_31) (View.ld x11 r0_32) -- `v545`
def k0_pay148 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S66x8x512 .f32 :=
  k0_pay51 (Scalar.cmpi .eq (BitVec.ofNat 32 (i 1).val) 0#32) (Scalar.cmpi .eq (BitVec.ofNat 32 (i 1).val) 3#32) (k0_pay116 i x0 x1 x2 x3 x4 x5 x6 x7 x8 x9 x10 x11 x12 x13 x14 x15 x16 x17 x18) (View.ld x5 r0_29) -- `v546`
def k0_pay149 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x512 .f32 :=
  k0_pay52 (k0_pay146 i x0 x1 x2 x3 x4 x5 x6 x7 x8 x9 x10 x11 x12 x13 x14 x15 x16 x17 x18) (k0_pay145 i x0 x1 x2 x3 x4 x5 x6 x7 x8 x9 x10 x11 x12 x13 x14 x15 x16 x17 x18) (k0_pay147 i x0 x1 x2 x3 x4 x5 x6 x7 x8 x9 x10 x11 x12 x13 x14 x15 x16 x17 x18) (k0_pay148 i x0 x1 x2 x3 x4 x5 x6 x7 x8 x9 x10 x11 x12 x13 x14 x15 x16 x17 x18) (View.ld x11 r0_33) (View.ld x11 r0_34) (View.ld x12 r0_35) -- `v579`
def k0_pay150 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S64x8x512 32 :=
  iota .tc S64x8x512 32 [1] iota_S64x8x512_d1_w32 -- `v740`
def k0_pay151 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S66x8x512 .f32 :=
  k0_pay69 (Scalar.cmpi .eq (BitVec.ofNat 32 (i 1).val) 0#32) (Scalar.cmpi .eq (BitVec.ofNat 32 (i 1).val) 3#32) (k0_pay116 i x0 x1 x2 x3 x4 x5 x6 x7 x8 x9 x10 x11 x12 x13 x14 x15 x16 x17 x18) (View.ld x5 r0_37) -- `v739`
def k0_pay152 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x128 .f32 :=
  k0_pay81 (View.ld x3 r0_46) -- `v825`
def k0_pay153 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x1024 .f32 :=
  k0_pay83 (k0_pay82 (k0_pay116 i x0 x1 x2 x3 x4 x5 x6 x7 x8 x9 x10 x11 x12 x13 x14 x15 x16 x17 x18) (View.ld x6 r0_45)) (View.ld x15 r0_47) (View.ld x17 r0_48) -- `v862`
def k0_pay154 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x1024 .f32 :=
  k0_pay84 (k0_pay80 (k0_pay116 i x0 x1 x2 x3 x4 x5 x6 x7 x8 x9 x10 x11 x12 x13 x14 x15 x16 x17 x18) (View.ld x6 r0_45)) (View.ld x16 r0_47) (View.ld x18 r0_48) -- `v865`
def k0_pay155 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x128 .f32 :=
  k0_pay85 (k0_pay32 (k0_pay116 i x0 x1 x2 x3 x4 x5 x6 x7 x8 x9 x10 x11 x12 x13 x14 x15 x16 x17 x18) (View.ld x7 r0_26)) (k0_pay152 i x0 x1 x2 x3 x4 x5 x6 x7 x8 x9 x10 x11 x12 x13 x14 x15 x16 x17 x18) -- `v867`
def k0_pay156 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : IVec S512x128 1 :=
  k0_pay86 -- `v870`
def k0_pay157 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : FVec F S512x128 .bf16 :=
  k0_pay87 (k0_pay155 i x0 x1 x2 x3 x4 x5 x6 x7 x8 x9 x10 x11 x12 x13 x14 x15 x16 x17 x18) (k0_pay156 i x0 x1 x2 x3 x4 x5 x6 x7 x8 x9 x10 x11 x12 x13 x14 x15 x16 x17 x18) 64#32 -- `v875`

/-- Window 19's staging buffer after the body, from the input windows' blocks: its 4 stores as pieces, LAST
    FIRST (Lib/Pipeline/FrameBody.lean `View.canon`; the payloads are the skeleton's and the values stated above). -/
def out0_19 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x512 .bf16 :=
  View.canon [⟨r0_12, k0_pay12 (k0_pay121 i x0 x1 x2 x3 x4 x5 x6 x7 x8 x9 x10 x11 x12 x13 x14 x15 x16 x17 x18)⟩,
    ⟨r0_11, k0_pay11 (k0_pay121 i x0 x1 x2 x3 x4 x5 x6 x7 x8 x9 x10 x11 x12 x13 x14 x15 x16 x17 x18)⟩,
    ⟨r0_10, k0_pay10 (k0_pay9 (k0_pay115 i x0 x1 x2 x3 x4 x5 x6 x7 x8 x9 x10 x11 x12 x13 x14 x15 x16 x17 x18) (k0_pay118 i x0 x1 x2 x3 x4 x5 x6 x7 x8 x9 x10 x11 x12 x13 x14 x15 x16 x17 x18) (k0_pay119 i x0 x1 x2 x3 x4 x5 x6 x7 x8 x9 x10 x11 x12 x13 x14 x15 x16 x17 x18) (k0_pay120 i x0 x1 x2 x3 x4 x5 x6 x7 x8 x9 x10 x11 x12 x13 x14 x15 x16 x17 x18) (View.ld x8 r0_8))⟩,
    ⟨r0_9, k0_pay8 (k0_pay115 i x0 x1 x2 x3 x4 x5 x6 x7 x8 x9 x10 x11 x12 x13 x14 x15 x16 x17 x18) (k0_pay118 i x0 x1 x2 x3 x4 x5 x6 x7 x8 x9 x10 x11 x12 x13 x14 x15 x16 x17 x18) (k0_pay119 i x0 x1 x2 x3 x4 x5 x6 x7 x8 x9 x10 x11 x12 x13 x14 x15 x16 x17 x18) (k0_pay120 i x0 x1 x2 x3 x4 x5 x6 x7 x8 x9 x10 x11 x12 x13 x14 x15 x16 x17 x18) (View.ld x8 r0_8)⟩]

/-- Its stores tile the buffer (checked by evaluation), so they cover it. -/
theorem cover0_19 (p0 : Vec F S1x512x128 .bf16) (p1 : Vec F S1x512x128 .bf16) (p2 : Vec F S1x512x128 .bf16) (p3 : Vec F S1x512x128 .bf16) (y : S1x512x512.Idx) :
    ∃ pc ∈ ([⟨r0_12, p0⟩, ⟨r0_11, p1⟩, ⟨r0_10, p2⟩, ⟨r0_9, p3⟩] : List (View.Piece (Elt F) S1x512x512 .bf16)), y ∈ pc.1.set :=
  View.cover_of_tiled [⟨r0_12, p0⟩, ⟨r0_11, p1⟩, ⟨r0_10, p2⟩, ⟨r0_9, p3⟩] S1x512x128.size (by rfl) y

/-- Window 20's staging buffer after the body, from the input windows' blocks: its 4 stores as pieces, LAST
    FIRST (Lib/Pipeline/FrameBody.lean `View.canon`; the payloads are the skeleton's and the values stated above). -/
def out0_20 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x512 .bf16 :=
  View.canon [⟨r0_12, k0_pay25 (k0_pay129 i x0 x1 x2 x3 x4 x5 x6 x7 x8 x9 x10 x11 x12 x13 x14 x15 x16 x17 x18)⟩,
    ⟨r0_11, k0_pay24 (k0_pay129 i x0 x1 x2 x3 x4 x5 x6 x7 x8 x9 x10 x11 x12 x13 x14 x15 x16 x17 x18)⟩,
    ⟨r0_10, k0_pay23 (k0_pay22 (k0_pay126 i x0 x1 x2 x3 x4 x5 x6 x7 x8 x9 x10 x11 x12 x13 x14 x15 x16 x17 x18) (k0_pay125 i x0 x1 x2 x3 x4 x5 x6 x7 x8 x9 x10 x11 x12 x13 x14 x15 x16 x17 x18) (k0_pay127 i x0 x1 x2 x3 x4 x5 x6 x7 x8 x9 x10 x11 x12 x13 x14 x15 x16 x17 x18) (k0_pay128 i x0 x1 x2 x3 x4 x5 x6 x7 x8 x9 x10 x11 x12 x13 x14 x15 x16 x17 x18) (View.ld x8 r0_18))⟩,
    ⟨r0_9, k0_pay21 (k0_pay126 i x0 x1 x2 x3 x4 x5 x6 x7 x8 x9 x10 x11 x12 x13 x14 x15 x16 x17 x18) (k0_pay125 i x0 x1 x2 x3 x4 x5 x6 x7 x8 x9 x10 x11 x12 x13 x14 x15 x16 x17 x18) (k0_pay127 i x0 x1 x2 x3 x4 x5 x6 x7 x8 x9 x10 x11 x12 x13 x14 x15 x16 x17 x18) (k0_pay128 i x0 x1 x2 x3 x4 x5 x6 x7 x8 x9 x10 x11 x12 x13 x14 x15 x16 x17 x18) (View.ld x8 r0_18)⟩]

/-- Its stores tile the buffer (checked by evaluation), so they cover it. -/
theorem cover0_20 (p0 : Vec F S1x512x128 .bf16) (p1 : Vec F S1x512x128 .bf16) (p2 : Vec F S1x512x128 .bf16) (p3 : Vec F S1x512x128 .bf16) (y : S1x512x512.Idx) :
    ∃ pc ∈ ([⟨r0_12, p0⟩, ⟨r0_11, p1⟩, ⟨r0_10, p2⟩, ⟨r0_9, p3⟩] : List (View.Piece (Elt F) S1x512x512 .bf16)), y ∈ pc.1.set :=
  View.cover_of_tiled [⟨r0_12, p0⟩, ⟨r0_11, p1⟩, ⟨r0_10, p2⟩, ⟨r0_9, p3⟩] S1x512x128.size (by rfl) y

/-- Window 21's staging buffer after the body, from the input windows' blocks: its 1 store as pieces, LAST
    FIRST (Lib/Pipeline/FrameBody.lean `View.canon`; the payloads are the skeleton's and the values stated above). -/
def out0_21 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x512 .bf16 :=
  View.canon [⟨r0_25, k0_pay31 (k0_pay28 (Scalar.cmpi .eq (BitVec.ofNat 32 (i 1).val) 0#32) (Scalar.cmpi .eq (BitVec.ofNat 32 (i 1).val) 3#32) (k0_pay130 i x0 x1 x2 x3 x4 x5 x6 x7 x8 x9 x10 x11 x12 x13 x14 x15 x16 x17 x18) (k0_pay131 i x0 x1 x2 x3 x4 x5 x6 x7 x8 x9 x10 x11 x12 x13 x14 x15 x16 x17 x18) (Scalar.ofBits .f32 0x00000000#32)) (iota .tc S64x8x512 32 [1] iota_S64x8x512_d1_w32) (k0_pay29 (Scalar.cmpi .eq (BitVec.ofNat 32 (i 1).val) 0#32) (Scalar.cmpi .eq (BitVec.ofNat 32 (i 1).val) 3#32) (k0_pay130 i x0 x1 x2 x3 x4 x5 x6 x7 x8 x9 x10 x11 x12 x13 x14 x15 x16 x17 x18) (k0_pay131 i x0 x1 x2 x3 x4 x5 x6 x7 x8 x9 x10 x11 x12 x13 x14 x15 x16 x17 x18) (Scalar.ofBits .f32 0x00000000#32) (View.ld x8 r0_20) (View.ld x8 r0_21) (View.ld x8 r0_22)) (k0_pay30 (Scalar.cmpi .eq (BitVec.ofNat 32 (i 1).val) 0#32) (Scalar.cmpi .eq (BitVec.ofNat 32 (i 1).val) 3#32) (k0_pay130 i x0 x1 x2 x3 x4 x5 x6 x7 x8 x9 x10 x11 x12 x13 x14 x15 x16 x17 x18) (k0_pay131 i x0 x1 x2 x3 x4 x5 x6 x7 x8 x9 x10 x11 x12 x13 x14 x15 x16 x17 x18) (Scalar.ofBits .f32 0x00000000#32)) (View.ld x8 r0_23) (View.ld x8 r0_24)⟩]

/-- Its stores tile the buffer (checked by evaluation), so they cover it. -/
theorem cover0_21 (p0 : Vec F S1x512x512 .bf16) (y : S1x512x512.Idx) :
    ∃ pc ∈ ([⟨r0_25, p0⟩] : List (View.Piece (Elt F) S1x512x512 .bf16)), y ∈ pc.1.set :=
  View.cover_of_tiled [⟨r0_25, p0⟩] S1x512x512.size (by rfl) y

/-- Window 22's staging buffer after the body, from the input windows' blocks: its 1 store as pieces, LAST
    FIRST (Lib/Pipeline/FrameBody.lean `View.canon`; the payloads are the skeleton's and the values stated above). -/
def out0_22 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x128 .f32 :=
  View.canon [⟨r0_28, k0_pay47 (k0_pay132 i x0 x1 x2 x3 x4 x5 x6 x7 x8 x9 x10 x11 x12 x13 x14 x15 x16 x17 x18) (k0_pay133 i x0 x1 x2 x3 x4 x5 x6 x7 x8 x9 x10 x11 x12 x13 x14 x15 x16 x17 x18) (k0_pay138 i x0 x1 x2 x3 x4 x5 x6 x7 x8 x9 x10 x11 x12 x13 x14 x15 x16 x17 x18) (k0_pay139 i x0 x1 x2 x3 x4 x5 x6 x7 x8 x9 x10 x11 x12 x13 x14 x15 x16 x17 x18) (k0_pay140 i x0 x1 x2 x3 x4 x5 x6 x7 x8 x9 x10 x11 x12 x13 x14 x15 x16 x17 x18) (k0_pay141 i x0 x1 x2 x3 x4 x5 x6 x7 x8 x9 x10 x11 x12 x13 x14 x15 x16 x17 x18) (k0_pay142 i x0 x1 x2 x3 x4 x5 x6 x7 x8 x9 x10 x11 x12 x13 x14 x15 x16 x17 x18) (k0_pay143 i x0 x1 x2 x3 x4 x5 x6 x7 x8 x9 x10 x11 x12 x13 x14 x15 x16 x17 x18)⟩]

/-- Its stores tile the buffer (checked by evaluation), so they cover it. -/
theorem cover0_22 (p0 : Vec F S1x512x128 .f32) (y : S1x512x128.Idx) :
    ∃ pc ∈ ([⟨r0_28, p0⟩] : List (View.Piece (Elt F) S1x512x128 .f32)), y ∈ pc.1.set :=
  View.cover_of_tiled [⟨r0_28, p0⟩] S1x512x128.size (by rfl) y

/-- Window 23's staging buffer after the body, from the input windows' blocks: its 1 store as pieces, LAST
    FIRST (Lib/Pipeline/FrameBody.lean `View.canon`; the payloads are the skeleton's and the values stated above). -/
def out0_23 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x512 .bf16 :=
  View.canon [⟨r0_25, k0_pay78 (k0_pay116 i x0 x1 x2 x3 x4 x5 x6 x7 x8 x9 x10 x11 x12 x13 x14 x15 x16 x17 x18) (View.ld x6 r0_45)⟩]

/-- Its stores tile the buffer (checked by evaluation), so they cover it. -/
theorem cover0_23 (p0 : Vec F S1x512x512 .bf16) (y : S1x512x512.Idx) :
    ∃ pc ∈ ([⟨r0_25, p0⟩] : List (View.Piece (Elt F) S1x512x512 .bf16)), y ∈ pc.1.set :=
  View.cover_of_tiled [⟨r0_25, p0⟩] S1x512x512.size (by rfl) y

/-- Window 24's staging buffer after the body, from the input windows' blocks: its 1 store as pieces, LAST
    FIRST (Lib/Pipeline/FrameBody.lean `View.canon`; the payloads are the skeleton's and the values stated above). -/
def out0_24 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x512 .bf16 :=
  View.canon [⟨r0_25, k0_pay79 (k0_pay116 i x0 x1 x2 x3 x4 x5 x6 x7 x8 x9 x10 x11 x12 x13 x14 x15 x16 x17 x18) (View.ld x6 r0_45)⟩]

/-- Its stores tile the buffer (checked by evaluation), so they cover it. -/
theorem cover0_24 (p0 : Vec F S1x512x512 .bf16) (y : S1x512x512.Idx) :
    ∃ pc ∈ ([⟨r0_25, p0⟩] : List (View.Piece (Elt F) S1x512x512 .bf16)), y ∈ pc.1.set :=
  View.cover_of_tiled [⟨r0_25, p0⟩] S1x512x512.size (by rfl) y

/-- Window 25's staging buffer after the body, from the input windows' blocks: its 2 stores as pieces, LAST
    FIRST (Lib/Pipeline/FrameBody.lean `View.canon`; the payloads are the skeleton's and the values stated above). -/
def out0_25 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x1024 .bf16 :=
  View.canon [⟨r0_44, k0_pay76 (k0_pay74 (k0_pay151 i x0 x1 x2 x3 x4 x5 x6 x7 x8 x9 x10 x11 x12 x13 x14 x15 x16 x17 x18) (k0_pay150 i x0 x1 x2 x3 x4 x5 x6 x7 x8 x9 x10 x11 x12 x13 x14 x15 x16 x17 x18) k0_pay71 (k0_pay72 (Scalar.cmpi .eq (BitVec.ofNat 32 (i 1).val) 0#32) (Scalar.cmpi .eq (BitVec.ofNat 32 (i 1).val) 3#32) (k0_pay116 i x0 x1 x2 x3 x4 x5 x6 x7 x8 x9 x10 x11 x12 x13 x14 x15 x16 x17 x18) (View.ld x5 r0_37)) (k0_pay73 (Scalar.cmpi .eq (BitVec.ofNat 32 (i 1).val) 0#32) (Scalar.cmpi .eq (BitVec.ofNat 32 (i 1).val) 3#32) (k0_pay116 i x0 x1 x2 x3 x4 x5 x6 x7 x8 x9 x10 x11 x12 x13 x14 x15 x16 x17 x18) (View.ld x5 r0_37)) (View.ld x11 r0_38) (View.ld x11 r0_39) (View.ld x11 r0_40) (View.ld x11 r0_41)) (k0_pay75 (k0_pay151 i x0 x1 x2 x3 x4 x5 x6 x7 x8 x9 x10 x11 x12 x13 x14 x15 x16 x17 x18) (k0_pay150 i x0 x1 x2 x3 x4 x5 x6 x7 x8 x9 x10 x11 x12 x13 x14 x15 x16 x17 x18)) (View.ld x11 r0_42) (View.ld x12 r0_43)⟩,
    ⟨r0_36, k0_pay53 (k0_pay146 i x0 x1 x2 x3 x4 x5 x6 x7 x8 x9 x10 x11 x12 x13 x14 x15 x16 x17 x18) (k0_pay145 i x0 x1 x2 x3 x4 x5 x6 x7 x8 x9 x10 x11 x12 x13 x14 x15 x16 x17 x18) (k0_pay147 i x0 x1 x2 x3 x4 x5 x6 x7 x8 x9 x10 x11 x12 x13 x14 x15 x16 x17 x18) (k0_pay148 i x0 x1 x2 x3 x4 x5 x6 x7 x8 x9 x10 x11 x12 x13 x14 x15 x16 x17 x18) (View.ld x11 r0_33) (View.ld x11 r0_34) (View.ld x12 r0_35)⟩]

/-- Its stores tile the buffer (checked by evaluation), so they cover it. -/
theorem cover0_25 (p0 : Vec F S1x512x512 .bf16) (p1 : Vec F S1x512x512 .bf16) (y : S1x512x1024.Idx) :
    ∃ pc ∈ ([⟨r0_44, p0⟩, ⟨r0_36, p1⟩] : List (View.Piece (Elt F) S1x512x1024 .bf16)), y ∈ pc.1.set :=
  View.cover_of_tiled [⟨r0_44, p0⟩, ⟨r0_36, p1⟩] S1x512x512.size (by rfl) y

/-- Window 26's staging buffer after the body, from the input windows' blocks: its 1 store as pieces, LAST
    FIRST (Lib/Pipeline/FrameBody.lean `View.canon`; the payloads are the skeleton's and the values stated above). -/
def out0_26 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x128 .f32 :=
  View.canon [⟨r0_28, k0_pay48 (k0_pay134 i x0 x1 x2 x3 x4 x5 x6 x7 x8 x9 x10 x11 x12 x13 x14 x15 x16 x17 x18) (k0_pay138 i x0 x1 x2 x3 x4 x5 x6 x7 x8 x9 x10 x11 x12 x13 x14 x15 x16 x17 x18) (k0_pay139 i x0 x1 x2 x3 x4 x5 x6 x7 x8 x9 x10 x11 x12 x13 x14 x15 x16 x17 x18) (k0_pay140 i x0 x1 x2 x3 x4 x5 x6 x7 x8 x9 x10 x11 x12 x13 x14 x15 x16 x17 x18) (k0_pay141 i x0 x1 x2 x3 x4 x5 x6 x7 x8 x9 x10 x11 x12 x13 x14 x15 x16 x17 x18) (k0_pay142 i x0 x1 x2 x3 x4 x5 x6 x7 x8 x9 x10 x11 x12 x13 x14 x15 x16 x17 x18) (k0_pay143 i x0 x1 x2 x3 x4 x5 x6 x7 x8 x9 x10 x11 x12 x13 x14 x15 x16 x17 x18)⟩]

/-- Its stores tile the buffer (checked by evaluation), so they cover it. -/
theorem cover0_26 (p0 : Vec F S1x512x128 .f32) (y : S1x512x128.Idx) :
    ∃ pc ∈ ([⟨r0_28, p0⟩] : List (View.Piece (Elt F) S1x512x128 .f32)), y ∈ pc.1.set :=
  View.cover_of_tiled [⟨r0_28, p0⟩] S1x512x128.size (by rfl) y

/-- Window 27's staging buffer after the body, from the input windows' blocks: its 1 store as pieces, LAST
    FIRST (Lib/Pipeline/FrameBody.lean `View.canon`; the payloads are the skeleton's and the values stated above). -/
def out0_27 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x512 .bf16 :=
  View.canon [⟨r0_25, k0_pay57 (k0_pay136 i x0 x1 x2 x3 x4 x5 x6 x7 x8 x9 x10 x11 x12 x13 x14 x15 x16 x17 x18) (k0_pay149 i x0 x1 x2 x3 x4 x5 x6 x7 x8 x9 x10 x11 x12 x13 x14 x15 x16 x17 x18) k0_pay54 (k0_pay55 (k0_pay136 i x0 x1 x2 x3 x4 x5 x6 x7 x8 x9 x10 x11 x12 x13 x14 x15 x16 x17 x18)) (k0_pay56 (k0_pay136 i x0 x1 x2 x3 x4 x5 x6 x7 x8 x9 x10 x11 x12 x13 x14 x15 x16 x17 x18))⟩]

/-- Its stores tile the buffer (checked by evaluation), so they cover it. -/
theorem cover0_27 (p0 : Vec F S1x512x512 .bf16) (y : S1x512x512.Idx) :
    ∃ pc ∈ ([⟨r0_25, p0⟩] : List (View.Piece (Elt F) S1x512x512 .bf16)), y ∈ pc.1.set :=
  View.cover_of_tiled [⟨r0_25, p0⟩] S1x512x512.size (by rfl) y

/-- Window 28's staging buffer after the body, from the input windows' blocks: its 1 store as pieces, LAST
    FIRST (Lib/Pipeline/FrameBody.lean `View.canon`; the payloads are the skeleton's and the values stated above). -/
def out0_28 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x512 .bf16 :=
  View.canon [⟨r0_25, k0_pay65 (k0_pay136 i x0 x1 x2 x3 x4 x5 x6 x7 x8 x9 x10 x11 x12 x13 x14 x15 x16 x17 x18) (k0_pay149 i x0 x1 x2 x3 x4 x5 x6 x7 x8 x9 x10 x11 x12 x13 x14 x15 x16 x17 x18)⟩]

/-- Its stores tile the buffer (checked by evaluation), so they cover it. -/
theorem cover0_28 (p0 : Vec F S1x512x512 .bf16) (y : S1x512x512.Idx) :
    ∃ pc ∈ ([⟨r0_25, p0⟩] : List (View.Piece (Elt F) S1x512x512 .bf16)), y ∈ pc.1.set :=
  View.cover_of_tiled [⟨r0_25, p0⟩] S1x512x512.size (by rfl) y

/-- Window 29's staging buffer after the body, from the input windows' blocks: its 1 store as pieces, LAST
    FIRST (Lib/Pipeline/FrameBody.lean `View.canon`; the payloads are the skeleton's and the values stated above). -/
def out0_29 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x512 .f32 :=
  View.canon [⟨r0_25, k0_pay64 k0_pay58 (k0_pay59 (k0_pay144 i x0 x1 x2 x3 x4 x5 x6 x7 x8 x9 x10 x11 x12 x13 x14 x15 x16 x17 x18)) (k0_pay60 (k0_pay144 i x0 x1 x2 x3 x4 x5 x6 x7 x8 x9 x10 x11 x12 x13 x14 x15 x16 x17 x18)) (k0_pay61 (k0_pay144 i x0 x1 x2 x3 x4 x5 x6 x7 x8 x9 x10 x11 x12 x13 x14 x15 x16 x17 x18)) (k0_pay62 (k0_pay144 i x0 x1 x2 x3 x4 x5 x6 x7 x8 x9 x10 x11 x12 x13 x14 x15 x16 x17 x18)) (k0_pay63 (k0_pay144 i x0 x1 x2 x3 x4 x5 x6 x7 x8 x9 x10 x11 x12 x13 x14 x15 x16 x17 x18))⟩]

/-- Its stores tile the buffer (checked by evaluation), so they cover it. -/
theorem cover0_29 (p0 : Vec F S1x512x512 .f32) (y : S1x512x512.Idx) :
    ∃ pc ∈ ([⟨r0_25, p0⟩] : List (View.Piece (Elt F) S1x512x512 .f32)), y ∈ pc.1.set :=
  View.cover_of_tiled [⟨r0_25, p0⟩] S1x512x512.size (by rfl) y

/-- Window 30's staging buffer after the body, from the input windows' blocks: its 1 store as pieces, LAST
    FIRST (Lib/Pipeline/FrameBody.lean `View.canon`; the payloads are the skeleton's and the values stated above). -/
def out0_30 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x512x512 .f32 :=
  View.canon [⟨r0_25, k0_pay68 (k0_pay144 i x0 x1 x2 x3 x4 x5 x6 x7 x8 x9 x10 x11 x12 x13 x14 x15 x16 x17 x18) k0_pay66 (k0_pay67 (k0_pay144 i x0 x1 x2 x3 x4 x5 x6 x7 x8 x9 x10 x11 x12 x13 x14 x15 x16 x17 x18))⟩]

/-- Its stores tile the buffer (checked by evaluation), so they cover it. -/
theorem cover0_30 (p0 : Vec F S1x512x512 .f32) (y : S1x512x512.Idx) :
    ∃ pc ∈ ([⟨r0_25, p0⟩] : List (View.Piece (Elt F) S1x512x512 .f32)), y ∈ pc.1.set :=
  View.cover_of_tiled [⟨r0_25, p0⟩] S1x512x512.size (by rfl) y

/-- Window 31's staging buffer after the body, from the input windows' blocks: its 8 stores as pieces, LAST
    FIRST (Lib/Pipeline/FrameBody.lean `View.canon`; the payloads are the skeleton's and the values stated above). -/
def out0_31 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x4x512x256 .bf16 :=
  View.canon [⟨r0_56, k0_pay110 (k0_pay109 (k0_pay152 i x0 x1 x2 x3 x4 x5 x6 x7 x8 x9 x10 x11 x12 x13 x14 x15 x16 x17 x18) (k0_pay153 i x0 x1 x2 x3 x4 x5 x6 x7 x8 x9 x10 x11 x12 x13 x14 x15 x16 x17 x18))⟩,
    ⟨r0_55, k0_pay108 (k0_pay153 i x0 x1 x2 x3 x4 x5 x6 x7 x8 x9 x10 x11 x12 x13 x14 x15 x16 x17 x18)⟩,
    ⟨r0_54, k0_pay102 (k0_pay152 i x0 x1 x2 x3 x4 x5 x6 x7 x8 x9 x10 x11 x12 x13 x14 x15 x16 x17 x18) (k0_pay153 i x0 x1 x2 x3 x4 x5 x6 x7 x8 x9 x10 x11 x12 x13 x14 x15 x16 x17 x18)⟩,
    ⟨r0_53, k0_pay101 (k0_pay153 i x0 x1 x2 x3 x4 x5 x6 x7 x8 x9 x10 x11 x12 x13 x14 x15 x16 x17 x18)⟩,
    ⟨r0_52, k0_pay96 (k0_pay152 i x0 x1 x2 x3 x4 x5 x6 x7 x8 x9 x10 x11 x12 x13 x14 x15 x16 x17 x18) (k0_pay153 i x0 x1 x2 x3 x4 x5 x6 x7 x8 x9 x10 x11 x12 x13 x14 x15 x16 x17 x18)⟩,
    ⟨r0_51, k0_pay95 (k0_pay153 i x0 x1 x2 x3 x4 x5 x6 x7 x8 x9 x10 x11 x12 x13 x14 x15 x16 x17 x18)⟩,
    ⟨r0_50, k0_pay89 (k0_pay152 i x0 x1 x2 x3 x4 x5 x6 x7 x8 x9 x10 x11 x12 x13 x14 x15 x16 x17 x18) (k0_pay153 i x0 x1 x2 x3 x4 x5 x6 x7 x8 x9 x10 x11 x12 x13 x14 x15 x16 x17 x18)⟩,
    ⟨r0_49, k0_pay88 (k0_pay153 i x0 x1 x2 x3 x4 x5 x6 x7 x8 x9 x10 x11 x12 x13 x14 x15 x16 x17 x18)⟩]

/-- Its stores tile the buffer (checked by evaluation), so they cover it. -/
theorem cover0_31 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x4x512x256.Idx) :
    ∃ pc ∈ ([⟨r0_56, p0⟩, ⟨r0_55, p1⟩, ⟨r0_54, p2⟩, ⟨r0_53, p3⟩, ⟨r0_52, p4⟩, ⟨r0_51, p5⟩, ⟨r0_50, p6⟩, ⟨r0_49, p7⟩] : List (View.Piece (Elt F) S1x4x512x256 .bf16)), y ∈ pc.1.set :=
  View.cover_of_tiled [⟨r0_56, p0⟩, ⟨r0_55, p1⟩, ⟨r0_54, p2⟩, ⟨r0_53, p3⟩, ⟨r0_52, p4⟩, ⟨r0_51, p5⟩, ⟨r0_50, p6⟩, ⟨r0_49, p7⟩] S1x1x512x128.size (by rfl) y

/-- Window 32's staging buffer after the body, from the input windows' blocks: its 8 stores as pieces, LAST
    FIRST (Lib/Pipeline/FrameBody.lean `View.canon`; the payloads are the skeleton's and the values stated above). -/
def out0_32 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x4x512x256 .bf16 :=
  View.canon [⟨r0_56, k0_pay112 (k0_pay157 i x0 x1 x2 x3 x4 x5 x6 x7 x8 x9 x10 x11 x12 x13 x14 x15 x16 x17 x18)⟩,
    ⟨r0_55, k0_pay111 (k0_pay154 i x0 x1 x2 x3 x4 x5 x6 x7 x8 x9 x10 x11 x12 x13 x14 x15 x16 x17 x18)⟩,
    ⟨r0_54, k0_pay105 (k0_pay157 i x0 x1 x2 x3 x4 x5 x6 x7 x8 x9 x10 x11 x12 x13 x14 x15 x16 x17 x18)⟩,
    ⟨r0_53, k0_pay104 (k0_pay103 (k0_pay154 i x0 x1 x2 x3 x4 x5 x6 x7 x8 x9 x10 x11 x12 x13 x14 x15 x16 x17 x18))⟩,
    ⟨r0_52, k0_pay98 (k0_pay157 i x0 x1 x2 x3 x4 x5 x6 x7 x8 x9 x10 x11 x12 x13 x14 x15 x16 x17 x18)⟩,
    ⟨r0_51, k0_pay97 (k0_pay154 i x0 x1 x2 x3 x4 x5 x6 x7 x8 x9 x10 x11 x12 x13 x14 x15 x16 x17 x18)⟩,
    ⟨r0_50, k0_pay91 (k0_pay155 i x0 x1 x2 x3 x4 x5 x6 x7 x8 x9 x10 x11 x12 x13 x14 x15 x16 x17 x18) (k0_pay156 i x0 x1 x2 x3 x4 x5 x6 x7 x8 x9 x10 x11 x12 x13 x14 x15 x16 x17 x18) 64#32⟩,
    ⟨r0_49, k0_pay90 (k0_pay154 i x0 x1 x2 x3 x4 x5 x6 x7 x8 x9 x10 x11 x12 x13 x14 x15 x16 x17 x18)⟩]

/-- Its stores tile the buffer (checked by evaluation), so they cover it. -/
theorem cover0_32 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x4x512x256.Idx) :
    ∃ pc ∈ ([⟨r0_56, p0⟩, ⟨r0_55, p1⟩, ⟨r0_54, p2⟩, ⟨r0_53, p3⟩, ⟨r0_52, p4⟩, ⟨r0_51, p5⟩, ⟨r0_50, p6⟩, ⟨r0_49, p7⟩] : List (View.Piece (Elt F) S1x4x512x256 .bf16)), y ∈ pc.1.set :=
  View.cover_of_tiled [⟨r0_56, p0⟩, ⟨r0_55, p1⟩, ⟨r0_54, p2⟩, ⟨r0_53, p3⟩, ⟨r0_52, p4⟩, ⟨r0_51, p5⟩, ⟨r0_50, p6⟩, ⟨r0_49, p7⟩] S1x1x512x128.size (by rfl) y

/-- Window 33's staging buffer after the body, from the input windows' blocks: its 8 stores as pieces, LAST
    FIRST (Lib/Pipeline/FrameBody.lean `View.canon`; the payloads are the skeleton's and the values stated above). -/
def out0_33 (i : grid0.Coords) (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) : Vec F S1x4x512x256 .bf16 :=
  View.canon [⟨r0_56, k0_pay1 (k0_pay114 (F := F))⟩,
    ⟨r0_55, k0_pay113 (k0_pay154 i x0 x1 x2 x3 x4 x5 x6 x7 x8 x9 x10 x11 x12 x13 x14 x15 x16 x17 x18)⟩,
    ⟨r0_54, k0_pay107 (F := F)⟩,
    ⟨r0_53, k0_pay106 (k0_pay154 i x0 x1 x2 x3 x4 x5 x6 x7 x8 x9 x10 x11 x12 x13 x14 x15 x16 x17 x18)⟩,
    ⟨r0_52, k0_pay100 (F := F)⟩,
    ⟨r0_51, k0_pay99 (k0_pay154 i x0 x1 x2 x3 x4 x5 x6 x7 x8 x9 x10 x11 x12 x13 x14 x15 x16 x17 x18)⟩,
    ⟨r0_50, k0_pay94 (F := F)⟩,
    ⟨r0_49, k0_pay93 (k0_pay92 (k0_pay154 i x0 x1 x2 x3 x4 x5 x6 x7 x8 x9 x10 x11 x12 x13 x14 x15 x16 x17 x18))⟩]

/-- Its stores tile the buffer (checked by evaluation), so they cover it. -/
theorem cover0_33 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x4x512x256.Idx) :
    ∃ pc ∈ ([⟨r0_56, p0⟩, ⟨r0_55, p1⟩, ⟨r0_54, p2⟩, ⟨r0_53, p3⟩, ⟨r0_52, p4⟩, ⟨r0_51, p5⟩, ⟨r0_50, p6⟩, ⟨r0_49, p7⟩] : List (View.Piece (Elt F) S1x4x512x256 .bf16)), y ∈ pc.1.set :=
  View.cover_of_tiled [⟨r0_56, p0⟩, ⟨r0_55, p1⟩, ⟨r0_54, p2⟩, ⟨r0_53, p3⟩, ⟨r0_52, p4⟩, ⟨r0_51, p5⟩, ⟨r0_50, p6⟩, ⟨r0_49, p7⟩] S1x1x512x128.size (by rfl) y

/-! ## The body's triple -/

end Cert.MixIdeal.Gen

end
-- ==== Proof.MixBlock.lean ====
/-
  What one block of the input call computes of the two gating columns and of the values, at one row and one column: the rows before and
  after the block, which the convolutions need, do not enter.
-/
module

public import proofs.«01_k».proof.Proof.MixRef
public import proofs.«01_k».proof.Proof.MixWindows
public import Idealize.ShloMosaic.Lib.Pipeline.ValueKit
public import Idealize.ShloMosaic.Lib.Pointwise
public import Idealize.ShloMosaic.Lib.Tactic

@[expose] public section

set_option maxRecDepth 16384

noncomputable section

namespace Cert.MixBlock

open Cert.MixIdeal Cert.MixIdeal.Gen Idealize.ShloMosaic Idealize.SL.Sem Cert.RowSums Cert.Rows Cert.MixRef

variable (p : FVec Ideal S1x8x1024 .f32) (x : FVec Ideal S1x512x1024 .f32) (n : FVec Ideal S1x8x1024 .f32) (g : FVec Ideal S1x1024 .f32)
  (w : FVec Ideal S1024x1536 .bf16)

/-- The block's rows with the eight before and the eight after. -/
def rows : FVec Ideal S528x1024 .f32 :=
  concatenate S528x1024 0 [⟨S8x1024, shapeCast S8x1024 p shapeCasts_S1x8x1024_S8x1024⟩, ⟨S512x1024, shapeCast S512x1024 x shapeCasts_S1x512x1024_S512x1024⟩,
    ⟨S8x1024, shapeCast S8x1024 n shapeCasts_S1x8x1024_S8x1024⟩] concatenates_S8x1024_S512x1024_S8x1024_S528x1024_d0

/-- The norm of each of those rows. -/
def normAll (v : FVec Ideal S528x1024 .f32) : FVec Ideal S528x1024 .bf16 :=
  truncf .bf16 (mulf (mulf v (broadcastTo S528x1024 (rsqrt (addf (divf (shapeCast S528x1 (multiReduction .add [1] S528 (mulf v v) 0x00000000#32
      reduces_S528x1024_S528 (.inl rfl) rfl) shapeCasts_S528_S528x1) (broadcast S528x1 (Scalar.ofBits .f32 0x44800000#32)))
      (broadcast S528x1 (Scalar.ofBits .f32 0x358637BD#32)))) broadcasts_S528x1_S528x1024))
    (broadcastTo S528x1024 (shapeCast S1x1024 g shapeCasts_S1x1024_S1x1024) broadcasts_S1x1024_S528x1024)) bitsLt_bf16_f32

theorem pay2_eq : k0_pay2 (F := Ideal) p x n g = normAll g (rows p x n) := rfl

theorem normAll_apply (v : FVec Ideal S528x1024 .f32) (r : Fin 528) (l : Fin 1024) :
    normAll g v (ix2 r l) = normed n1024 (fun l => v (ix2 r l)) (fun l => g (ix2 0 l)) l := by
  pointwise [normAll]
  rfl

/-- Past the first eight rows come the block's own. -/
theorem rows_apply (r : Fin 512) (l : Fin 1024) : rows p x n (ix2 ⟨8 + r.val, by omega⟩ l) = x (ix3 0 r l) := by
  pointwise [rows]

theorem u_apply (r : Fin 512) (l : Fin 1024) :
    k0_pay2 (F := Ideal) p x n g (ix2 ⟨8 + r.val, by omega⟩ l) = normed n1024 (fun l => x (ix3 0 r l)) (fun l => g (ix2 0 l)) l := by
  rw [pay2_eq, normAll_apply]
  exact normed_congr (rows_apply p x n r) (fun _ => rfl) _ _

theorem rest_apply (u : FVec Ideal S528x1024 .bf16) (r : Fin 512) (j : Fin 1536) :
    k0_pay77 (F := Ideal) u w (ix2 r j) = ∑ l : Fin 1024, u (ix2 ⟨8 + r.val, by omega⟩ l) * w (ix2 l j) := by
  pointwise [k0_pay77]

theorem rest_proj (r : Fin 512) (j : Fin 1536) :
    k0_pay77 (F := Ideal) (k0_pay2 (F := Ideal) p x n g) w (ix2 r j)
      = proj (fun l => x (ix3 0 r l)) (fun l => g (ix2 0 l)) (fun l j => w (ix2 l j)) j := by
  rw [rest_apply]
  exact Finset.sum_congr rfl fun l _ => congrArg (fun a : EReal => a * w (ix2 l j)) (u_apply p x n g r l)

/-- The first stored block. -/
def bodyA : FVec Ideal S1x512x512 .bf16 := k0_pay78 (k0_pay2 (F := Ideal) p x n g) w

/-- The second stored block. -/
def bodyB : FVec Ideal S1x512x512 .bf16 := k0_pay79 (k0_pay2 (F := Ideal) p x n g) w

theorem bodyA_apply (r : Fin 512) (j : Fin 512) :
    bodyA p x n g w (ix3 0 r j) = proj (fun l => x (ix3 0 r l)) (fun l => g (ix2 0 l)) (fun l j => w (ix2 l j)) ⟨j.val, by omega⟩ := by
  refine Eq.trans (b := k0_pay77 (F := Ideal) (k0_pay2 (F := Ideal) p x n g) w (ix2 r ⟨j.val, by omega⟩)) ?_ (rest_proj p x n g w r _)
  unfold bodyA
  generalize k0_pay2 (F := Ideal) p x n g = u
  unfold k0_pay78
  generalize k0_pay77 (F := Ideal) u w = v
  pointwise

theorem bodyB_apply (r : Fin 512) (j : Fin 512) :
    bodyB p x n g w (ix3 0 r j) = proj (fun l => x (ix3 0 r l)) (fun l => g (ix2 0 l)) (fun l j => w (ix2 l j)) ⟨512 + j.val, by omega⟩ := by
  refine Eq.trans (b := k0_pay77 (F := Ideal) (k0_pay2 (F := Ideal) p x n g) w (ix2 r ⟨512 + j.val, by omega⟩)) ?_ (rest_proj p x n g w r _)
  unfold bodyB
  generalize k0_pay2 (F := Ideal) p x n g = u
  unfold k0_pay79
  generalize k0_pay77 (F := Ideal) u w = v
  pointwise

variable (gk : FVec Ideal S1x256 .f32) (wk : FVec Ideal S256x1024 .bf16)

/-- The keys' first parts and the values of a block's rows. -/
def bodyK : FVec Ideal S512x1024 .f32 := k0_pay84 (k0_pay80 (F := Ideal) (k0_pay2 (F := Ideal) p x n g) w) gk wk

theorem lift_apply (y : FVec Ideal S512x512 .f32) (r : Fin 512) (j : Fin 1024) :
    k0_pay84 (F := Ideal) y gk wk (ix2 r j)
      = lift (fun l => y (ix2 r ⟨256 + l.val, by omega⟩)) (fun l => gk (ix2 0 l)) (fun l j => wk (ix2 l j)) j := by
  pointwise [k0_pay84]
  rfl

theorem latent_apply (r : Fin 512) (l : Fin 256) :
    k0_pay80 (F := Ideal) (k0_pay2 (F := Ideal) p x n g) w (ix2 r ⟨256 + l.val, by omega⟩)
      = proj (fun l => x (ix3 0 r l)) (fun l => g (ix2 0 l)) (fun l j => w (ix2 l j)) ⟨1280 + l.val, by omega⟩ := by
  refine Eq.trans (b := k0_pay77 (F := Ideal) (k0_pay2 (F := Ideal) p x n g) w (ix2 r ⟨1280 + l.val, by omega⟩)) ?_ (rest_proj p x n g w r _)
  generalize k0_pay2 (F := Ideal) p x n g = u
  unfold k0_pay80
  generalize k0_pay77 (F := Ideal) u w = v
  pointwise
  refine congrArg (fun k : Fin 1536 => v (ix2 r k)) (Fin.ext ?_)
  show 1024 + (256 + l.val) = 1280 + l.val
  omega

theorem bodyK_apply (r : Fin 512) (j : Fin 1024) :
    bodyK p x n g w gk wk (ix2 r j)
      = lift (fun l => proj (fun l => x (ix3 0 r l)) (fun l => g (ix2 0 l)) (fun l j => w (ix2 l j)) ⟨1280 + l.val, by omega⟩)
          (fun l => gk (ix2 0 l)) (fun l j => wk (ix2 l j)) j :=
  (lift_apply gk wk _ r j).trans (lift_congr (latent_apply p x n g w r) (fun _ => rfl) (fun _ _ => rfl) rfl)

section
variable (y : FVec Ideal S512x1024 .f32) (r : Fin 512) (d : Fin 128)

theorem head0 : k0_pay93 (F := Ideal) (k0_pay92 y) (ix4 0 0 r d) = y (ix2 r ⟨128 + d.val, by omega⟩) := by
  pointwise [k0_pay93, k0_pay92]
theorem head1 : k0_pay99 (F := Ideal) y (ix4 0 0 r d) = y (ix2 r ⟨384 + d.val, by omega⟩) := by
  pointwise [k0_pay99]
theorem head2 : k0_pay106 (F := Ideal) y (ix4 0 0 r d) = y (ix2 r ⟨640 + d.val, by omega⟩) := by
  pointwise [k0_pay106]
theorem head3 : k0_pay113 (F := Ideal) y (ix4 0 0 r d) = y (ix2 r ⟨896 + d.val, by omega⟩) := by
  pointwise [k0_pay113]
theorem ones0 : k0_pay94 (F := Ideal) (ix4 0 0 r d) = (1 : EReal) := by
  pointwise [k0_pay94]
theorem ones1 : k0_pay100 (F := Ideal) (ix4 0 0 r d) = (1 : EReal) := by
  pointwise [k0_pay100]
theorem ones2 : k0_pay107 (F := Ideal) (ix4 0 0 r d) = (1 : EReal) := by
  pointwise [k0_pay107]
theorem ones3 : k0_pay1 (F := Ideal) k0_pay114 (ix4 0 0 r d) = (1 : EReal) := by
  pointwise [k0_pay1, k0_pay114]
end

end Cert.MixBlock

end
-- ==== Proof.MixHost.lean ====
/-
  What the host code prepares for the input call's gating columns and values: the gains as rows, and the columns of the
  weights that the call multiplies by without a convolution.
-/
module

public import proofs.«01_k».proof.Proof.MixWindows
public import Idealize.ShloMosaic.Lib.Pipeline.ValueKit
public import Idealize.ShloMosaic.Lib.Pointwise
public import Idealize.ShloMosaic.Lib.StableHlo.RunRead

@[expose] public section

set_option maxRecDepth 16384

noncomputable section

namespace Cert.MixHost

open Cert.MixIdeal Cert.MixIdeal.Gen Idealize.ShloMosaic Idealize.ShloMosaic.TcCoe Idealize.SL.Sem

variable (m : (ℓ : Loc nD τ sig) → Buf (Elt Ideal) ℓ) (c : Dev nD) (g : FVec Ideal S1024 .f32) (w : FVec Ideal S1024x4192 .f32)

/-- A gain as a row. -/
def G : FVec Ideal S1x1024 .f32 := shapeCast _ g shapeCasts_S1024_S1x1024

/-- The gating and the latent columns of the weights, side by side. -/
def W : FVec Ideal S1024x1536 .bf16 :=
  truncf .bf16 (concatenate S1024x1536 1 [⟨S1024x512, extractStridedSlice S1024x512 ![0, 1536] w slices_S1024x4192_S1024x512_0_1536⟩,
    ⟨S1024x512, extractStridedSlice S1024x512 ![0, 2064] w slices_S1024x4192_S1024x512_0_2064⟩,
    ⟨S1024x256, extractStridedSlice S1024x256 ![0, 3616] w slices_S1024x4192_S1024x256_0_3616⟩,
    ⟨S1024x256, extractStridedSlice S1024x256 ![0, 3872] w slices_S1024x4192_S1024x256_0_3872⟩]
    concatenates_S1024x512_S1024x512_S1024x256_S1024x256_S1024x1536_d1 : FVec Ideal S1024x1536 .f32) bitsLt_bf16_f32

theorem V_h : V m c main_arg0 = m ((c : Thread nD τ).loc main_arg0) := V_main_arg0 m c
theorem V_g : V m c main_v25 = G (m ((c : Thread nD τ).loc main_arg1)) := by entry_read; rfl
set_option maxHeartbeats 4000000 in
theorem V_w : V m c main_v27 = W (m ((c : Thread nD τ).loc main_arg2)) := by
  show StableHlo.after hostOps0 (fun b => m (c, b)) (Proc.devRef .tc main_v27) = _
  after_reads_simp
  rfl

/-- The latent rows' gain as a row. -/
def K (gk : FVec Ideal S256 .f32) : FVec Ideal S1x256 .f32 := shapeCast _ gk shapeCasts_S256_S1x256

/-- The weights of the keys and values. -/
def U (wk : FVec Ideal S256x1024 .f32) : FVec Ideal S256x1024 .bf16 := truncf .bf16 wk bitsLt_bf16_f32

set_option maxHeartbeats 4000000 in
theorem V_k : V m c main_v59 = K (m ((c : Thread nD τ).loc main_arg12)) := by
  show StableHlo.after hostOps0 (fun b => m (c, b)) (Proc.devRef .tc main_v59) = _
  after_reads_simp
  rfl
set_option maxHeartbeats 4000000 in
theorem V_u : V m c main_v61 = U (m ((c : Thread nD τ).loc main_arg13)) := by
  show StableHlo.after hostOps0 (fun b => m (c, b)) (Proc.devRef .tc main_v61) = _
  after_reads_simp
  rfl

theorem K_apply (gk : FVec Ideal S256 .f32) (l : Fin 256) : K gk (ix2 0 l) = gk (ix1 l) := by
  pointwise [K]

theorem U_apply (wk : FVec Ideal S256x1024 .f32) (l : Fin 256) (j : Fin 1024) : U wk (ix2 l j) = wk (ix2 l j) := by
  pointwise [U]

theorem G_apply (l : Fin 1024) : G g (ix2 0 l) = g (ix1 l) := by
  pointwise [G]

theorem W_a (l : Fin 1024) (j : Fin 512) : W w (ix2 l ⟨j.val, by omega⟩) = w (ix2 l ⟨1536 + j.val, by omega⟩) := by
  pointwise [W]

theorem W_b (l : Fin 1024) (j : Fin 512) : W w (ix2 l ⟨512 + j.val, by omega⟩) = w (ix2 l ⟨2064 + j.val, by omega⟩) := by
  pointwise [W]

theorem W_c (l : Fin 1024) (j : Fin 256) : W w (ix2 l ⟨1280 + j.val, by omega⟩) = w (ix2 l ⟨3872 + j.val, by omega⟩) := by
  pointwise [W]
  rw [dif_neg (by omega), dif_neg (by omega), dif_neg (by omega)]
  refine congrArg (fun k : Fin 4192 => w (ix2 l k)) (Fin.ext ?_)
  show 3872 + (1280 + j.val - 512 - 512 - 256) = 3872 + j.val
  omega

end Cert.MixHost

end
-- ==== Proof.MixBody.lean ====
/-
  The input call's body: it runs from its windows' blocks, and leaves each output's buffer as stated.
-/
module

public import proofs.«01_k».proof.Proof.MixWindows

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1389450 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1024x2560 .bf16) (harg7 : arg7.IsWhole) (arg8 : Memref sig .tc .vmem S1024x1536 .bf16) (harg8 : arg8.IsWhole) (arg9 : Memref sig .tc .vmem S1024x256 .bf16) (harg9 : arg9.IsWhole) (arg10 : Memref sig .tc .vmem S8x1536 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S8x1024 .f32) (harg13 : arg13.IsWhole) (arg14 : Memref sig .tc .vmem S1x1024 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S1x512x512 .bf16) (harg21 : arg21.IsWhole) (arg22 : Memref sig .tc .vmem S1x512x512 .bf16) (harg22 : arg22.IsWhole) (arg23 : Memref sig .tc .vmem S1x512x512 .bf16) (harg23 : arg23.IsWhole) (arg24 : Memref sig .tc .vmem S1x512x128 .f32) (harg24 : arg24.IsWhole) (arg25 : Memref sig .tc .vmem S1x512x512 .bf16) (harg25 : arg25.IsWhole) (arg26 : Memref sig .tc .vmem S1x512x512 .bf16) (harg26 : arg26.IsWhole) (arg27 : Memref sig .tc .vmem S1x512x1024 .bf16) (harg27 : arg27.IsWhole) (arg28 : Memref sig .tc .vmem S1x512x128 .f32) (harg28 : arg28.IsWhole) (arg29 : Memref sig .tc .vmem S1x512x512 .bf16) (harg29 : arg29.IsWhole) (arg30 : Memref sig .tc .vmem S1x512x512 .bf16) (harg30 : arg30.IsWhole) (arg31 : Memref sig .tc .vmem S1x512x512 .f32) (harg31 : arg31.IsWhole) (arg32 : Memref sig .tc .vmem S1x512x512 .f32) (harg32 : arg32.IsWhole) (arg33 : Memref sig .tc .vmem S1x4x512x256 .bf16) (harg33 : arg33.IsWhole) (arg34 : Memref sig .tc .vmem S1x4x512x256 .bf16) (harg34 : arg34.IsWhole) (arg35 : Memref sig .tc .vmem S1x4x512x256 .bf16) (harg35 : arg35.IsWhole)
    (x0 : Vec F S1x512x1024 .f32) (x1 : Vec F S1x8x1024 .f32) (x2 : Vec F S1x8x1024 .f32) (x3 : Vec F S512x128 .f32) (x4 : Vec F S1x1024 .f32) (x5 : Vec F S1024x2560 .bf16) (x6 : Vec F S1024x1536 .bf16) (x7 : Vec F S1024x256 .bf16) (x8 : Vec F S8x1536 .f32) (x9 : Vec F S1x128 .f32) (x10 : Vec F S1x128 .f32) (x11 : Vec F S8x1024 .f32) (x12 : Vec F S1x1024 .f32) (x13 : Vec F S1x128 .f32) (x14 : Vec F S1x128 .f32) (x15 : Vec F S1x256 .f32) (x16 : Vec F S1x256 .f32) (x17 : Vec F S256x1024 .bf16) (x18 : Vec F S256x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare (out0_19 i x0 x1 x2 x3 x4 x5 x6 x7 x8 x9 x10 x11 x12 x13 x14 x15 x16 x17 x18) ∗ owns (c : Thread nD τ) arg22 fullShare (out0_20 i x0 x1 x2 x3 x4 x5 x6 x7 x8 x9 x10 x11 x12 x13 x14 x15 x16 x17 x18) ∗ owns (c : Thread nD τ) arg23 fullShare (out0_21 i x0 x1 x2 x3 x4 x5 x6 x7 x8 x9 x10 x11 x12 x13 x14 x15 x16 x17 x18) ∗ owns (c : Thread nD τ) arg24 fullShare (out0_22 i x0 x1 x2 x3 x4 x5 x6 x7 x8 x9 x10 x11 x12 x13 x14 x15 x16 x17 x18) ∗ owns (c : Thread nD τ) arg25 fullShare (out0_23 i x0 x1 x2 x3 x4 x5 x6 x7 x8 x9 x10 x11 x12 x13 x14 x15 x16 x17 x18) ∗ owns (c : Thread nD τ) arg26 fullShare (out0_24 i x0 x1 x2 x3 x4 x5 x6 x7 x8 x9 x10 x11 x12 x13 x14 x15 x16 x17 x18) ∗ owns (c : Thread nD τ) arg27 fullShare (out0_25 i x0 x1 x2 x3 x4 x5 x6 x7 x8 x9 x10 x11 x12 x13 x14 x15 x16 x17 x18) ∗ owns (c : Thread nD τ) arg28 fullShare (out0_26 i x0 x1 x2 x3 x4 x5 x6 x7 x8 x9 x10 x11 x12 x13 x14 x15 x16 x17 x18) ∗ owns (c : Thread nD τ) arg29 fullShare (out0_27 i x0 x1 x2 x3 x4 x5 x6 x7 x8 x9 x10 x11 x12 x13 x14 x15 x16 x17 x18) ∗ owns (c : Thread nD τ) arg30 fullShare (out0_28 i x0 x1 x2 x3 x4 x5 x6 x7 x8 x9 x10 x11 x12 x13 x14 x15 x16 x17 x18) ∗ owns (c : Thread nD τ) arg31 fullShare (out0_29 i x0 x1 x2 x3 x4 x5 x6 x7 x8 x9 x10 x11 x12 x13 x14 x15 x16 x17 x18) ∗ owns (c : Thread nD τ) arg32 fullShare (out0_30 i x0 x1 x2 x3 x4 x5 x6 x7 x8 x9 x10 x11 x12 x13 x14 x15 x16 x17 x18) ∗ owns (c : Thread nD τ) arg33 fullShare (out0_31 i x0 x1 x2 x3 x4 x5 x6 x7 x8 x9 x10 x11 x12 x13 x14 x15 x16 x17 x18) ∗ owns (c : Thread nD τ) arg34 fullShare (out0_32 i x0 x1 x2 x3 x4 x5 x6 x7 x8 x9 x10 x11 x12 x13 x14 x15 x16 x17 x18) ∗ owns (c : Thread nD τ) arg35 fullShare (out0_33 i x0 x1 x2 x3 x4 x5 x6 x7 x8 x9 x10 x11 x12 x13 x14 x15 x16 x17 x18)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_mix_eq_skeleton]; unfold cc0_mix_skel
  simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    refine (View.read_writes_eq_canon _ _ _ (cover0_19 _ _ _ _)).trans ?_
    rfl
  isplitl [H20]
  · iexists _; isplitr
    swap; · iexact H20
    ipureintro
    refine (View.read_writes_eq_canon _ _ _ (cover0_20 _ _ _ _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _ _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _ _ _ _ _ _ _ _)).trans ?_
    rfl
  isplitl [H32]
  · iexists _; isplitr
    swap; · iexact H32
    ipureintro
    refine (View.read_writes_eq_canon _ _ _ (cover0_32 _ _ _ _ _ _ _ _)).trans ?_
    rfl
  iexists _; isplitr
  swap; · iexact H33
  ipureintro
  refine (View.read_writes_eq_canon _ _ _ (cover0_33 _ _ _ _ _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨28, _⟩ => out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨29, _⟩ => out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨30, _⟩ => out0_30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨31, _⟩ => out0_31 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨32, _⟩ => out0_32 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨33, _⟩ => out0_33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨_ + 34, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_28 (c : Dev nD) (t : Fin cfg0.N) : (dats m 0 c).after 28 t = out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_29 (c : Dev nD) (t : Fin cfg0.N) : (dats m 0 c).after 29 t = out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_30 (c : Dev nD) (t : Fin cfg0.N) : (dats m 0 c).after 30 t = out0_30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_31 (c : Dev nD) (t : Fin cfg0.N) : (dats m 0 c).after 31 t = out0_31 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_32 (c : Dev nD) (t : Fin cfg0.N) : (dats m 0 c).after 32 t = out0_32 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_33 (c : Dev nD) (t : Fin cfg0.N) : (dats m 0 c).after 33 t = out0_33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

end Cert.MixIdeal.Gen

end
-- ==== Proof.MixRun.lean ====
/-
  The input call's run: every grid point's body, put together.
-/
module

public import proofs.«01_k».proof.Proof.MixBody
public import Idealize.ShloMosaic.Lib.Pipeline.Value

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  iintro ⟨H0, H1, H2, H3, H4, H5, H6, H7, H8, H9, H10, H11, H12, H13, H14, H15, H16, H17, H18, H19, H20, H21, H22, H23, H24, H25, H26, H27, H28, H29, H30, H31, H32, H33⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: `Cert.quiescent_MixIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

set_option maxHeartbeats 4000000 in
/-- After the run the two arrays of gating columns and the attention's values are what the grid's points stored, and the arguments are as launched. -/
theorem run_gates : θ_run defs (onTc (τ := τ) (main (F := F))) ⟨m, fun _ => 0, ρ⟩ fun r => ∀ c : Dev nD,
      r.2.mem ((c : Thread nD τ).loc main_v82_4) = (dats m 0 c).arrAt 23 cfg0.N
      ∧ r.2.mem ((c : Thread nD τ).loc main_v82_5) = (dats m 0 c).arrAt 24 cfg0.N
      ∧ r.2.mem ((c : Thread nD τ).loc main_v82_14) = (dats m 0 c).arrAt 33 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h.1 c).1 23, (h.1 c).1 24, (h.1 c).1 33, h.2 c⟩) (θ_run_and (run_main m ρ) (unchanged m ρ))

end Cert.MixIdeal.Gen

end
-- ==== Proof.MixArray.lean ====
/-
  The input call's two arrays of gating columns and its array of values: they are the plain projection's.
-/
module

public import proofs.«01_k».proof.Proof.MixBlock
public import proofs.«01_k».proof.Proof.MixHost
public import proofs.«01_k».proof.Proof.MixRun
public import Idealize.ShloMosaic.Lib.Claim

@[expose] public section

set_option maxRecDepth 16384

noncomputable section

namespace Cert.MixArray

open Cert.MixIdeal Cert.MixIdeal.Gen Idealize.ShloMosaic Idealize.ShloMosaic.TcCoe Idealize.SL.Sem
open Idealize.ShloMosaic.Pipeline (Dat)
open Cert.RowSums Cert.Rows Cert.MixRef Cert.MixHost

/-- The windows' blocks at each grid point. -/
theorem idx : ∀ t : Fin cfg0.N, win0_0.index t = ![t.val / 4, t.val % 4, 0] ∧ win0_4.index t = ![0, 0] ∧ win0_6.index t = ![0, 0]
    ∧ win0_23.index t = ![t.val / 4, t.val % 4, 0] ∧ win0_24.index t = ![t.val / 4, t.val % 4, 0]
    ∧ win0_16.index t = ![0, 0] ∧ win0_18.index t = ![0, 0] ∧ win0_33.index t = ![t.val / 4, 0, t.val % 4, 0] :=
  (by decide +kernel : ∀ t : Fin grid0.N, _)

/-- An index of an output's block, by its row and its column. -/
theorem row_col (y : S1x512x512.Idx) : y = ix3 0 ⟨(y 1).val, (y 1).isLt⟩ ⟨(y 2).val, (y 2).isLt⟩ := by
  idx_vars y
  obtain rfl : y0 = 0 := Subsingleton.elim _ _
  rfl

/-- An index of a stored piece of the values, by its row and its lane. -/
theorem row_lane (y : S1x1x512x128.Idx) : y = ix4 0 0 ⟨(y 2).val, (y 2).isLt⟩ ⟨(y 3).val, (y 3).isLt⟩ := by
  idx_vars y
  obtain rfl : y0 = 0 := Subsingleton.elim _ _
  obtain rfl : y1 = 0 := Subsingleton.elim _ _
  rfl

section
variable (m : (ℓ : Loc nD τ sig) → Buf (Elt Ideal) ℓ) (c : Dev nD)
  (h : FVec Ideal S32x2048x1024 .f32) (g : FVec Ideal S1024 .f32) (w : FVec Ideal S1024x4192 .f32)

/-- What the call stores of the first gating columns, from its windows' blocks. -/
theorem outA_eq (i : grid0.Coords) (x0 : Vec Ideal S1x512x1024 .f32) (x1 : Vec Ideal S1x8x1024 .f32) (x2 : Vec Ideal S1x8x1024 .f32) (x3 : Vec Ideal S512x128 .f32) (x4 : Vec Ideal S1x1024 .f32) (x5 : Vec Ideal S1024x2560 .bf16) (x6 : Vec Ideal S1024x1536 .bf16) (x7 : Vec Ideal S1024x256 .bf16) (x8 : Vec Ideal S8x1536 .f32) (x9 : Vec Ideal S1x128 .f32) (x10 : Vec Ideal S1x128 .f32) (x11 : Vec Ideal S8x1024 .f32) (x12 : Vec Ideal S1x1024 .f32) (x13 : Vec Ideal S1x128 .f32) (x14 : Vec Ideal S1x128 .f32) (x15 : Vec Ideal S1x256 .f32) (x16 : Vec Ideal S1x256 .f32) (x17 : Vec Ideal S256x1024 .bf16) (x18 : Vec Ideal S256x1024 .bf16) :
    out0_23 (F := Ideal) i x0 x1 x2 x3 x4 x5 x6 x7 x8 x9 x10 x11 x12 x13 x14 x15 x16 x17 x18 = MixBlock.bodyA x1 x0 x2 x4 x6 := by
  unfold out0_23 k0_pay116
  frame_out
  rfl

/-- What the call stores of the second gating columns, from its windows' blocks. -/
theorem outB_eq (i : grid0.Coords) (x0 : Vec Ideal S1x512x1024 .f32) (x1 : Vec Ideal S1x8x1024 .f32) (x2 : Vec Ideal S1x8x1024 .f32) (x3 : Vec Ideal S512x128 .f32) (x4 : Vec Ideal S1x1024 .f32) (x5 : Vec Ideal S1024x2560 .bf16) (x6 : Vec Ideal S1024x1536 .bf16) (x7 : Vec Ideal S1024x256 .bf16) (x8 : Vec Ideal S8x1536 .f32) (x9 : Vec Ideal S1x128 .f32) (x10 : Vec Ideal S1x128 .f32) (x11 : Vec Ideal S8x1024 .f32) (x12 : Vec Ideal S1x1024 .f32) (x13 : Vec Ideal S1x128 .f32) (x14 : Vec Ideal S1x128 .f32) (x15 : Vec Ideal S1x256 .f32) (x16 : Vec Ideal S1x256 .f32) (x17 : Vec Ideal S256x1024 .bf16) (x18 : Vec Ideal S256x1024 .bf16) :
    out0_24 (F := Ideal) i x0 x1 x2 x3 x4 x5 x6 x7 x8 x9 x10 x11 x12 x13 x14 x15 x16 x17 x18 = MixBlock.bodyB x1 x0 x2 x4 x6 := by
  unfold out0_24 k0_pay116
  frame_out
  rfl

/-- What the call stores of the values, head by head, from its windows' blocks. -/
theorem outV_eq (i : grid0.Coords) (x0 : Vec Ideal S1x512x1024 .f32) (x1 : Vec Ideal S1x8x1024 .f32) (x2 : Vec Ideal S1x8x1024 .f32) (x3 : Vec Ideal S512x128 .f32) (x4 : Vec Ideal S1x1024 .f32) (x5 : Vec Ideal S1024x2560 .bf16) (x6 : Vec Ideal S1024x1536 .bf16) (x7 : Vec Ideal S1024x256 .bf16) (x8 : Vec Ideal S8x1536 .f32) (x9 : Vec Ideal S1x128 .f32) (x10 : Vec Ideal S1x128 .f32) (x11 : Vec Ideal S8x1024 .f32) (x12 : Vec Ideal S1x1024 .f32) (x13 : Vec Ideal S1x128 .f32) (x14 : Vec Ideal S1x128 .f32) (x15 : Vec Ideal S1x256 .f32) (x16 : Vec Ideal S1x256 .f32) (x17 : Vec Ideal S256x1024 .bf16) (x18 : Vec Ideal S256x1024 .bf16) :
    out0_33 (F := Ideal) i x0 x1 x2 x3 x4 x5 x6 x7 x8 x9 x10 x11 x12 x13 x14 x15 x16 x17 x18 = View.canon [⟨r0_56, k0_pay1 (k0_pay114 (F := Ideal))⟩,
      ⟨r0_55, k0_pay113 (MixBlock.bodyK x1 x0 x2 x4 x6 x16 x18)⟩, ⟨r0_54, k0_pay107 (F := Ideal)⟩,
      ⟨r0_53, k0_pay106 (MixBlock.bodyK x1 x0 x2 x4 x6 x16 x18)⟩, ⟨r0_52, k0_pay100 (F := Ideal)⟩,
      ⟨r0_51, k0_pay99 (MixBlock.bodyK x1 x0 x2 x4 x6 x16 x18)⟩, ⟨r0_50, k0_pay94 (F := Ideal)⟩,
      ⟨r0_49, k0_pay93 (k0_pay92 (MixBlock.bodyK x1 x0 x2 x4 x6 x16 x18))⟩] := by
  unfold out0_33 k0_pay154 k0_pay116
  frame_out
  rfl

set_option maxHeartbeats 4000000 in
/-- The first array after the run. -/
theorem finalA (e0 : m ((c : Thread nD τ).loc main_arg0) = h) (e1 : m ((c : Thread nD τ).loc main_arg1) = g)
    (e2 : m ((c : Thread nD τ).loc main_arg2) = w) : (dats m 0 c).arrAt 23 (cfgs 0).N = ZA h g w := by
  have V0 : V m c main_arg0 = h := by rw [V_h, e0]
  have V1 : V m c main_v25 = G g := by rw [V_g, e1]
  have V2 : V m c main_v27 = W w := by rw [V_w, e2]
  have B0 : iblk m c 0 = fun t => ((cfg0.win 0).blk t).view.read (Elt Ideal) h := by rw [← V0]; rfl
  have B1 : iblk m c 4 = fun t => ((cfg0.win 4).blk t).view.read (Elt Ideal) (G g) := by rw [← V1]; rfl
  have B2 : iblk m c 6 = fun t => ((cfg0.win 6).blk t).view.read (Elt Ideal) (W w) := by rw [← V2]; rfl
  refine (dats m 0 c).arrAt_eq_of_covers 23 _ (by decide +kernel) fun t _ y => ?_
  have ht : t.val < 128 := lt_of_lt_of_eq t.isLt N_0
  blk_simp
  rw [after0_23, outA_eq]
  refine Eq.trans (congrArg (MixBlock.bodyA _ _ _ _ _) (row_col y))
    (Eq.trans ?_ (b := ZA h g w (ix3 ⟨t.val / 4, by omega⟩ ⟨t.val % 4 * 512 + (y 1).val, by idx_bounds y; omega⟩ ⟨(y 2).val, (y 2).isLt⟩)) (by blk_ext [idx t]))
  rw [ZA_apply]
  refine (MixBlock.bodyA_apply _ _ _ _ _ _ _).trans ?_
  have h0 : ∀ l : Fin 1024, iblk m c 0 t (ix3 0 ⟨(y 1).val, (y 1).isLt⟩ l)
      = h (ix3 ⟨t.val / 4, by omega⟩ ⟨t.val % 4 * 512 + (y 1).val, by idx_bounds y; omega⟩ l) := by
    intro l; rw [B0]; blk_ext [idx t]
  have h1 : ∀ l : Fin 1024, iblk m c 4 t (ix2 0 l) = G g (ix2 0 l) := by
    intro l; rw [B1]; blk_ext [idx t]
  have h2 : ∀ (l : Fin 1024) (j : Fin 1536), iblk m c 6 t (ix2 l j) = W w (ix2 l j) := by
    intro l j; rw [B2]; blk_ext [idx t]
  exact proj_congr h0 (fun l => (h1 l).trans (G_apply g l)) (fun l => (h2 l _).trans (W_a w l _))

set_option maxHeartbeats 4000000 in
/-- The second array after the run. -/
theorem finalB (e0 : m ((c : Thread nD τ).loc main_arg0) = h) (e1 : m ((c : Thread nD τ).loc main_arg1) = g)
    (e2 : m ((c : Thread nD τ).loc main_arg2) = w) : (dats m 0 c).arrAt 24 (cfgs 0).N = ZB h g w := by
  have V0 : V m c main_arg0 = h := by rw [V_h, e0]
  have V1 : V m c main_v25 = G g := by rw [V_g, e1]
  have V2 : V m c main_v27 = W w := by rw [V_w, e2]
  have B0 : iblk m c 0 = fun t => ((cfg0.win 0).blk t).view.read (Elt Ideal) h := by rw [← V0]; rfl
  have B1 : iblk m c 4 = fun t => ((cfg0.win 4).blk t).view.read (Elt Ideal) (G g) := by rw [← V1]; rfl
  have B2 : iblk m c 6 = fun t => ((cfg0.win 6).blk t).view.read (Elt Ideal) (W w) := by rw [← V2]; rfl
  refine (dats m 0 c).arrAt_eq_of_covers 24 _ (by decide +kernel) fun t _ y => ?_
  have ht : t.val < 128 := lt_of_lt_of_eq t.isLt N_0
  blk_simp
  rw [after0_24, outB_eq]
  refine Eq.trans (congrArg (MixBlock.bodyB _ _ _ _ _) (row_col y))
    (Eq.trans ?_ (b := ZB h g w (ix3 ⟨t.val / 4, by omega⟩ ⟨t.val % 4 * 512 + (y 1).val, by idx_bounds y; omega⟩ ⟨(y 2).val, (y 2).isLt⟩)) (by blk_ext [idx t]))
  rw [ZB_apply]
  refine (MixBlock.bodyB_apply _ _ _ _ _ _ _).trans ?_
  have h0 : ∀ l : Fin 1024, iblk m c 0 t (ix3 0 ⟨(y 1).val, (y 1).isLt⟩ l)
      = h (ix3 ⟨t.val / 4, by omega⟩ ⟨t.val % 4 * 512 + (y 1).val, by idx_bounds y; omega⟩ l) := by
    intro l; rw [B0]; blk_ext [idx t]
  have h1 : ∀ l : Fin 1024, iblk m c 4 t (ix2 0 l) = G g (ix2 0 l) := by
    intro l; rw [B1]; blk_ext [idx t]
  have h2 : ∀ (l : Fin 1024) (j : Fin 1536), iblk m c 6 t (ix2 l j) = W w (ix2 l j) := by
    intro l j; rw [B2]; blk_ext [idx t]
  exact proj_congr h0 (fun l => (h1 l).trans (G_apply g l)) (fun l => (h2 l _).trans (W_b w l _))

variable (gk : FVec Ideal S256 .f32) (wk : FVec Ideal S256x1024 .f32)

set_option maxHeartbeats 8000000 in
/-- The values' array after the run. -/
theorem finalV (e0 : m ((c : Thread nD τ).loc main_arg0) = h) (e1 : m ((c : Thread nD τ).loc main_arg1) = g)
    (e2 : m ((c : Thread nD τ).loc main_arg2) = w) (e3 : m ((c : Thread nD τ).loc main_arg12) = gk)
    (e4 : m ((c : Thread nD τ).loc main_arg13) = wk) : (dats m 0 c).arrAt 33 (cfgs 0).N = ZV h g w gk wk := by
  have V0 : V m c main_arg0 = h := by rw [V_h, e0]
  have V1 : V m c main_v25 = G g := by rw [V_g, e1]
  have V2 : V m c main_v27 = W w := by rw [V_w, e2]
  have V3 : V m c main_v59 = K gk := by rw [V_k, e3]
  have V4 : V m c main_v61 = U wk := by rw [V_u, e4]
  have B0 : iblk m c 0 = fun t => ((cfg0.win 0).blk t).view.read (Elt Ideal) h := by rw [← V0]; rfl
  have B1 : iblk m c 4 = fun t => ((cfg0.win 4).blk t).view.read (Elt Ideal) (G g) := by rw [← V1]; rfl
  have B2 : iblk m c 6 = fun t => ((cfg0.win 6).blk t).view.read (Elt Ideal) (W w) := by rw [← V2]; rfl
  have B3 : iblk m c 16 = fun t => ((cfg0.win 16).blk t).view.read (Elt Ideal) (K gk) := by rw [← V3]; rfl
  have B4 : iblk m c 18 = fun t => ((cfg0.win 18).blk t).view.read (Elt Ideal) (U wk) := by rw [← V4]; rfl
  refine (dats m 0 c).arrAt_eq_of_covers 33 _ (by decide +kernel) fun t _ y => ?_
  have ht : t.val < 128 := lt_of_lt_of_eq t.isLt N_0
  blk_simp
  rw [after0_33, outV_eq]
  have h0 : ∀ (r : ℕ) (hr : r < 512) (l : Fin 1024), iblk m c 0 t (ix3 0 ⟨r, hr⟩ l)
      = h (ix3 ⟨t.val / 4, by omega⟩ ⟨t.val % 4 * 512 + r, by omega⟩ l) := by
    intro r hr l; rw [B0]; blk_ext [idx t]
  have h1 : ∀ l : Fin 1024, iblk m c 4 t (ix2 0 l) = G g (ix2 0 l) := by
    intro l; rw [B1]; blk_ext [idx t]
  have h2 : ∀ (l : Fin 1024) (j : Fin 1536), iblk m c 6 t (ix2 l j) = W w (ix2 l j) := by
    intro l j; rw [B2]; blk_ext [idx t]
  have h3 : ∀ l : Fin 256, iblk m c 16 t (ix2 0 l) = K gk (ix2 0 l) := by
    intro l; rw [B3]; blk_ext [idx t]
  have h4 : ∀ (l : Fin 256) (j : Fin 1024), iblk m c 18 t (ix2 l j) = U wk (ix2 l j) := by
    intro l j; rw [B4]; blk_ext [idx t]
  have val : ∀ (r : ℕ) (hr : r < 512) (a : Fin 4) (d : Fin 128) (j : Fin 1024), j.val = a.val * 256 + (128 + d.val) →
      MixBlock.bodyK (iblk m c 1 t) (iblk m c 0 t) (iblk m c 2 t) (iblk m c 4 t) (iblk m c 6 t) (iblk m c 16 t) (iblk m c 18 t) (ix2 ⟨r, hr⟩ j)
        = ZV h g w gk wk (ix4 ⟨t.val / 4, by omega⟩ a ⟨t.val % 4 * 512 + r, by omega⟩ ⟨d.val, by omega⟩) := by
    intro r hr a d j hj
    rw [ZV_value]
    refine (MixBlock.bodyK_apply _ _ _ _ _ _ _ _ _).trans (lift_congr (fun l => ?_) (fun l => (h3 l).trans (K_apply gk l))
      (fun l j => (h4 l j).trans (U_apply wk l j)) (Fin.ext hj))
    exact proj_congr (h0 r hr) (fun l => (h1 l).trans (G_apply g l)) (fun l' => (h2 l' _).trans (W_c w l' l))
  canon_tiles x h'
  case piece0 =>
    refine Eq.trans (congrArg (k0_pay1 (F := Ideal) (k0_pay114 (F := Ideal))) (row_lane x))
      (Eq.trans ?_ (b := ZV h g w gk wk (ix4 ⟨t.val / 4, by omega⟩ 3 ⟨t.val % 4 * 512 + (x 2).val, by omega⟩ ⟨128 + (x 3).val, by omega⟩)) (by blk_ext [idx t]))
    exact (MixBlock.ones3 _ _).trans (ZV_one h g w gk wk _ _ _ ⟨(x 3).val, by omega⟩).symm
  case piece1 =>
    refine Eq.trans (congrArg (k0_pay113 (F := Ideal) _) (row_lane x))
      (Eq.trans ?_ (b := ZV h g w gk wk (ix4 ⟨t.val / 4, by omega⟩ 3 ⟨t.val % 4 * 512 + (x 2).val, by omega⟩ ⟨(x 3).val, by omega⟩)) (by blk_ext [idx t]))
    exact (MixBlock.head3 _ _ _).trans (val _ (by omega) 3 ⟨(x 3).val, by omega⟩ _
      (by show 896 + (x 3).val = 3 * 256 + (128 + (x 3).val); omega))
  case piece2 =>
    refine Eq.trans (congrArg (k0_pay107 (F := Ideal)) (row_lane x))
      (Eq.trans ?_ (b := ZV h g w gk wk (ix4 ⟨t.val / 4, by omega⟩ 2 ⟨t.val % 4 * 512 + (x 2).val, by omega⟩ ⟨128 + (x 3).val, by omega⟩)) (by blk_ext [idx t]))
    exact (MixBlock.ones2 _ _).trans (ZV_one h g w gk wk _ _ _ ⟨(x 3).val, by omega⟩).symm
  case piece3 =>
    refine Eq.trans (congrArg (k0_pay106 (F := Ideal) _) (row_lane x))
      (Eq.trans ?_ (b := ZV h g w gk wk (ix4 ⟨t.val / 4, by omega⟩ 2 ⟨t.val % 4 * 512 + (x 2).val, by omega⟩ ⟨(x 3).val, by omega⟩)) (by blk_ext [idx t]))
    exact (MixBlock.head2 _ _ _).trans (val _ (by omega) 2 ⟨(x 3).val, by omega⟩ _
      (by show 640 + (x 3).val = 2 * 256 + (128 + (x 3).val); omega))
  case piece4 =>
    refine Eq.trans (congrArg (k0_pay100 (F := Ideal)) (row_lane x))
      (Eq.trans ?_ (b := ZV h g w gk wk (ix4 ⟨t.val / 4, by omega⟩ 1 ⟨t.val % 4 * 512 + (x 2).val, by omega⟩ ⟨128 + (x 3).val, by omega⟩)) (by blk_ext [idx t]))
    exact (MixBlock.ones1 _ _).trans (ZV_one h g w gk wk _ _ _ ⟨(x 3).val, by omega⟩).symm
  case piece5 =>
    refine Eq.trans (congrArg (k0_pay99 (F := Ideal) _) (row_lane x))
      (Eq.trans ?_ (b := ZV h g w gk wk (ix4 ⟨t.val / 4, by omega⟩ 1 ⟨t.val % 4 * 512 + (x 2).val, by omega⟩ ⟨(x 3).val, by omega⟩)) (by blk_ext [idx t]))
    exact (MixBlock.head1 _ _ _).trans (val _ (by omega) 1 ⟨(x 3).val, by omega⟩ _
      (by show 384 + (x 3).val = 1 * 256 + (128 + (x 3).val); omega))
  case piece6 =>
    refine Eq.trans (congrArg (k0_pay94 (F := Ideal)) (row_lane x))
      (Eq.trans ?_ (b := ZV h g w gk wk (ix4 ⟨t.val / 4, by omega⟩ 0 ⟨t.val % 4 * 512 + (x 2).val, by omega⟩ ⟨128 + (x 3).val, by omega⟩)) (by blk_ext [idx t]))
    exact (MixBlock.ones0 _ _).trans (ZV_one h g w gk wk _ _ _ ⟨(x 3).val, by omega⟩).symm
  case piece7 =>
    refine Eq.trans (congrArg (k0_pay93 (F := Ideal) (k0_pay92 _)) (row_lane x))
      (Eq.trans ?_ (b := ZV h g w gk wk (ix4 ⟨t.val / 4, by omega⟩ 0 ⟨t.val % 4 * 512 + (x 2).val, by omega⟩ ⟨(x 3).val, by omega⟩)) (by blk_ext [idx t]))
    exact (MixBlock.head0 _ _ _).trans (val _ (by omega) 0 ⟨(x 3).val, by omega⟩ _
      (by show 128 + (x 3).val = 0 * 256 + (128 + (x 3).val); omega))
end

end Cert.MixArray

end
-- ==== Proof.MixClaim.lean ====
/-
  The claims about the input call: the programs run and keep their arguments, and the kernel's gating columns and values
  are the reference's, whatever the arrays.
-/
module

public import proofs.«01_k».proof.Proof.MixArray
public import proofs.«01_k».proof.Proof.Gen.Mix
public import Idealize.ShloMosaic.Lib.Claim
public import proofs.«01_k».proof.Defs

@[expose] public section

noncomputable section

namespace Cert.MixClaim

open Idealize.ShloMosaic Idealize.SL.Sem

/-- The program and its reading over the extended reals have the same text, so one run serves both. -/
theorem frame : Cert.quiescent_Mix := by
  have h := fun m ρ (_ : True) => Cert.MixIdeal.Gen.frame (F := Bits) m ρ
  refine cast ?_ h
  sl_kernel_rfl

theorem frame_ideal : Cert.quiescent_MixIdeal := fun m ρ _ => Cert.MixIdeal.Gen.frame m ρ

theorem frame_reference : Cert.quiescent_MixReferenceIdeal := by
  intro m g _
  refine (θ_run Cert.MixReferenceIdeal.defs _ _).mono (fun r h => ⟨fun c => (h c).2.2.2, ?_⟩) (Cert.MixRef.run m g)
  exact sem_eq_zero_of_no_sems (by decide) r.2

theorem algebraic : Cert.algebraic_MixIdeal_MixReferenceIdeal := by
  pair_intro
  · run_from Cert.MixIdeal.Gen.run_gates m g
  · run_from Cert.MixRef.run m' g'
    · exact (Cert.MixArray.finalA m c _ _ _ rfl rfl rfl).symm
    · exact (Cert.MixArray.finalB m c _ _ _ rfl rfl rfl).symm
    · exact (Cert.MixArray.finalV m c _ _ _ _ _ rfl rfl rfl rfl rfl).symm

end Cert.MixClaim

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_scores
public import proofs.«01_k».proof.Proof.AttnClaim
public import proofs.«01_k».proof.Proof.FfnClaim
public import proofs.«01_k».proof.Proof.LastClaim
public import proofs.«01_k».proof.Proof.MergeClaim
public import proofs.«01_k».proof.Proof.TailClaim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastReferenceIdeal
public import proofs.«01_k».proof.Proof.Gen.LastReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailReferenceIdeal
public import proofs.«01_k».proof.Proof.Gen.TailReferenceIdeal.Run
public import proofs.«01_k».proof.Proof.Gen.Pre_finite_tail
public import proofs.«01_k».proof.Proof.Gen.Pre_finite_hidden
public import proofs.«01_k».proof.Proof.Gen.Pre_finite_gates
public import proofs.«01_k».proof.Proof.MixClaim
public import proofs.«01_k».proof.Proof.Gen.Mix
public import proofs.«01_k».proof.Proof.Gen.MixIdeal
public import proofs.«01_k».proof.Proof.Gen.MixReferenceIdeal
public import proofs.«01_k».proof.Proof.Gen.MixReferenceIdeal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Last.Gen.facts, Cert.LastIdeal.Gen.facts, Cert.LastReferenceIdeal.Gen.facts,
    Cert.Merge.Gen.facts, Cert.MergeIdeal.Gen.facts, Cert.MergeReferenceIdeal.Gen.facts,
    Cert.Tail.Gen.facts, Cert.TailIdeal.Gen.facts, Cert.TailReferenceIdeal.Gen.facts,
    Cert.Mix.Gen.facts, Cert.MixIdeal.Gen.facts, Cert.MixReferenceIdeal.Gen.facts,
    Cert.Pre_finite_scores.Gen.facts, Cert.Pre_finite_hidden.Gen.facts, Cert.Pre_finite_gates.Gen.facts, Cert.Pre_finite_tail.Gen.facts,
    AttnClaim.frame, AttnClaim.frame_ideal, AttnClaim.frame_ideal_pre, AttnClaim.frame_reference, AttnClaim.frame_reference_pre,
    FfnClaim.frame, FfnClaim.frame_ideal, FfnClaim.frame_ideal_pre, FfnClaim.frame_reference, FfnClaim.frame_reference_pre,
    LastClaim.frame, LastClaim.frame_ideal, LastClaim.frame_ideal_pre, LastClaim.frame_reference, LastClaim.frame_reference_pre,
    MergeClaim.frame, MergeClaim.frame_ideal, MergeClaim.frame_ideal_pre, MergeClaim.frame_reference, MergeClaim.frame_reference_pre,
    TailClaim.frame, TailClaim.frame_ideal, TailClaim.frame_ideal_pre, TailClaim.frame_reference, TailClaim.frame_reference_pre,
    MixClaim.frame, MixClaim.frame_ideal, MixClaim.frame_reference,
    trivial, AttnClaim.algebraic, trivial, FfnClaim.algebraic, trivial, LastClaim.algebraic, trivial, MergeClaim.algebraic, trivial, TailClaim.algebraic,
    trivial, MixClaim.algebraic⟩

end Cert.Proof

end
